-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)) (v8 : (c : Dev Cert.Kernel2Ideal.nD) → Buf (Elt Ideal) ((c.tc : Thread Cert.Kernel2Ideal.nD Cert.Kernel2Ideal.τ).loc Cert.Kernel2Ideal.main_v20_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_v20_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v134) = v0 c
          ∧ r.2.mem ((c.tc : Thread Cert.Reference2Ideal.nD Cert.Reference2Ideal.τ).loc Cert.Reference2Ideal.main_v135) = v1 c
          ∧ r.2.mem ((c.tc : Thread Cert.Reference2Ideal.nD Cert.Reference2Ideal.τ).loc Cert.Reference2Ideal.main_v136) = v2 c
          ∧ r.2.mem ((c.tc : Thread Cert.Reference2Ideal.nD Cert.Reference2Ideal.τ).loc Cert.Reference2Ideal.main_v137) = v3 c
          ∧ r.2.mem ((c.tc : Thread Cert.Reference2Ideal.nD Cert.Reference2Ideal.τ).loc Cert.Reference2Ideal.main_v138) = v4 c
          ∧ r.2.mem ((c.tc : Thread Cert.Reference2Ideal.nD Cert.Reference2Ideal.τ).loc Cert.Reference2Ideal.main_v139) = v5 c
          ∧ r.2.mem ((c.tc : Thread Cert.Reference2Ideal.nD Cert.Reference2Ideal.τ).loc Cert.Reference2Ideal.main_v141) = v6 c
          ∧ r.2.mem ((c.tc : Thread Cert.Reference2Ideal.nD Cert.Reference2Ideal.τ).loc Cert.Reference2Ideal.main_v26) = v7 c
          ∧ r.2.mem ((c.tc : Thread Cert.Reference2Ideal.nD Cert.Reference2Ideal.τ).loc Cert.Reference2Ideal.main_v106) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x512 : Shape := ⟨3, ![4, 4096, 512]⟩
abbrev S4x4096x1024 : Shape := ⟨3, ![4, 4096, 1024]⟩
abbrev S4x4x128x256 : Shape := ⟨4, ![4, 4, 128, 256]⟩
abbrev S1x1024x512 : Shape := ⟨3, ![1, 1024, 512]⟩
abbrev S1x1024x1024 : Shape := ⟨3, ![1, 1024, 1024]⟩
abbrev S1x4x128x256 : Shape := ⟨4, ![1, 4, 128, 256]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S512x64 : Shape := ⟨2, ![512, 64]⟩
abbrev S8x512 : Shape := ⟨2, ![8, 512]⟩
abbrev S512x8 : Shape := ⟨2, ![512, 8]⟩
abbrev S64x128 : Shape := ⟨2, ![64, 128]⟩
abbrev S128x64 : Shape := ⟨2, ![128, 64]⟩
abbrev S1x64x256 : Shape := ⟨3, ![1, 64, 256]⟩
abbrev S64x256 : Shape := ⟨2, ![64, 256]⟩
abbrev S128x256 : Shape := ⟨2, ![128, 256]⟩
abbrev S1x1x128x256 : Shape := ⟨4, ![1, 1, 128, 256]⟩
abbrev S128x1 : Shape := ⟨2, ![128, 1]⟩

abbrev nBuf : Space → Nat
  | .hbm => 10
  | .vmem => 28
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .bf16⟩
  | .hbm, ⟨3, _⟩ => ⟨S4x4096x1024, .f32⟩
  | .hbm, ⟨4, _⟩ => ⟨S4x4x128x256, .f32⟩
  | .hbm, ⟨5, _⟩ => ⟨S4x4x128x256, .f32⟩
  | .hbm, ⟨6, _⟩ => ⟨S4x4096x1024, .bf16⟩
  | .hbm, ⟨7, _⟩ => ⟨S4x4096x1024, .bf16⟩
  | .hbm, ⟨8, _⟩ => ⟨S4x4x128x256, .f32⟩
  | .hbm, ⟨9, _⟩ => ⟨S4x4x128x256, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x4x128x256, .f32⟩
  | .local _ .vmem, ⟨17, _⟩ => ⟨S1x4x128x256, .f32⟩
  | .local _ .vmem, ⟨18, _⟩ => ⟨S1x4x128x256, .f32⟩
  | .local _ .vmem, ⟨19, _⟩ => ⟨S1x4x128x256, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x4x128x256, .f32⟩
  | .local _ .vmem, ⟨25, _⟩ => ⟨S1x4x128x256, .f32⟩
  | .local _ .vmem, ⟨26, _⟩ => ⟨S1x4x128x256, .f32⟩
  | .local _ .vmem, ⟨27, _⟩ => ⟨S1x4x128x256, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let c0_i32 : BitVec 32 := 0#32
  ![arg0.toNat, v0.toNat, c1_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x4096x512 : Shape := ⟨3, ![4, 4096, 512]⟩
abbrev S4x4096x1024 : Shape := ⟨3, ![4, 4096, 1024]⟩
abbrev S4x4x128x256 : Shape := ⟨4, ![4, 4, 128, 256]⟩
abbrev S_ : Shape := ⟨0, ![]⟩
abbrev S64x64 : Shape := ⟨2, ![64, 64]⟩
abbrev S8x4x128x256 : Shape := ⟨4, ![8, 4, 128, 256]⟩
abbrev S8x4096x512 : Shape := ⟨3, ![8, 4096, 512]⟩
abbrev S8x64x64x4x128 : Shape := ⟨5, ![8, 64, 64, 4, 128]⟩
abbrev S64x8x64x4x128 : Shape := ⟨5, ![64, 8, 64, 4, 128]⟩
abbrev S8x4096x1024 : Shape := ⟨3, ![8, 4096, 1024]⟩
abbrev S8x64x64x4x256 : Shape := ⟨5, ![8, 64, 64, 4, 256]⟩
abbrev S64x8x64x4x256 : Shape := ⟨5, ![64, 8, 64, 4, 256]⟩
abbrev S1x8x64x4x128 : Shape := ⟨5, ![1, 8, 64, 4, 128]⟩
abbrev S8x64x4x128 : Shape := ⟨4, ![8, 64, 4, 128]⟩
abbrev S1x8x64x4x256 : Shape := ⟨5, ![1, 8, 64, 4, 256]⟩
abbrev S8x64x4x256 : Shape := ⟨4, ![8, 64, 4, 256]⟩
abbrev S8x1x4x128 : Shape := ⟨4, ![8, 1, 4, 128]⟩
abbrev S8x4x64x64 : Shape := ⟨4, ![8, 4, 64, 64]⟩
abbrev S8x4x256x64 : Shape := ⟨4, ![8, 4, 256, 64]⟩
abbrev S8x4x128 : Shape := ⟨3, ![8, 4, 128]⟩
abbrev S8x4x128x1 : Shape := ⟨4, ![8, 4, 128, 1]⟩

abbrev nBuf : Space → Nat
  | .hbm => 118
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .bf16⟩
  | .hbm, ⟨3, _⟩ => ⟨S4x4096x1024, .f32⟩
  | .hbm, ⟨4, _⟩ => ⟨S4x4x128x256, .f32⟩
  | .hbm, ⟨5, _⟩ => ⟨S4x4x128x256, .f32⟩
  | .hbm, ⟨6, _⟩ => ⟨S4x4096x1024, .f32⟩
  | .hbm, ⟨7, _⟩ => ⟨S_, .i1⟩
  | .hbm, ⟨8, _⟩ => ⟨S64x64, .i1⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S_, .i1⟩
  | .hbm, ⟨16, _⟩ => ⟨S64x64, .i1⟩
  | .hbm, ⟨17, _⟩ => ⟨S64x64, .i1⟩
  | .hbm, ⟨18, _⟩ => ⟨S8x4x128x256, .f32⟩
  | .hbm, ⟨19, _⟩ => ⟨S4x4096x512, .f32⟩
  | .hbm, ⟨20, _⟩ => ⟨S8x4096x512, .f32⟩
  | .hbm, ⟨21, _⟩ => ⟨S8x64x64x4x128, .f32⟩
  | .hbm, ⟨22, _⟩ => ⟨S64x8x64x4x128, .f32⟩
  | .hbm, ⟨23, _⟩ => ⟨S4x4096x512, .f32⟩
  | .hbm, ⟨24, _⟩ => ⟨S8x4096x512, .f32⟩
  | .hbm, ⟨25, _⟩ => ⟨S8x64x64x4x128, .f32⟩
  | .hbm, ⟨26, _⟩ => ⟨S64x8x64x4x128, .f32⟩
  | .hbm, ⟨27, _⟩ => ⟨S4x4096x1024, .f32⟩
  | .hbm, ⟨28, _⟩ => ⟨S8x4096x1024, .f32⟩
  | .hbm, ⟨29, _⟩ => ⟨S8x64x64x4x256, .f32⟩
  | .hbm, ⟨30, _⟩ => ⟨S64x8x64x4x256, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S8x4096x512, .f32⟩
  | .hbm, ⟨35, _⟩ => ⟨S8x64x64x4x128, .f32⟩
  | .hbm, ⟨36, _⟩ => ⟨S64x8x64x4x128, .f32⟩
  | .hbm, ⟨37, _⟩ => ⟨S_, .f32⟩
  | .hbm, ⟨38, _⟩ => ⟨S64x8x64x4x256, .f32⟩
  | .hbm, ⟨39, _⟩ => ⟨S_, .i32⟩
  | .hbm, ⟨40, _⟩ => ⟨S64x8x64x4x128, .f32⟩
  | .hbm, ⟨41, _⟩ => ⟨S64x8x64x4x128, .f32⟩
  | .hbm, ⟨42, _⟩ => ⟨S64x8x64x4x256, .f32⟩
  | .hbm, ⟨43, _⟩ => ⟨S64x8x64x4x128, .f32⟩
  | .hbm, ⟨44, _⟩ => ⟨S64x64, .i1⟩
  | .hbm, ⟨45, _⟩ => ⟨S_, .i32⟩
  | .hbm, ⟨46, _⟩ => ⟨S8x4x128x256, .f32⟩
  | .hbm, ⟨47, _⟩ => ⟨S64x8x64x4x256, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x8x64x4x128, .f32⟩
  | .hbm, ⟨55, _⟩ => ⟨S8x64x4x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x8x64x4x128, .f32⟩
  | .hbm, ⟨61, _⟩ => ⟨S8x64x4x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x8x64x4x256, .f32⟩
  | .hbm, ⟨67, _⟩ => ⟨S8x64x4x256, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x8x64x4x128, .f32⟩
  | .hbm, ⟨73, _⟩ => ⟨S8x64x4x128, .f32⟩
  | .hbm, ⟨74, _⟩ => ⟨S8x1x4x128, .f32⟩
  | .hbm, ⟨75, _⟩ => ⟨S8x64x4x128, .f32⟩
  | .hbm, ⟨76, _⟩ => ⟨S8x64x4x128, .f32⟩
  | .hbm, ⟨77, _⟩ => ⟨S8x64x4x128, .f32⟩
  | .hbm, ⟨78, _⟩ => ⟨S8x64x4x128, .f32⟩
  | .hbm, ⟨79, _⟩ => ⟨S8x64x4x128, .f32⟩
  | .hbm, ⟨80, _⟩ => ⟨S8x64x4x128, .f32⟩
  | .hbm, ⟨81, _⟩ => ⟨S8x64x4x128, .f32⟩
  | .hbm, ⟨82, _⟩ => ⟨S8x64x4x128, .f32⟩
  | .hbm, ⟨83, _⟩ => ⟨S8x64x4x128, .f32⟩
  | .hbm, ⟨84, _⟩ => ⟨S8x4x64x64, .f32⟩
  | .hbm, ⟨85, _⟩ => ⟨S_, .f32⟩
  | .hbm, ⟨86, _⟩ => ⟨S_, .f32⟩
  | .hbm, ⟨87, _⟩ => ⟨S8x4x64x64, .i1⟩
  | .hbm, ⟨88, _⟩ => ⟨S8x4x64x64, .f32⟩
  | .hbm, ⟨89, _⟩ => ⟨S8x4x64x64, .f32⟩
  | .hbm, ⟨90, _⟩ => ⟨S8x4x256x64, .f32⟩
  | .hbm, ⟨91, _⟩ => ⟨S8x64x4x256, .f32⟩
  | .hbm, ⟨92, _⟩ => ⟨S8x4x256x64, .f32⟩
  | .hbm, ⟨93, _⟩ => ⟨S8x64x4x256, .f32⟩
  | .hbm, ⟨94, _⟩ => ⟨S8x4x128, .f32⟩
  | .hbm, ⟨95, _⟩ => ⟨S8x4x128, .f32⟩
  | .hbm, ⟨96, _⟩ => ⟨S8x4x128x1, .f32⟩
  | .hbm, ⟨97, _⟩ => ⟨S8x4x128x256, .f32⟩
  | .hbm, ⟨98, _⟩ => ⟨S8x4x128x256, .f32⟩
  | .hbm, ⟨99, _⟩ => ⟨S8x4x128x256, .f32⟩
  | .hbm, ⟨100, _⟩ => ⟨S8x4x128x256, .f32⟩
  | .hbm, ⟨101, _⟩ => ⟨S8x64x4x256, .f32⟩
  | .hbm, ⟨102, _⟩ => ⟨S1x8x64x4x256, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S64x8x64x4x256, .f32⟩
  | .hbm, ⟨108, _⟩ => ⟨S_, .i32⟩
  | .hbm, ⟨109, _⟩ => ⟨S_, .i32⟩
  | .hbm, ⟨110, _⟩ => ⟨S8x64x64x4x256, .f32⟩
  | .hbm, ⟨111, _⟩ => ⟨S8x4096x1024, .f32⟩
  | .hbm, ⟨112, _⟩ => ⟨S8x4096x1024, .bf16⟩
  | .hbm, ⟨113, _⟩ => ⟨S4x4096x1024, .bf16⟩
  | .hbm, ⟨114, _⟩ => ⟨S4x4096x1024, .bf16⟩
  | .hbm, ⟨115, _⟩ => ⟨S4x4096x1024, .bf16⟩
  | .hbm, ⟨116, _⟩ => ⟨S4x4x128x256, .f32⟩
  | .hbm, ⟨117, _⟩ => ⟨S4x4x128x256, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_c_0 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev main_v23_5 : Ref sig .tc := ⟨.hbm, 45, rfl⟩
abbrev main_v23_6 : Ref sig .tc := ⟨.hbm, 46, rfl⟩
abbrev main_v23_7 : Ref sig .tc := ⟨.hbm, 47, rfl⟩
abbrev main_while0c_c_8 : Ref sig .tc := ⟨.hbm, 48, rfl⟩
abbrev main_while0c_v32 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_c_2 : Ref sig .tc := ⟨.hbm, 53, rfl⟩
abbrev main_while0b_call1_v0 : Ref sig .tc := ⟨.hbm, 54, rfl⟩
abbrev main_while0b_v32 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_c_2 : Ref sig .tc := ⟨.hbm, 59, rfl⟩
abbrev main_while0b_call2_v0 : Ref sig .tc := ⟨.hbm, 60, rfl⟩
abbrev main_while0b_v33 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_c_2 : Ref sig .tc := ⟨.hbm, 65, rfl⟩
abbrev main_while0b_call3_v0 : Ref sig .tc := ⟨.hbm, 66, rfl⟩
abbrev main_while0b_v34 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_c_2 : Ref sig .tc := ⟨.hbm, 71, rfl⟩
abbrev main_while0b_call4_v0 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_cst_8 : Ref sig .tc := ⟨.hbm, 85, rfl⟩
abbrev main_while0b_call5_v0 : Ref sig .tc := ⟨.hbm, 86, rfl⟩
abbrev main_while0b_call5_v1 : Ref sig .tc := ⟨.hbm, 87, rfl⟩
abbrev main_while0b_call5_v2 : Ref sig .tc := ⟨.hbm, 88, rfl⟩
abbrev main_while0b_v47 : Ref sig .tc := ⟨.hbm, 89, rfl⟩
abbrev main_while0b_v48 : Ref sig .tc := ⟨.hbm, 90, rfl⟩
abbrev main_while0b_v49 : Ref sig .tc := ⟨.hbm, 91, rfl⟩
abbrev main_while0b_v50 : Ref sig .tc := ⟨.hbm, 92, rfl⟩
abbrev main_while0b_v51 : Ref sig .tc := ⟨.hbm, 93, rfl⟩
abbrev main_while0b_v52 : Ref sig .tc := ⟨.hbm, 94, rfl⟩
abbrev main_while0b_v53 : Ref sig .tc := ⟨.hbm, 95, rfl⟩
abbrev main_while0b_v54 : Ref sig .tc := ⟨.hbm, 96, rfl⟩
abbrev main_while0b_v55 : Ref sig .tc := ⟨.hbm, 97, rfl⟩
abbrev main_while0b_v56 : Ref sig .tc := ⟨.hbm, 98, rfl⟩
abbrev main_while0b_v57 : Ref sig .tc := ⟨.hbm, 99, rfl⟩
abbrev main_while0b_v58 : Ref sig .tc := ⟨.hbm, 100, rfl⟩
abbrev main_while0b_v59 : Ref sig .tc := ⟨.hbm, 101, rfl⟩
abbrev main_while0b_call6_v0 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_c_2 : Ref sig .tc := ⟨.hbm, 106, rfl⟩
abbrev main_while0b_v60 : Ref sig .tc := ⟨.hbm, 107, rfl⟩
abbrev main_while0b_c_9 : Ref sig .tc := ⟨.hbm, 108, rfl⟩
abbrev main_while0b_v61 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S4x1x1024 : Shape := ⟨3, ![4, 1, 1024]⟩
abbrev S1024 : Shape := ⟨1, ![1024]⟩
abbrev S1024x7200 : Shape := ⟨2, ![1024, 7200]⟩
abbrev S2x16x512 : Shape := ⟨3, ![2, 16, 512]⟩
abbrev S2x512 : Shape := ⟨2, ![2, 512]⟩
abbrev S_ : Shape := ⟨0, ![]⟩
abbrev S1024x7296 : Shape := ⟨2, ![1024, 7296]⟩
abbrev S128x1024 : Shape := ⟨2, ![128, 1024]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S1x1024 : Shape := ⟨2, ![1, 1024]⟩
abbrev S4x4096x512 : Shape := ⟨3, ![4, 4096, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S1024x1024 : Shape := ⟨2, ![1024, 1024]⟩
abbrev S64x512 : Shape := ⟨2, ![64, 512]⟩
abbrev S8x512 : Shape := ⟨2, ![8, 512]⟩
abbrev S1x512 : Shape := ⟨2, ![1, 512]⟩
abbrev S1x64x512 : Shape := ⟨3, ![1, 64, 512]⟩

abbrev nBuf : Space → Nat
  | .hbm => 45
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x7200, .f32⟩
  | .hbm, ⟨5, _⟩ => ⟨S1024, .f32⟩
  | .hbm, ⟨6, _⟩ => ⟨S1024, .f32⟩
  | .hbm, ⟨7, _⟩ => ⟨S2x16x512, .f32⟩
  | .hbm, ⟨8, _⟩ => ⟨S2x512, .f32⟩
  | .hbm, ⟨9, _⟩ => ⟨S1024x7200, .bf16⟩
  | .hbm, ⟨10, _⟩ => ⟨S_, .i32⟩
  | .hbm, ⟨11, _⟩ => ⟨S_, .bf16⟩
  | .hbm, ⟨12, _⟩ => ⟨S1024x7296, .bf16⟩
  | .hbm, ⟨13, _⟩ => ⟨S_, .f32⟩
  | .hbm, ⟨14, _⟩ => ⟨S128x1024, .f32⟩
  | .hbm, ⟨15, _⟩ => ⟨S1x16x512, .f32⟩
  | .hbm, ⟨16, _⟩ => ⟨S16x512, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S128x1024, .f32⟩
  | .hbm, ⟨23, _⟩ => ⟨S1x16x512, .f32⟩
  | .hbm, ⟨24, _⟩ => ⟨S16x512, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x1024, .f32⟩
  | .hbm, ⟨31, _⟩ => ⟨S128x1024, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S4x4096x1024, .bf16⟩
  | .hbm, ⟨37, _⟩ => ⟨S4x4096x1024, .bf16⟩
  | .hbm, ⟨38, _⟩ => ⟨S4x4096x1024, .bf16⟩
  | .hbm, ⟨39, _⟩ => ⟨S4x4096x1024, .bf16⟩
  | .hbm, ⟨40, _⟩ => ⟨S4x4096x1024, .bf16⟩
  | .hbm, ⟨41, _⟩ => ⟨S4x4096x1024, .bf16⟩
  | .hbm, ⟨42, _⟩ => ⟨S4x4096x512, .f32⟩
  | .hbm, ⟨43, _⟩ => ⟨S4x4096x512, .f32⟩
  | .hbm, ⟨44, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x7296, .bf16⟩
  | .local _ .vmem, ⟨8, _⟩ => ⟨S128x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x1024, .f32⟩
  | .local _ .vmem, ⟨29, _⟩ => ⟨S1x512x1024, .f32⟩
  | .local _ .vmem, ⟨30, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev main_v20_4 : Ref sig .tc := ⟨.hbm, 40, rfl⟩
abbrev main_v20_5 : Ref sig .tc := ⟨.hbm, 41, rfl⟩
abbrev main_v20_6 : Ref sig .tc := ⟨.hbm, 42, rfl⟩
abbrev main_v20_7 : Ref sig .tc := ⟨.hbm, 43, rfl⟩
abbrev main_v20_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x7296 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1024 : Shape := ⟨1, ![1024]⟩
abbrev S1024x7200 : Shape := ⟨2, ![1024, 7200]⟩
abbrev S2x16x512 : Shape := ⟨3, ![2, 16, 512]⟩
abbrev S2x512 : Shape := ⟨2, ![2, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7200 : Shape := ⟨3, ![4, 4096, 7200]⟩
abbrev S4x4096x512 : Shape := ⟨3, ![4, 4096, 512]⟩
abbrev S4x4096x32 : Shape := ⟨3, ![4, 4096, 32]⟩
abbrev S4x4096x16 : Shape := ⟨3, ![4, 4096, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S4x64x64x512 : Shape := ⟨4, ![4, 64, 64, 512]⟩
abbrev S4x64x64x1024 : Shape := ⟨4, ![4, 64, 64, 1024]⟩

abbrev nBuf : Space → Nat
  | .hbm => 183
  | .vmem => 0
  | .smem => 0
  | _ => 0

abbrev hbmTy0_0 (i : Nat) : BufTy := match i % 128 with
  | 0 => ⟨S4x4096x1024, .f32⟩
  | 1 => ⟨S4x1x1024, .f32⟩
  | 2 => ⟨S4x1x1024, .f32⟩
  | 3 => ⟨S1024, .f32⟩
  | 4 => ⟨S1024x7200, .f32⟩
  | 5 => ⟨S1024, .f32⟩
  | 6 => ⟨S1024, .f32⟩
  | 7 => ⟨S2x16x512, .f32⟩
  | 8 => ⟨S2x512, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S_, .f32⟩
  | 26 => ⟨S4x1x1024, .f32⟩
  | 27 => ⟨S4x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x7200, .f32⟩
  | 33 => ⟨S4x4096x1024, .f32⟩
  | 34 => ⟨S4x4096x1024, .f32⟩
  | 35 => ⟨S4x4096x512, .f32⟩
  | 36 => ⟨S4x4096x1024, .f32⟩
  | 37 => ⟨S4x4096x1024, .f32⟩
  | 38 => ⟨S4x4096x1024, .f32⟩
  | 39 => ⟨S4x4096x512, .f32⟩
  | 40 => ⟨S4x4096x1024, .f32⟩
  | 41 => ⟨S4x4096x32, .f32⟩
  | 42 => ⟨S_, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S4x4096x1024, .f32⟩
  | 53 => ⟨S_, .f32⟩
  | 54 => ⟨S4x4096, .f32⟩
  | 55 => ⟨S4x4096x1, .f32⟩
  | 56 => ⟨S_, .f32⟩
  | 57 => ⟨S4x4096x1, .f32⟩
  | 58 => ⟨S4x4096x1, .f32⟩
  | 59 => ⟨S4x4096x1024, .f32⟩
  | 60 => ⟨S4x4096x1024, .f32⟩
  | 61 => ⟨S4x4096x1024, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S_, .f32⟩
  | 69 => ⟨S4x4096x1, .f32⟩
  | 70 => ⟨S4x4096x1, .f32⟩
  | 71 => ⟨S4x4096x1, .f32⟩
  | 72 => ⟨S4x4096x1024, .f32⟩
  | 73 => ⟨S4x4096x1024, .f32⟩
  | 74 => ⟨S1x1x1024, .f32⟩
  | 75 => ⟨S4x4096x1024, .f32⟩
  | 76 => ⟨S4x4096x1024, .f32⟩
  | 77 => ⟨S1x1x1024, .f32⟩
  | 78 => ⟨S4x4096x1024, .f32⟩
  | 79 => ⟨S4x4096x1024, .f32⟩
  | 80 => ⟨S4x4096x16, .f32⟩
  | 81 => ⟨S1x16x512, .f32⟩
  | 82 => ⟨S16x512, .f32⟩
  | 83 => ⟨S1x512, .f32⟩
  | 84 => ⟨S512, .f32⟩
  | 85 => ⟨S4x4096x512, .f32⟩
  | 86 => ⟨S1x1x512, .f32⟩
  | 87 => ⟨S4x4096x512, .f32⟩
  | 88 => ⟨S4x4096x512, .f32⟩
  | 89 => ⟨S_, .f32⟩
  | 90 => ⟨S4x4096x512, .f32⟩
  | 91 => ⟨S4x4096x512, .f32⟩
  | 92 => ⟨S4x4096x512, .f32⟩
  | 93 => ⟨S4x4096x512, .f32⟩
  | 94 => ⟨S4x4096x512, .f32⟩
  | 95 => ⟨S_, .f32⟩
  | 96 => ⟨S4x4096x512, .f32⟩
  | 97 => ⟨S4x4096x512, .f32⟩
  | 98 => ⟨S4x4096x512, .f32⟩
  | 99 => ⟨S4x4096x512, .f32⟩
  | 100 => ⟨S_, .f32⟩
  | 101 => ⟨S4x4096x512, .f32⟩
  | 102 => ⟨S4x4096x512, .f32⟩
  | 103 => ⟨S4x64x64x512, .f32⟩
  | 104 => ⟨S_, .f32⟩
  | 105 => ⟨S_, .f32⟩
  | 106 => ⟨S4x64x64x512, .f32⟩
  | 107 => ⟨S4x4096x16, .f32⟩
  | 108 => ⟨S1x16x512, .f32⟩
  | 109 => ⟨S16x512, .f32⟩
  | 110 => ⟨S1x512, .f32⟩
  | 111 => ⟨S512, .f32⟩
  | 112 => ⟨S4x4096x512, .f32⟩
  | 113 => ⟨S1x1x512, .f32⟩
  | 114 => ⟨S4x4096x512, .f32⟩
  | 115 => ⟨S4x4096x512, .f32⟩
  | 116 => ⟨S_, .f32⟩
  | 117 => ⟨S4x4096x512, .f32⟩
  | 118 => ⟨S4x4096x512, .f32⟩
  | 119 => ⟨S4x4096x512, .f32⟩
  | 120 => ⟨S4x4096x512, .f32⟩
  | 121 => ⟨S4x4096x512, .f32⟩
  | 122 => ⟨S_, .f32⟩
  | 123 => ⟨S4x4096x512, .f32⟩
  | 124 => ⟨S4x4096x512, .f32⟩
  | 125 => ⟨S4x4096x512, .f32⟩
  | 126 => ⟨S4x4096x512, .f32⟩
  | 127 => ⟨S_, .f32⟩
  | _ => ⟨S4x4096x1024, .f32⟩

abbrev hbmTy0_1 (i : Nat) : BufTy := match i % 128 with
  | 0 => ⟨S4x4096x512, .f32⟩
  | 1 => ⟨S4x4096x512, .f32⟩
  | 2 => ⟨S4x64x64x512, .f32⟩
  | 3 => ⟨S4x64x64x512, .f32⟩
  | 4 => ⟨S_, .f32⟩
  | 5 => ⟨S_, .f32⟩
  | 6 => ⟨S4x64x64x512, .f32⟩
  | 7 => ⟨S4x64x64x512, .f32⟩
  | 8 => ⟨S4x64x64x1024, .f32⟩
  | 9 => ⟨S4x4096x1024, .f32⟩
  | 10 => ⟨S_, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S_, .f32⟩
  | 24 => ⟨S4x4096x1024, .f32⟩
  | 25 => ⟨S4x4096x1024, .f32⟩
  | 26 => ⟨S_, .f32⟩
  | 27 => ⟨S4x4096x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S_, .f32⟩
  | 33 => ⟨S4x4096x1024, .f32⟩
  | 34 => ⟨S4x4096x1024, .f32⟩
  | 35 => ⟨S_, .f32⟩
  | 36 => ⟨S4x4096x1024, .f32⟩
  | 37 => ⟨S4x4096x1024, .f32⟩
  | 38 => ⟨S4x4096x1024, .f32⟩
  | 39 => ⟨S4x4096x1024, .f32⟩
  | 40 => ⟨S_, .f32⟩
  | 41 => ⟨S4x4096x1024, .f32⟩
  | 42 => ⟨S4x4096x1024, .f32⟩
  | 43 => ⟨S_, .f32⟩
  | 44 => ⟨S4x4096x1024, .f32⟩
  | 45 => ⟨S4x4096x1024, .f32⟩
  | 46 => ⟨S4x4096x1024, .bf16⟩
  | 47 => ⟨S4x4096x1024, .bf16⟩
  | 48 => ⟨S4x4096x1024, .bf16⟩
  | 49 => ⟨S4x4096x1024, .bf16⟩
  | 50 => ⟨S4x4096x1024, .bf16⟩
  | 51 => ⟨S4x4096x1024, .bf16⟩
  | 52 => ⟨S_, .f32⟩
  | 53 => ⟨S4x4096x512, .f32⟩
  | 54 => ⟨S4x4096x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_call0_call0_cst : Ref sig .tc := ⟨.hbm, 104, rfl⟩
abbrev main_call0_call0_v0 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_16 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call1_call0_cst : Ref sig .tc := ⟨.hbm, 132, rfl⟩
abbrev main_call1_call0_v0 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_17 : Ref sig .tc := ⟨.hbm, 138, rfl⟩
abbrev main_v107 : Ref sig .tc := ⟨.hbm, 139, rfl⟩
abbrev main_v108 : Ref sig .tc := ⟨.hbm, 140, rfl⟩
abbrev main_cst_18 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_19 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_20 : Ref sig .tc := ⟨.hbm, 151, rfl⟩
abbrev main_v117 : Ref sig .tc := ⟨.hbm, 152, rfl⟩
abbrev main_v118 : Ref sig .tc := ⟨.hbm, 153, rfl⟩
abbrev main_cst_21 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_22 : Ref sig .tc := ⟨.hbm, 160, rfl⟩
abbrev main_v124 : Ref sig .tc := ⟨.hbm, 161, rfl⟩
abbrev main_v125 : Ref sig .tc := ⟨.hbm, 162, rfl⟩
abbrev main_cst_23 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_24 : Ref sig .tc := ⟨.hbm, 168, rfl⟩
abbrev main_v130 : Ref sig .tc := ⟨.hbm, 169, rfl⟩
abbrev main_v131 : Ref sig .tc := ⟨.hbm, 170, rfl⟩
abbrev main_cst_25 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_26 : Ref sig .tc := ⟨.hbm, 180, rfl⟩
abbrev main_v140 : Ref sig .tc := ⟨.hbm, 181, rfl⟩
abbrev main_v141 : Ref sig .tc := ⟨.hbm, 182, rfl⟩

abbrev nD : Nat := 1
abbrev τ : Topo := Topo.v7x

variable {F : FTy → Type} [FloatOps F]
-- ==== Kernel3.lean ====
abbrev S4x4096x1024 : Shape := ⟨3, ![4, 4096, 1024]⟩
abbrev S8x128x128 : Shape := ⟨3, ![8, 128, 128]⟩
abbrev S8x128 : Shape := ⟨2, ![8, 128]⟩
abbrev S1024 : Shape := ⟨1, ![1024]⟩
abbrev S1024x1024 : Shape := ⟨2, ![1024, 1024]⟩
abbrev S4x1x1024 : Shape := ⟨3, ![4, 1, 1024]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S_ : Shape := ⟨0, ![]⟩
abbrev S1024x1152 : Shape := ⟨2, ![1024, 1152]⟩
abbrev S1x512x1024 : Shape := ⟨3, ![1, 512, 1024]⟩
abbrev S1x1x1024 : Shape := ⟨3, ![1, 1, 1024]⟩
abbrev S512x1024 : Shape := ⟨2, ![512, 1024]⟩
abbrev S1x128x128 : Shape := ⟨3, ![1, 128, 128]⟩
abbrev S128x128 : Shape := ⟨2, ![128, 128]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 38
  | .vmem => 37
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S4x4096x1024, .bf16⟩
  | .hbm, ⟨4, _⟩ => ⟨S4x4096x1024, .bf16⟩
  | .hbm, ⟨5, _⟩ => ⟨S4x4096x1024, .bf16⟩
  | .hbm, ⟨6, _⟩ => ⟨S4x4096x1024, .bf16⟩
  | .hbm, ⟨7, _⟩ => ⟨S4x4096x1024, .bf16⟩
  | .hbm, ⟨8, _⟩ => ⟨S8x128x128, .f32⟩
  | .hbm, ⟨9, _⟩ => ⟨S8x128, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4x1x1024, .f32⟩
  | .hbm, ⟨15, _⟩ => ⟨S1024, .f32⟩
  | .hbm, ⟨16, _⟩ => ⟨S4x1x1024, .f32⟩
  | .hbm, ⟨17, _⟩ => ⟨S4x1x1024, .f32⟩
  | .hbm, ⟨18, _⟩ => ⟨S128x8, .f32⟩
  | .hbm, ⟨19, _⟩ => ⟨S128x8x128, .f32⟩
  | .hbm, ⟨20, _⟩ => ⟨S128x1024, .f32⟩
  | .hbm, ⟨21, _⟩ => ⟨S8x128x128, .bf16⟩
  | .hbm, ⟨22, _⟩ => ⟨S1x1024, .f32⟩
  | .hbm, ⟨23, _⟩ => ⟨S1024x1024, .bf16⟩
  | .hbm, ⟨24, _⟩ => ⟨S_, .i32⟩
  | .hbm, ⟨25, _⟩ => ⟨S_, .bf16⟩
  | .hbm, ⟨26, _⟩ => ⟨S1024x1152, .bf16⟩
  | .hbm, ⟨27, _⟩ => ⟨S1024x1024, .bf16⟩
  | .hbm, ⟨28, _⟩ => ⟨S_, .i32⟩
  | .hbm, ⟨29, _⟩ => ⟨S_, .bf16⟩
  | .hbm, ⟨30, _⟩ => ⟨S1024x1152, .bf16⟩
  | .hbm, ⟨31, _⟩ => ⟨S1024x1024, .bf16⟩
  | .hbm, ⟨32, _⟩ => ⟨S_, .i32⟩
  | .hbm, ⟨33, _⟩ => ⟨S_, .bf16⟩
  | .hbm, ⟨34, _⟩ => ⟨S1024x1152, .bf16⟩
  | .hbm, ⟨35, _⟩ => ⟨S1x1024, .f32⟩
  | .hbm, ⟨36, _⟩ => ⟨S4x4096x1024, .f32⟩
  | .hbm, ⟨37, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S8x128x128, .bf16⟩
  | .local _ .vmem, ⟨17, _⟩ => ⟨S128x1024, .f32⟩
  | .local _ .vmem, ⟨18, _⟩ => ⟨S1x1024, .f32⟩
  | .local _ .vmem, ⟨19, _⟩ => ⟨S1024x1152, .bf16⟩
  | .local _ .vmem, ⟨20, _⟩ => ⟨S1024x1152, .bf16⟩
  | .local _ .vmem, ⟨21, _⟩ => ⟨S1024x1152, .bf16⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .bf16⟩
  | .local _ .vmem, ⟨32, _⟩ => ⟨S1x512x1024, .bf16⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_call0_v0 : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_call1_v0 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_call2_v0 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1152 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1152 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1152 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S4x4096x1024 : Shape := ⟨3, ![4, 4096, 1024]⟩
abbrev S8x128x128 : Shape := ⟨3, ![8, 128, 128]⟩
abbrev S8x128 : Shape := ⟨2, ![8, 128]⟩
abbrev S1024 : Shape := ⟨1, ![1024]⟩
abbrev S1024x1024 : Shape := ⟨2, ![1024, 1024]⟩
abbrev S4x1x1024 : Shape := ⟨3, ![4, 1, 1024]⟩
abbrev S4x32x128x8x128 : Shape := ⟨5, ![4, 32, 128, 8, 128]⟩
abbrev S8x4x32x128x128 : Shape := ⟨5, ![8, 4, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S4x4096x1024, .bf16⟩
  | .hbm, ⟨4, _⟩ => ⟨S4x4096x1024, .bf16⟩
  | .hbm, ⟨5, _⟩ => ⟨S4x4096x1024, .bf16⟩
  | .hbm, ⟨6, _⟩ => ⟨S4x4096x1024, .bf16⟩
  | .hbm, ⟨7, _⟩ => ⟨S4x4096x1024, .bf16⟩
  | .hbm, ⟨8, _⟩ => ⟨S8x128x128, .f32⟩
  | .hbm, ⟨9, _⟩ => ⟨S8x128, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4x1x1024, .f32⟩
  | .hbm, ⟨15, _⟩ => ⟨S1024, .f32⟩
  | .hbm, ⟨16, _⟩ => ⟨S4x1x1024, .f32⟩
  | .hbm, ⟨17, _⟩ => ⟨S4x1x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x32x128x8x128, .f32⟩
  | .hbm, ⟨26, _⟩ => ⟨S8x4x32x128x128, .f32⟩
  | .hbm, ⟨27, _⟩ => ⟨S4x32x128x8x128, .f32⟩
  | .hbm, ⟨28, _⟩ => ⟨S128x8, .f32⟩
  | .hbm, ⟨29, _⟩ => ⟨S128x8x1, .f32⟩
  | .hbm, ⟨30, _⟩ => ⟨S1x1x128x8x1, .f32⟩
  | .hbm, ⟨31, _⟩ => ⟨S4x32x128x8x128, .f32⟩
  | .hbm, ⟨32, _⟩ => ⟨S4x32x128x8x128, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x4x256, .f32⟩
  | .hbm, ⟨37, _⟩ => ⟨S4x4096x4x256, .f32⟩
  | .hbm, ⟨38, _⟩ => ⟨S_, .f32⟩
  | .hbm, ⟨39, _⟩ => ⟨S4x4096x4, .f32⟩
  | .hbm, ⟨40, _⟩ => ⟨S4x4096x4x1, .f32⟩
  | .hbm, ⟨41, _⟩ => ⟨S_, .f32⟩
  | .hbm, ⟨42, _⟩ => ⟨S4x4096x4x1, .f32⟩
  | .hbm, ⟨43, _⟩ => ⟨S4x4096x4x1, .f32⟩
  | .hbm, ⟨44, _⟩ => ⟨S_, .f32⟩
  | .hbm, ⟨45, _⟩ => ⟨S4x4096x4x1, .f32⟩
  | .hbm, ⟨46, _⟩ => ⟨S4x4096x4x1, .f32⟩
  | .hbm, ⟨47, _⟩ => ⟨S4x4096x4x1, .f32⟩
  | .hbm, ⟨48, _⟩ => ⟨S4x4096x4x256, .f32⟩
  | .hbm, ⟨49, _⟩ => ⟨S4x4096x4x256, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S_, .f32⟩
  | .hbm, ⟨81, _⟩ => ⟨S4x1x1024, .f32⟩
  | .hbm, ⟨82, _⟩ => ⟨S4x1x1024, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_2 : Ref sig .tc := ⟨.hbm, 65, rfl⟩
abbrev main_v44 : Ref sig .tc := ⟨.hbm, 66, rfl⟩
abbrev main_v45 : Ref sig .tc := ⟨.hbm, 67, rfl⟩
abbrev main_cst_3 : Ref sig .tc := ⟨.hbm, 68, rfl⟩
abbrev main_v46 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Proof.Kern.Chunk.lean ====
/- One chunk of the scan for one head, as vectors: what the kernel's body computes from the rows of a chunk and the
   state it loads, once for all sixteen chunks, four heads and two directions of a grid point. The kernel's own payloads
   (Gen/KernelIdeal/Skeleton.lean) are these at their chunk and head. -/
module

public import proofs.«01_k».proof.Proof.Gen.KernelIdeal.Frame

@[expose] public section

noncomputable section

namespace Cert.Chunk

open Idealize.ShloMosaic Idealize.ShloMosaic.TcCoe
open Cert.KernelIdeal Cert.KernelIdeal.Gen

variable {F : FTy → Type} [FloatOps F]

/-- The rows of chunk `n` in a block of 1024 positions and 512 columns. -/
def rK (n : Fin 16) : Rect S1x1024x512 :=
  Rect.unit (s := S1x1024x512) ![0, 64 * n.val, 0] S1x64x512.size (by
    intro a; have := n.isLt; fin_cases a <;> simp [Shape.size] <;> omega)

/-- The rows of chunk `n`, the value columns of head `h`, in a block of 1024 positions and 1024 columns. -/
def rV (n : Fin 16) (h : Fin 4) : Rect S1x1024x1024 :=
  Rect.unit (s := S1x1024x1024) ![0, 64 * n.val, 256 * h.val] S1x64x256.size (by
    intro a; have := n.isLt; have := h.isLt; fin_cases a <;> simp [Shape.size] <;> omega)

/-- Head `h`'s matrix in a block of the recurrent state. -/
def rS (h : Fin 4) : Rect S1x4x128x256 :=
  Rect.unit (s := S1x4x128x256) ![0, h.val, 0, 0] S1x1x128x256.size (by
    intro a; have := h.isLt; fin_cases a <;> simp [Shape.size] <;> omega)

/-- A chunk's rows as a matrix. -/
def mat (x : Vec F S1x64x512 .f32) : FVec F S64x512 .f32 := shapeCast S64x512 x shapeCasts_S1x64x512_S64x512

/-- The queries, grown by their decays. -/
def qd (la q : Vec F S1x64x512 .f32) : FVec F S64x512 .bf16 :=
  truncf .bf16 (mulf (mat q) (exp (mat la))) bitsLt_bf16_f32

/-- The keys, shrunk by their decays. -/
def ki (la k : Vec F S1x64x512 .f32) : FVec F S64x512 .bf16 :=
  truncf .bf16 (mulf (mat k) (exp (subf (broadcast S64x512 (Scalar.ofBits .f32 0x00000000#32)) (mat la)))) bitsLt_bf16_f32

theorem slices_row (r : Fin 64) : S64x512.Slices ![r.val, 0] S1x512 :=
  ⟨rfl, by
    intro a; have := r.isLt; fin_cases a <;> simp [Shape.size] <;> omega⟩

/-- The row of decays of the whole chunk: the last row forward, the first backward. -/
def lastRow (r : Fin 64) (la : Vec F S1x64x512 .f32) : FVec F S1x512 .f32 :=
  extractStridedSlice S1x512 ![r.val, 0] (mat la) (slices_row r)

/-- The keys decayed to the chunk's end, transposed. -/
def kdt (r : Fin 64) (la k : Vec F S1x64x512 .f32) : FVec F S512x64 .bf16 :=
  truncf .bf16 (transpose S512x64 [1, 0]
    (mulf (mat k) (exp (subf (broadcastTo S64x512 (lastRow r la) broadcasts_S1x512_S64x512) (mat la))))
    transposes_S64x512_p1_0_S512x64) bitsLt_bf16_f32

/-- The whole chunk's decay of each state row, as columns. -/
def dec (r : Fin 64) (la : Vec F S1x64x512 .f32) : FVec F S512x8 .f32 :=
  transpose S512x8 [1, 0]
    (broadcastTo S8x512 (shapeCast S1x512 (exp (lastRow r la)) shapeCasts_S1x512_S1x512) broadcasts_S1x512_S8x512)
    transposes_S8x512_p1_0_S512x8

theorem slices_head (h : Fin 4) : S64x512.Slices ![0, 128 * h.val] S64x128 :=
  ⟨rfl, by
    intro a; have := h.isLt; fin_cases a <;> simp [Shape.size] <;> omega⟩

theorem slices_headT (h : Fin 4) : S512x64.Slices ![128 * h.val, 0] S128x64 :=
  ⟨rfl, by
    intro a; have := h.isLt; fin_cases a <;> simp [Shape.size] <;> omega⟩

theorem slices_headD (h : Fin 4) : S512x8.Slices ![128 * h.val, 0] S128x1 :=
  ⟨rfl, by
    intro a; have := h.isLt; fin_cases a <;> simp [Shape.size] <;> omega⟩

/-- Head `h`'s columns of a matrix of queries or keys. -/
def hd (h : Fin 4) (x : FVec F S64x512 .bf16) : FVec F S64x128 .bf16 :=
  extractStridedSlice S64x128 ![0, 128 * h.val] x (slices_head h)

/-- Head `h`'s scores within the chunk. -/
def sc (h : Fin 4) (la q k : Vec F S1x64x512 .f32) : FVec F S64x64 .f32 :=
  matmul dot_S64x128_S64x128_S64x64_1_1_0_0_n_n none (hd h (qd la q)) (hd h (ki la k))
    (constant S64x64 .f32 0x00000000#32)

/-- A chunk's values of one head as a matrix. -/
def vmat (v : Vec F S1x64x256 .bf16) : FVec F S64x256 .bf16 := shapeCast S64x256 v shapeCasts_S1x64x256_S64x256

/-- Head `h`'s update of the state: decayed keys times values. -/
def kv (r : Fin 64) (h : Fin 4) (la k : Vec F S1x64x512 .f32) (v : Vec F S1x64x256 .bf16) : FVec F S128x256 .f32 :=
  matmul dot_S128x64_S64x256_S128x256_1_0_0_1_n_n none
    (extractStridedSlice S128x64 ![128 * h.val, 0] (kdt r la k) (slices_headT h)) (vmat v)
    (constant S128x256 .f32 0x00000000#32)

/-- A head's state as a matrix. -/
def smat (st : Vec F S1x1x128x256 .f32) : FVec F S128x256 .f32 := shapeCast S128x256 st shapeCasts_S1x1x128x256_S128x256

/-- What a chunk stores to head `h`'s rows of the output, from the state `st` before the chunk. -/
def outP (keep : IVec S64x64 1) (h : Fin 4) (la q k : Vec F S1x64x512 .f32) (v : Vec F S1x64x256 .bf16)
    (st : Vec F S1x1x128x256 .f32) : FVec F S1x64x256 .bf16 :=
  shapeCast S1x64x256 (truncf .bf16 (addf
    (matmul dot_S64x64_S64x256_S64x256_1_0_0_1_n_n none
      (truncf .bf16 (select keep (sc h la q k) (broadcast S64x64 (Scalar.ofBits .f32 0x00000000#32))) bitsLt_bf16_f32) (vmat v)
      (constant S64x256 .f32 0x00000000#32))
    (matmul dot_S64x128_S128x256_S64x256_1_0_0_1_n_n none (hd h (qd la q)) (truncf .bf16 (smat st) bitsLt_bf16_f32)
      (constant S64x256 .f32 0x00000000#32))) bitsLt_bf16_f32) shapeCasts_S64x256_S1x64x256

/-- Head `h`'s state after a chunk, from the state `st` before it. -/
def updP (r : Fin 64) (h : Fin 4) (la k : Vec F S1x64x512 .f32) (v : Vec F S1x64x256 .bf16)
    (st : Vec F S1x1x128x256 .f32) : FVec F S1x1x128x256 .f32 :=
  shapeCast S1x1x128x256 (addf
    (mulf (smat st) (broadcastTo S128x256
      (shapeCast S128x1 (extractStridedSlice S128x1 ![128 * h.val, 0] (dec r la) (slices_headD h)) shapeCasts_S128x1_S128x1)
      broadcasts_S128x1_S128x256))
    (kv r h la k v)) shapeCasts_S128x256_S1x1x128x256

/-- The pieces a grid point has stored to a state output after `j` of its 64 chunk-head steps (step `j`: the chunk of
    rank `j / 4`, head `j % 4`), newest first: `L₀` is what stood before, `ld₀` how a head is loaded in the first chunk,
    `P` a step's new state. -/
def pcs (v : View sig .tc .vmem S1x4x128x256 .f32) (L₀ : List (View.Piece (Elt F) S1x4x128x256 .f32))
    (ld₀ : List (View.Piece (Elt F) S1x4x128x256 .f32) → Fin 4 → Vec F S1x1x128x256 .f32)
    (P : Fin 16 → Fin 4 → Vec F S1x1x128x256 .f32 → Vec F S1x1x128x256 .f32) (j : ℕ) :
    List (View.Piece (Elt F) S1x4x128x256 .f32) :=
  Nat.rec L₀ (fun j L => ⟨rS ⟨j % 4, Nat.mod_lt _ (by decide)⟩,
    P ⟨j / 4 % 16, Nat.mod_lt _ (by decide)⟩ ⟨j % 4, Nat.mod_lt _ (by decide)⟩
      (bif Nat.blt j 4 then ld₀ L ⟨j % 4, Nat.mod_lt _ (by decide)⟩
        else v.readCov L (rS ⟨j % 4, Nat.mod_lt _ (by decide)⟩).toLoadRect)⟩ :: L) j

/-- The state step `j` loads. -/
def ldAt (v : View sig .tc .vmem S1x4x128x256 .f32) (L₀ : List (View.Piece (Elt F) S1x4x128x256 .f32))
    (ld₀ : List (View.Piece (Elt F) S1x4x128x256 .f32) → Fin 4 → Vec F S1x1x128x256 .f32)
    (P : Fin 16 → Fin 4 → Vec F S1x1x128x256 .f32 → Vec F S1x1x128x256 .f32) (j : ℕ) :
    Vec F S1x1x128x256 .f32 :=
  bif Nat.blt j 4 then ld₀ (pcs v L₀ ld₀ P j) ⟨j % 4, Nat.mod_lt _ (by decide)⟩
    else v.readCov (pcs v L₀ ld₀ P j) (rS ⟨j % 4, Nat.mod_lt _ (by decide)⟩).toLoadRect

/-- The pieces stored to an output after `j` steps: step `j` stores `O` of the state it loads (`ld j`) at the rows of
    the chunk `ch` puts at its rank. -/
def opcs (ch : Fin 16 → Fin 16) (ld : ℕ → Vec F S1x1x128x256 .f32)
    (O : Fin 16 → Fin 4 → Vec F S1x1x128x256 .f32 → Vec F S1x64x256 .bf16) (j : ℕ) :
    List (View.Piece (Elt F) S1x1024x1024 .bf16) :=
  Nat.rec [] (fun j L => ⟨rV (ch ⟨j / 4 % 16, Nat.mod_lt _ (by decide)⟩) ⟨j % 4, Nat.mod_lt _ (by decide)⟩,
    O ⟨j / 4 % 16, Nat.mod_lt _ (by decide)⟩ ⟨j % 4, Nat.mod_lt _ (by decide)⟩ (ld j)⟩ :: L) j

/-- Chunk `n`'s rows of a block. -/
abbrev lk {arg : Memref sig .tc .vmem S1x1024x512 .f32} (h : arg.IsWhole) (x : Vec F S1x1024x512 .f32) (n : Fin 16) :
    Vec F S1x64x512 .f32 := View.readAt (Elt F) arg.view (rK n).toLoadRect (h.unread x)
/-- Chunk `n`'s rows, head `h`'s columns of a block. -/
abbrev lv {arg : Memref sig .tc .vmem S1x1024x1024 .bf16} (h : arg.IsWhole) (x : Vec F S1x1024x1024 .bf16) (n : Fin 16)
    (hd : Fin 4) : Vec F S1x64x256 .bf16 := View.readAt (Elt F) arg.view (rV n hd).toLoadRect (h.unread x)

/-- The chunk of rank `s` forward. -/
abbrev chF (s : Fin 16) : Fin 16 := s
/-- The chunk of rank `s` backward. -/
abbrev chB (s : Fin 16) : Fin 16 := ⟨15 - s.val, by omega⟩

/-- A step's new state, from blocks of decays `la`, keys `k`, values `v`: the decay of the whole chunk is row `r`. -/
abbrev updS (ch : Fin 16 → Fin 16) (r : Fin 64) {arga argk : Memref sig .tc .vmem S1x1024x512 .f32} (ha : arga.IsWhole)
    (hk : argk.IsWhole) {argv : Memref sig .tc .vmem S1x1024x1024 .bf16} (hv : argv.IsWhole)
    (la k : Vec F S1x1024x512 .f32) (v : Vec F S1x1024x1024 .bf16) (s : Fin 16) (h : Fin 4) (st : Vec F S1x1x128x256 .f32) :
    Vec F S1x1x128x256 .f32 := updP r h (lk ha la (ch s)) (lk hk k (ch s)) (lv hv v (ch s) h) st

/-- A step's rows of the output. -/
abbrev outS (ch : Fin 16 → Fin 16) (keep : IVec S64x64 1) {arga argq argk : Memref sig .tc .vmem S1x1024x512 .f32}
    (ha : arga.IsWhole) (hq : argq.IsWhole) (hk : argk.IsWhole) {argv : Memref sig .tc .vmem S1x1024x1024 .bf16}
    (hv : argv.IsWhole) (la q k : Vec F S1x1024x512 .f32) (v : Vec F S1x1024x1024 .bf16) (s : Fin 16) (h : Fin 4)
    (st : Vec F S1x1x128x256 .f32) : Vec F S1x64x256 .bf16 :=
  outP keep h (lk ha la (ch s)) (lk hq q (ch s)) (lk hk k (ch s)) (lv hv v (ch s) h) st

end Cert.Chunk

end
-- ==== Proof.Gla.Spec.lean ====
/- Chunked gated linear attention of one head of one sequence, over the extended reals: the state passed from chunk to chunk and
   the rows a chunk puts out, in the order in which the sequence is read. -/
module

public import Idealize.ShloMosaic.Lib.Pointwise

@[expose] public section

noncomputable section

namespace Cert.Gla

open Idealize.ShloMosaic

/-- The state after a chunk: what was there, decayed over the whole chunk, and each row's key times its value, decayed from that
    row to the chunk's end. `la` are the cumulative log decays inside the chunk. -/
def upd (la k : Fin 64 → Fin 128 → EReal) (v : Fin 64 → Fin 256 → EReal) (S : Fin 128 → Fin 256 → EReal) (x : Fin 128)
    (e : Fin 256) : EReal :=
  S x e * Ideal.exp (la 63 x) + ∑ c : Fin 64, k c x * Ideal.exp (la 63 x - la c x) * v c e

/-- A chunk's output: the causal attention inside the chunk, and the queries against the state before the chunk. -/
def out (la q k : Fin 64 → Fin 128 → EReal) (v : Fin 64 → Fin 256 → EReal) (S : Fin 128 → Fin 256 → EReal) (c : Fin 64)
    (e : Fin 256) : EReal :=
  ∑ c' : Fin 64, (if c' ≤ c then
      (∑ x : Fin 128, q c x * Ideal.exp (la c x) * (k c' x * Ideal.exp (0 - la c' x))) * v c' e else 0)
    + ∑ x : Fin 128, q c x * Ideal.exp (la c x) * S x e

/-- The state before chunk `s`. -/
def state (la k : Fin 64 → Fin 64 → Fin 128 → EReal) (v : Fin 64 → Fin 64 → Fin 256 → EReal) (S : Fin 128 → Fin 256 → EReal) :
    ℕ → Fin 128 → Fin 256 → EReal
  | 0 => S
  | s + 1 => upd (la (Fin.ofNat 64 s)) (k (Fin.ofNat 64 s)) (v (Fin.ofNat 64 s)) (state la k v S s)

/-- The arrays the attention is computed from: queries, keys, values, cumulative log decays (the backward direction's in the second
    half of the columns), and the initial states of the two directions. -/
structure Arr where
  q : Fin 4 → Fin 4096 → Fin 512 → EReal
  k : Fin 4 → Fin 4096 → Fin 512 → EReal
  v : Fin 4 → Fin 4096 → Fin 1024 → EReal
  la : Fin 4 → Fin 4096 → Fin 1024 → EReal
  s0 : Fin 2 → Fin 4 → Fin 4 → Fin 128 → Fin 256 → EReal

/-- The place in the array of row `c` of chunk `s`, in direction `d`: the backward direction (1) reads the rows from the last. -/
def pos (d : Fin 2) (s c : Fin 64) : Fin 4096 :=
  ⟨if d = 0 then 64 * s.val + c.val else 4095 - (64 * s.val + c.val), by split <;> omega⟩

namespace Arr

variable (A : Arr) (d : Fin 2) (b h : Fin 4)

/-- Head `h`'s log decays, in the order in which direction `d` reads them. -/
def las (s c : Fin 64) (x : Fin 128) : EReal := A.la b (pos d s c) ⟨512 * d.val + (128 * h.val + x.val), by omega⟩
/-- Head `h`'s queries in that order. -/
def qs (s c : Fin 64) (x : Fin 128) : EReal := A.q b (pos d s c) ⟨128 * h.val + x.val, by omega⟩
/-- Head `h`'s keys in that order. -/
def ks (s c : Fin 64) (x : Fin 128) : EReal := A.k b (pos d s c) ⟨128 * h.val + x.val, by omega⟩
/-- Head `h`'s values in that order. -/
def vs (s c : Fin 64) (e : Fin 256) : EReal := A.v b (pos d s c) ⟨256 * h.val + e.val, by omega⟩

/-- Head `h`'s state before chunk `s`. -/
def st (s : ℕ) : Fin 128 → Fin 256 → EReal := state (A.las d b h) (A.ks d b h) (A.vs d b h) (A.s0 d b h) s

/-- Head `h`'s output in row `c` of chunk `s`. -/
def o (s c : Fin 64) (e : Fin 256) : EReal :=
  out (A.las d b h s) (A.qs d b h s) (A.ks d b h s) (A.vs d b h s) (A.st d b h s.val) c e

/-- The place in direction `d`'s reading order of the array's row `p`. -/
def rank (d : Fin 2) (p : Fin 4096) : ℕ := if d = 0 then p.val else 4095 - p.val

/-- Direction `d`'s output as an array: row `p`, column `y`. -/
def res (p : Fin 4096) (y : Fin 1024) : EReal :=
  A.o d b ⟨y.val / 256, by omega⟩ ⟨rank d p / 64, by unfold rank; split <;> omega⟩ ⟨rank d p % 64, by omega⟩
    ⟨y.val % 256, by omega⟩

theorem res_pos (s c : Fin 64) (e : Fin 256) :
    A.res d b (pos d s c) ⟨256 * h.val + e.val, by omega⟩ = A.o d b h s c e := by
  have hr : rank d (pos d s c) = 64 * s.val + c.val := by
    unfold rank pos
    split <;> simp only [] <;> omega
  have h1 : (⟨(256 * h.val + e.val) / 256, by omega⟩ : Fin 4) = h := Fin.ext (by simp only []; omega)
  have h2 : (⟨(256 * h.val + e.val) % 256, by omega⟩ : Fin 256) = e := Fin.ext (by simp only []; omega)
  have h3 : (⟨rank d (pos d s c) / 64, by rw [hr]; omega⟩ : Fin 64) = s := Fin.ext (by simp only [hr]; omega)
  have h4 : (⟨rank d (pos d s c) % 64, by omega⟩ : Fin 64) = c := Fin.ext (by simp only [hr]; omega)
  unfold res
  simp only [h1, h2, h3, h4]

end Arr

end Cert.Gla

end
-- ==== Proof.Kern.Point.lean ====
/- One chunk of the scan at an index, over the extended reals: the kernel's step computes the chunk of the sequence, the backward
   one on the chunk's rows read from the last to the first. -/
module

public import proofs.«01_k».proof.Proof.Kern.Chunk
public import proofs.«01_k».proof.Proof.Gla.Spec

@[expose] public section

set_option maxRecDepth 16384

noncomputable section

namespace Cert.Chunk

open Idealize.ShloMosaic Idealize.ShloMosaic.TcCoe
open Cert.KernelIdeal Cert.KernelIdeal.Gen

/-- Column `x` of head `h` among the query and key columns. -/
abbrev col (h : Fin 4) (x : Fin 128) : Fin 512 := ⟨128 * h.val + x.val, by omega⟩

theorem updP_apply (r : Fin 64) (h : Fin 4) (la k : Vec Ideal S1x64x512 .f32) (v : Vec Ideal S1x64x256 .bf16)
    (st : Vec Ideal S1x1x128x256 .f32) (x : Fin 128) (e : Fin 256) :
    updP r h la k v st (ix4 0 0 x e) = st (ix4 0 0 x e) * Ideal.exp (la (ix3 0 r (col h x)))
      + ∑ c : Fin 64, k (ix3 0 c (col h x)) * Ideal.exp (la (ix3 0 r (col h x)) - la (ix3 0 c (col h x))) * v (ix3 0 c e) := by
  pointwise [updP, smat, dec, lastRow, mat, kv, kdt, vmat]

theorem outP_apply (keep : IVec S64x64 1) (h : Fin 4) (la q k : Vec Ideal S1x64x512 .f32) (v : Vec Ideal S1x64x256 .bf16)
    (st : Vec Ideal S1x1x128x256 .f32) (c : Fin 64) (e : Fin 256) :
    outP keep h la q k v st (ix3 0 c e) =
      ∑ c' : Fin 64, Scalar.select (keep (ix2 c c')) ((∑ x : Fin 128, q (ix3 0 c (col h x)) * Ideal.exp (la (ix3 0 c (col h x)))
          * (k (ix3 0 c' (col h x)) * Ideal.exp (0 - la (ix3 0 c' (col h x))))) * v (ix3 0 c' e)) (0 : EReal)
        + ∑ x : Fin 128, q (ix3 0 c (col h x)) * Ideal.exp (la (ix3 0 c (col h x))) * st (ix4 0 0 x e) := by
  pointwise [outP, smat, sc, hd, qd, ki, mat, vmat]

theorem pay2_at (c c' : Fin 64) : k0_pay2 (ix2 c c') = if c' ≤ c then 1#1 else 0#1 := by
  revert c c'
  decide +kernel

theorem pay3_at (c c' : Fin 64) : k0_pay3 (ix2 c c') = if c ≤ c' then 1#1 else 0#1 := by
  revert c c'
  decide +kernel

theorem select_if (p : Prop) [Decidable p] (a b : EReal) : Scalar.select (if p then 1#1 else 0#1) a b = if p then a else b := by
  by_cases h : p
  · rw [if_pos h, if_pos h]; rfl
  · rw [if_neg h, if_neg h]; rfl

section

variable (h : Fin 4) (la q k : Vec Ideal S1x64x512 .f32) (v : Vec Ideal S1x64x256 .bf16) (st : Vec Ideal S1x1x128x256 .f32)

theorem updF (x : Fin 128) (e : Fin 256) : updP 63 h la k v st (ix4 0 0 x e) =
    Gla.upd (fun c x => la (ix3 0 c (col h x))) (fun c x => k (ix3 0 c (col h x))) (fun c e => v (ix3 0 c e))
      (fun x e => st (ix4 0 0 x e)) x e := updP_apply 63 h la k v st x e

theorem outF (c : Fin 64) (e : Fin 256) : outP k0_pay2 h la q k v st (ix3 0 c e) =
    Gla.out (fun c x => la (ix3 0 c (col h x))) (fun c x => q (ix3 0 c (col h x))) (fun c x => k (ix3 0 c (col h x)))
      (fun c e => v (ix3 0 c e)) (fun x e => st (ix4 0 0 x e)) c e := by
  rw [outP_apply]
  unfold Gla.out
  congr 1
  refine Finset.sum_congr rfl fun c' _ => ?_
  rw [pay2_at, select_if]

theorem updB (x : Fin 128) (e : Fin 256) : updP 0 h la k v st (ix4 0 0 x e) =
    Gla.upd (fun c x => la (ix3 0 c.rev (col h x))) (fun c x => k (ix3 0 c.rev (col h x))) (fun c e => v (ix3 0 c.rev e))
      (fun x e => st (ix4 0 0 x e)) x e := by
  rw [updP_apply]
  unfold Gla.upd
  congr 1
  exact (Equiv.sum_comp Fin.revPerm fun c : Fin 64 => k (ix3 0 c (col h x))
    * Ideal.exp (la (ix3 0 0 (col h x)) - la (ix3 0 c (col h x))) * v (ix3 0 c e)).symm

theorem outB (c : Fin 64) (e : Fin 256) : outP k0_pay3 h la q k v st (ix3 0 c.rev e) =
    Gla.out (fun c x => la (ix3 0 c.rev (col h x))) (fun c x => q (ix3 0 c.rev (col h x))) (fun c x => k (ix3 0 c.rev (col h x)))
      (fun c e => v (ix3 0 c.rev e)) (fun x e => st (ix4 0 0 x e)) c e := by
  rw [outP_apply]
  unfold Gla.out
  congr 1
  refine (Equiv.sum_comp Fin.revPerm _).symm.trans ?_
  refine Finset.sum_congr rfl fun c' _ => ?_
  show Scalar.select (k0_pay3 (ix2 c.rev c'.rev)) _ _ = _
  rw [pay3_at, select_if]
  simp only [Fin.rev_le_rev]
  rfl

end

end Cert.Chunk

end
-- ==== Proof.Kern.Blocks.lean ====
/- Where the windows' blocks lie in the arrays: the forward windows take the row blocks in order, the backward ones from the last to
   the first. -/
module

public import proofs.«01_k».proof.Proof.Kern.Point
public import proofs.«01_k».proof.Proof.Gen.KernelIdeal.Value
public import Idealize.ShloMosaic.Lib.Pipeline.ValueKit.Point

@[expose] public section

set_option maxRecDepth 16384

noncomputable section

namespace Cert.Chunk

open Idealize.ShloMosaic Idealize.ShloMosaic.TcCoe
open Cert.KernelIdeal Cert.KernelIdeal.Gen

theorem rK_emb (n : Fin 16) (c : Fin 64) (y : Fin 512) :
    (rK n).emb (ix3 0 c y) = (ix3 0 ⟨64 * n.val + c.val, by omega⟩ y : S1x1024x512.Idx) := by
  refine (rK n).emb_eq_of_coords _ _ fun a => ?_
  fin_cases a <;> simp [rK]

theorem rV_emb (n : Fin 16) (h : Fin 4) (c : Fin 64) (e : Fin 256) :
    (rV n h).emb (ix3 0 c e) = (ix3 0 ⟨64 * n.val + c.val, by omega⟩ ⟨256 * h.val + e.val, by omega⟩ : S1x1024x1024.Idx) := by
  refine (rV n h).emb_eq_of_coords _ _ fun a => ?_
  fin_cases a <;> simp [rV]

theorem rS_emb (h : Fin 4) (x : Fin 128) (e : Fin 256) :
    (rS h).emb (ix4 0 0 x e) = (ix4 0 h x e : S1x4x128x256.Idx) := by
  refine (rS h).emb_eq_of_coords _ _ fun a => ?_
  fin_cases a <;> simp [rS]

theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, 3 - t.val % 4, 0] ∧ win0_5.index t = ![t.val / 4, 3 - t.val % 4, 0]
    ∧ win0_6.index t = ![t.val / 4, 3 - t.val % 4, 1] ∧ win0_7.index t = ![t.val / 4, 3 - t.val % 4, 0]
    ∧ win0_8.index t = ![t.val / 4, 0, 0, 0] ∧ win0_9.index t = ![t.val / 4, 0, 0, 0]
    ∧ win0_10.index t = ![t.val / 4, t.val % 4, 0] ∧ win0_11.index t = ![t.val / 4, 3 - t.val % 4, 0]
    ∧ win0_12.index t = ![t.val / 4, 0, 0, 0] ∧ win0_13.index t = ![t.val / 4, 0, 0, 0] := by
  decide +kernel

variable (m : (ℓ : Loc nD τ sig) → Buf (Elt Ideal) ℓ) (c : Dev nD) (t : Fin cfg0.N) (b i : Fin 4)

theorem blk0 (ht : t.val = 4 * b.val + i.val) (p : Fin 1024) (y : Fin 512) :
    (iblk m c 0 t : S1x1024x512.Idx → EReal) (ix3 0 p y)
      = (m ((c : Thread nD τ).loc main_arg0) : S4x4096x512.Idx → EReal) (ix3 b ⟨1024 * i.val + p.val, by omega⟩ y) := by
  blk_ext [iblk, V, idx t]

theorem blk4 (ht : t.val = 4 * b.val + i.val) (p : Fin 1024) (y : Fin 512) :
    (iblk m c 4 t : S1x1024x512.Idx → EReal) (ix3 0 p y)
      = (m ((c : Thread nD τ).loc main_arg0) : S4x4096x512.Idx → EReal) (ix3 b ⟨1024 * (3 - i.val) + p.val, by omega⟩ y) := by
  blk_ext [iblk, V, idx t]

theorem blk1 (ht : t.val = 4 * b.val + i.val) (p : Fin 1024) (y : Fin 512) :
    (iblk m c 1 t : S1x1024x512.Idx → EReal) (ix3 0 p y)
      = (m ((c : Thread nD τ).loc main_arg1) : S4x4096x512.Idx → EReal) (ix3 b ⟨1024 * i.val + p.val, by omega⟩ y) := by
  blk_ext [iblk, V, idx t]

theorem blk5 (ht : t.val = 4 * b.val + i.val) (p : Fin 1024) (y : Fin 512) :
    (iblk m c 5 t : S1x1024x512.Idx → EReal) (ix3 0 p y)
      = (m ((c : Thread nD τ).loc main_arg1) : S4x4096x512.Idx → EReal) (ix3 b ⟨1024 * (3 - i.val) + p.val, by omega⟩ y) := by
  blk_ext [iblk, V, idx t]

theorem blk2 (ht : t.val = 4 * b.val + i.val) (p : Fin 1024) (y : Fin 512) :
    (iblk m c 2 t : S1x1024x512.Idx → EReal) (ix3 0 p y)
      = (m ((c : Thread nD τ).loc main_arg3) : S4x4096x1024.Idx → EReal) (ix3 b ⟨1024 * i.val + p.val, by omega⟩ ⟨y.val, by omega⟩) := by
  blk_ext [iblk, V, idx t]

theorem blk6 (ht : t.val = 4 * b.val + i.val) (p : Fin 1024) (y : Fin 512) :
    (iblk m c 6 t : S1x1024x512.Idx → EReal) (ix3 0 p y)
      = (m ((c : Thread nD τ).loc main_arg3) : S4x4096x1024.Idx → EReal) (ix3 b ⟨1024 * (3 - i.val) + p.val, by omega⟩ ⟨512 + y.val, by omega⟩) := by
  blk_ext [iblk, V, idx t]

theorem blk3 (ht : t.val = 4 * b.val + i.val) (p : Fin 1024) (y : Fin 1024) :
    (iblk m c 3 t : S1x1024x1024.Idx → EReal) (ix3 0 p y)
      = (m ((c : Thread nD τ).loc main_arg2) : S4x4096x1024.Idx → EReal) (ix3 b ⟨1024 * i.val + p.val, by omega⟩ y) := by
  blk_ext [iblk, V, idx t]

theorem blk7 (ht : t.val = 4 * b.val + i.val) (p : Fin 1024) (y : Fin 1024) :
    (iblk m c 7 t : S1x1024x1024.Idx → EReal) (ix3 0 p y)
      = (m ((c : Thread nD τ).loc main_arg2) : S4x4096x1024.Idx → EReal) (ix3 b ⟨1024 * (3 - i.val) + p.val, by omega⟩ y) := by
  blk_ext [iblk, V, idx t]

theorem blk8 (ht : t.val = 4 * b.val + i.val) (h : Fin 4) (x : Fin 128) (e : Fin 256) :
    (iblk m c 8 t : S1x4x128x256.Idx → EReal) (ix4 0 h x e)
      = (m ((c : Thread nD τ).loc main_arg4) : S4x4x128x256.Idx → EReal) (ix4 b h x e) := by
  blk_ext [iblk, V, idx t]

theorem blk9 (ht : t.val = 4 * b.val + i.val) (h : Fin 4) (x : Fin 128) (e : Fin 256) :
    (iblk m c 9 t : S1x4x128x256.Idx → EReal) (ix4 0 h x e)
      = (m ((c : Thread nD τ).loc main_arg5) : S4x4x128x256.Idx → EReal) (ix4 b h x e) := by
  blk_ext [iblk, V, idx t]

theorem emb10 (ht : t.val = 4 * b.val + i.val) (p : Fin 1024) (y : Fin 1024) :
    ((cfg0.win 10).blk t).view.emb (ix3 0 p y : S1x1024x1024.Idx)
      = (ix3 b ⟨1024 * i.val + p.val, by omega⟩ y : S4x4096x1024.Idx) := by
  blk_ext [idx t]

theorem emb11 (ht : t.val = 4 * b.val + i.val) (p : Fin 1024) (y : Fin 1024) :
    ((cfg0.win 11).blk t).view.emb (ix3 0 p y : S1x1024x1024.Idx)
      = (ix3 b ⟨1024 * (3 - i.val) + p.val, by omega⟩ y : S4x4096x1024.Idx) := by
  blk_ext [idx t]

theorem emb12 (ht : t.val = 4 * b.val + i.val) (h : Fin 4) (x : Fin 128) (e : Fin 256) :
    ((cfg0.win 12).blk t).view.emb (ix4 0 h x e : S1x4x128x256.Idx) = (ix4 b h x e : S4x4x128x256.Idx) := by
  blk_ext [idx t]

theorem emb13 (ht : t.val = 4 * b.val + i.val) (h : Fin 4) (x : Fin 128) (e : Fin 256) :
    ((cfg0.win 13).blk t).view.emb (ix4 0 h x e : S1x4x128x256.Idx) = (ix4 b h x e : S4x4x128x256.Idx) := by
  blk_ext [idx t]

end Cert.Chunk

end
-- ==== Proof.Kern.ListsA.lean ====
/- The pieces the kernel's run stores at a grid point (case A: the first of a batch row, which loads the initial state), read as the
   step-indexed lists of Chunk.lean: the same lists, unfolded by the kernel. -/
module

public import proofs.«01_k».proof.Proof.Kern.Chunk

@[expose] public section

noncomputable section

namespace Cert.Chunk

open Idealize.ShloMosaic Idealize.ShloMosaic.TcCoe
open Cert.KernelIdeal Cert.KernelIdeal.Gen

variable {F : FTy → Type} [FloatOps F]

variable (c : Dev nD) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1024x512 .f32) (harg4 : arg4.IsWhole)
  (arg5 : Memref sig .tc .vmem S1x1024x1024 .bf16) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1024x512 .f32) (harg8 : arg8.IsWhole)
  (arg9 : Memref sig .tc .vmem S1x1024x1024 .bf16) (harg9 : arg9.IsWhole)
  (arg10 : Memref sig .tc .vmem S1x4x128x256 .f32) (harg10 : arg10.IsWhole)
  (arg11 : Memref sig .tc .vmem S1x4x128x256 .f32) (harg11 : arg11.IsWhole)
  (arg12 : Memref sig .tc .vmem S1x1024x1024 .bf16) (harg12 : arg12.IsWhole)
  (arg13 : Memref sig .tc .vmem S1x1024x1024 .bf16) (harg13 : arg13.IsWhole)
  (arg14 : Memref sig .tc .vmem S1x4x128x256 .f32) (harg14 : arg14.IsWhole)
  (arg15 : Memref sig .tc .vmem S1x4x128x256 .f32) (harg15 : arg15.IsWhole)
  (x0 : Vec F S1x1024x512 .f32)  (x1 : Vec F S1x1024x512 .f32)  (x2 : Vec F S1x1024x512 .f32)  (x3 : Vec F S1x1024x1024 .bf16)  (x4 : Vec F S1x1024x512 .f32)  (x5 : Vec F S1x1024x512 .f32)  (x6 : Vec F S1x1024x512 .f32)  (x7 : Vec F S1x1024x1024 .bf16)  (x8 : Vec F S1x4x128x256 .f32)  (x9 : Vec F S1x4x128x256 .f32)

theorem stateF_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.1 =
      (pcs arg14.view [⟨(Rect.unit (s := S1x4x128x256) ![0, 0, 0, 0] S1x4x128x256.size inb_S1x4x128x256_S1x4x128x256_0_0_0_0), View.readAt (Elt F) arg10.view (Rect.unit (s := S1x4x128x256) ![0, 0, 0, 0] S1x4x128x256.size inb_S1x4x128x256_S1x4x128x256_0_0_0_0).toLoadRect (harg10.unread x8)⟩] (fun L h => arg14.view.readCov L (rS h).toLoadRect) (updS chF 63 harg4 harg3 harg5 x2 x1 x3)) 64 := by
  sl_kernel_rfl

theorem outF_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 =
      opcs chF (ldAt arg14.view [⟨(Rect.unit (s := S1x4x128x256) ![0, 0, 0, 0] S1x4x128x256.size inb_S1x4x128x256_S1x4x128x256_0_0_0_0), View.readAt (Elt F) arg10.view (Rect.unit (s := S1x4x128x256) ![0, 0, 0, 0] S1x4x128x256.size inb_S1x4x128x256_S1x4x128x256_0_0_0_0).toLoadRect (harg10.unread x8)⟩] (fun L h => arg14.view.readCov L (rS h).toLoadRect) (updS chF 63 harg4 harg3 harg5 x2 x1 x3)) (outS chF k0_pay2 harg4 harg2 harg3 harg5 x2 x0 x1 x3) 64 := by
  sl_kernel_rfl

theorem stateB_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.2.1 =
      (pcs arg15.view [⟨(Rect.unit (s := S1x4x128x256) ![0, 0, 0, 0] S1x4x128x256.size inb_S1x4x128x256_S1x4x128x256_0_0_0_0), View.readAt (Elt F) arg11.view (Rect.unit (s := S1x4x128x256) ![0, 0, 0, 0] S1x4x128x256.size inb_S1x4x128x256_S1x4x128x256_0_0_0_0).toLoadRect (harg11.unread x9)⟩] (fun L h => arg15.view.readCov L (rS h).toLoadRect) (updS chB 0 harg8 harg7 harg9 x6 x5 x7)) 64 := by
  sl_kernel_rfl

theorem outB_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 =
      opcs chB (ldAt arg15.view [⟨(Rect.unit (s := S1x4x128x256) ![0, 0, 0, 0] S1x4x128x256.size inb_S1x4x128x256_S1x4x128x256_0_0_0_0), View.readAt (Elt F) arg11.view (Rect.unit (s := S1x4x128x256) ![0, 0, 0, 0] S1x4x128x256.size inb_S1x4x128x256_S1x4x128x256_0_0_0_0).toLoadRect (harg11.unread x9)⟩] (fun L h => arg15.view.readCov L (rS h).toLoadRect) (updS chB 0 harg8 harg7 harg9 x6 x5 x7)) (outS chB k0_pay3 harg8 harg6 harg7 harg9 x6 x4 x5 x7) 64 := by
  sl_kernel_rfl

end Cert.Chunk

end
-- ==== Proof.Kern.ListsB.lean ====
/- The pieces the kernel's run stores at a grid point (case B: the others, which carry the state on), read as the
   step-indexed lists of Chunk.lean: the same lists, unfolded by the kernel. -/
module

public import proofs.«01_k».proof.Proof.Kern.Chunk

@[expose] public section

noncomputable section

namespace Cert.Chunk

open Idealize.ShloMosaic Idealize.ShloMosaic.TcCoe
open Cert.KernelIdeal Cert.KernelIdeal.Gen

variable {F : FTy → Type} [FloatOps F]

variable (c : Dev nD) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1024x512 .f32) (harg4 : arg4.IsWhole)
  (arg5 : Memref sig .tc .vmem S1x1024x1024 .bf16) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1024x512 .f32) (harg8 : arg8.IsWhole)
  (arg9 : Memref sig .tc .vmem S1x1024x1024 .bf16) (harg9 : arg9.IsWhole)
  (arg10 : Memref sig .tc .vmem S1x4x128x256 .f32) (harg10 : arg10.IsWhole)
  (arg11 : Memref sig .tc .vmem S1x4x128x256 .f32) (harg11 : arg11.IsWhole)
  (arg12 : Memref sig .tc .vmem S1x1024x1024 .bf16) (harg12 : arg12.IsWhole)
  (arg13 : Memref sig .tc .vmem S1x1024x1024 .bf16) (harg13 : arg13.IsWhole)
  (arg14 : Memref sig .tc .vmem S1x4x128x256 .f32) (harg14 : arg14.IsWhole)
  (arg15 : Memref sig .tc .vmem S1x4x128x256 .f32) (harg15 : arg15.IsWhole)
  (x0 : Vec F S1x1024x512 .f32)  (x1 : Vec F S1x1024x512 .f32)  (x2 : Vec F S1x1024x512 .f32)  (x3 : Vec F S1x1024x1024 .bf16)  (x4 : Vec F S1x1024x512 .f32)  (x5 : Vec F S1x1024x512 .f32)  (x6 : Vec F S1x1024x512 .f32)  (x7 : Vec F S1x1024x1024 .bf16)  (x8 : Vec F S1x4x128x256 .f32)  (x9 : Vec F S1x4x128x256 .f32)
  (xo12 xo13 : Vec F S1x4x128x256 .f32)

theorem stateF_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13).2.2.1 =
      (pcs arg14.view [] (fun _ h => View.readAt (Elt F) arg14.view (rS h).toLoadRect (harg14.unread xo12)) (updS chF 63 harg4 harg3 harg5 x2 x1 x3)) 64 := by
  sl_kernel_rfl

theorem outF_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13).1 =
      opcs chF (ldAt arg14.view [] (fun _ h => View.readAt (Elt F) arg14.view (rS h).toLoadRect (harg14.unread xo12)) (updS chF 63 harg4 harg3 harg5 x2 x1 x3)) (outS chF k0_pay2 harg4 harg2 harg3 harg5 x2 x0 x1 x3) 64 := by
  sl_kernel_rfl

theorem stateB_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13).2.2.2.1 =
      (pcs arg15.view [] (fun _ h => View.readAt (Elt F) arg15.view (rS h).toLoadRect (harg15.unread xo13)) (updS chB 0 harg8 harg7 harg9 x6 x5 x7)) 64 := by
  sl_kernel_rfl

theorem outB_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13).2.1 =
      opcs chB (ldAt arg15.view [] (fun _ h => View.readAt (Elt F) arg15.view (rS h).toLoadRect (harg15.unread xo13)) (updS chB 0 harg8 harg7 harg9 x6 x5 x7)) (outS chB k0_pay3 harg8 harg6 harg7 harg9 x6 x4 x5 x7) 64 := by
  sl_kernel_rfl

end Cert.Chunk

end
-- ==== Proof.Kern.Read.lean ====
/- What the step-indexed lists of Chunk.lean hold when read back: after the steps of `s` chunks a state output holds each
   head's state after those chunks, and each rectangle of an output holds what its own step stored there. -/
module

public import proofs.«01_k».proof.Proof.Kern.Chunk

@[expose] public section

noncomputable section

namespace Cert.Chunk

open Idealize.ShloMosaic Idealize.ShloMosaic.TcCoe
open Cert.KernelIdeal Cert.KernelIdeal.Gen

variable {F : FTy → Type} [FloatOps F]

/-- The head of step `j`. -/
abbrev hOf (j : ℕ) : Fin 4 := ⟨j % 4, Nat.mod_lt _ (by decide)⟩
/-- The chunk rank of step `j`. -/
abbrev sOf (j : ℕ) : Fin 16 := ⟨j / 4 % 16, Nat.mod_lt _ (by decide)⟩

/-- Head `h`'s state before the chunk of rank `s`, from `ini`, a step's new state being `P`. -/
def stN (ini : Fin 4 → Vec F S1x1x128x256 .f32) (P : Fin 16 → Fin 4 → Vec F S1x1x128x256 .f32 → Vec F S1x1x128x256 .f32) :
    ℕ → Fin 4 → Vec F S1x1x128x256 .f32
  | 0, h => ini h
  | s + 1, h => P ⟨s % 16, Nat.mod_lt _ (by decide)⟩ h (stN ini P s h)

section pcs

variable (v : View sig .tc .vmem S1x4x128x256 .f32) (L₀ : List (View.Piece (Elt F) S1x4x128x256 .f32))
  (ld₀ : List (View.Piece (Elt F) S1x4x128x256 .f32) → Fin 4 → Vec F S1x1x128x256 .f32)
  (P : Fin 16 → Fin 4 → Vec F S1x1x128x256 .f32 → Vec F S1x1x128x256 .f32)

theorem pcs_succ (j : ℕ) : pcs v L₀ ld₀ P (j + 1) = ⟨rS (hOf j), P (sOf j) (hOf j) (ldAt v L₀ ld₀ P j)⟩ :: pcs v L₀ ld₀ P j := rfl

theorem rS_disjoint {h h' : Fin 4} (e : h' ≠ h) : Disjoint (rS h').set (rS h).set := by
  refine Rect.unit_disjoint (1 : Fin 4) ?_
  have : h'.val ≠ h.val := fun q => e (Fin.ext q)
  simp only [Matrix.cons_val_one, Matrix.cons_val_zero, Shape.size]
  rcases Nat.lt_or_gt_of_ne this with q | q
  · exact Or.inl q
  · exact Or.inr q

/-- A piece of another head is not seen under head `h`. -/
theorem canon_miss {h h' : Fin 4} (e : h' ≠ h) (w : Vec F S1x1x128x256 .f32) (L : List (View.Piece (Elt F) S1x4x128x256 .f32))
    (x : S1x1x128x256.Idx) : View.canon (⟨rS h', w⟩ :: L) ((rS h).emb x) = View.canon L ((rS h).emb x) :=
  View.canon_cons_of_not_mem _ L (Finset.disjoint_right.mp (rS_disjoint e) ((rS h).toLoadRect.idx_mem x))

/-- Before its first step a head's place holds what stood before. -/
theorem canon_pcs_zero (h : Fin 4) (x : S1x1x128x256.Idx) : ∀ j : ℕ, j ≤ h.val →
    View.canon (pcs v L₀ ld₀ P j) ((rS h).emb x) = View.canon L₀ ((rS h).emb x)
  | 0, _ => rfl
  | j + 1, hj => by
    rw [pcs_succ, canon_miss (fun e => by have := congrArg Fin.val e; have := h.isLt; simp at *; omega), canon_pcs_zero h x j (by omega)]

/-- A head's newest piece is what its place holds. -/
theorem canon_hit (h : Fin 4) (w : Vec F S1x1x128x256 .f32) (L : List (View.Piece (Elt F) S1x4x128x256 .f32))
    (x : S1x1x128x256.Idx) : View.canon (⟨rS h, w⟩ :: L) ((rS h).emb x) = w x := View.canon_cons_emb (rS h) w L x

theorem ldAt_lt {j : ℕ} (h : j < 4) : ldAt v L₀ ld₀ P j = ld₀ (pcs v L₀ ld₀ P j) (hOf j) := by
  have : Nat.blt j 4 = true := Nat.ble_eq_true_of_le h
  unfold ldAt
  exact congrArg (fun b => cond b (ld₀ (pcs v L₀ ld₀ P j) (hOf j)) (v.readCov (pcs v L₀ ld₀ P j) (rS (hOf j)).toLoadRect)) this

theorem ldAt_ge {j : ℕ} (h : ¬j < 4) (x : S1x1x128x256.Idx) :
    ldAt v L₀ ld₀ P j x = View.canon (pcs v L₀ ld₀ P j) ((rS (hOf j)).emb x) := by
  have : Nat.blt j 4 = false := by
    cases e : Nat.blt j 4 with
    | false => rfl
    | true => exact absurd (Nat.le_of_ble_eq_true e) h
  have e : ldAt v L₀ ld₀ P j = v.readCov (pcs v L₀ ld₀ P j) (rS (hOf j)).toLoadRect := by
    unfold ldAt
    exact congrArg (fun b => cond b (ld₀ (pcs v L₀ ld₀ P j) (hOf j)) (v.readCov (pcs v L₀ ld₀ P j) (rS (hOf j)).toLoadRect)) this
  have e' := congrFun (View.readCov_eq_canon' v (pcs v L₀ ld₀ P j) (rS (hOf j)).toLoadRect) x
  exact (congrFun e x).trans e'

variable {ld₀ L₀ P}

/-- After `j` steps a head that has had a step holds its state after its last one. -/
theorem canon_pcs (ini : Fin 4 → Vec F S1x1x128x256 .f32)
    (hld : ∀ j < 4, ld₀ (pcs v L₀ ld₀ P j) (hOf j) = ini (hOf j)) (h : Fin 4) (x : S1x1x128x256.Idx) :
    ∀ j : ℕ, h.val < j → View.canon (pcs v L₀ ld₀ P j) ((rS h).emb x) = stN ini P ((j + 3 - h.val) / 4) h x := by
  intro j
  induction j using Nat.strong_induction_on generalizing h x with
  | _ j ih =>
    intro hj
    obtain ⟨j, rfl⟩ : ∃ i, j = i + 1 := ⟨j - 1, by omega⟩
    have hh := h.isLt
    rw [pcs_succ]
    by_cases e : hOf j = h
    · subst e
      have hl : ldAt v L₀ ld₀ P j = stN ini P (j / 4) (hOf j) := by
        by_cases h4 : j < 4
        · rw [ldAt_lt v _ _ _ h4, hld j h4, Nat.div_eq_of_lt h4]
          rfl
        · funext y
          rw [ldAt_ge v _ _ _ h4, ih j (by omega) (hOf j) y (by simp; omega)]
          have e2 : (j + 3 - (hOf j).val) / 4 = j / 4 := by simp; omega
          rw [e2]
      rw [hl]
      rw [canon_hit]
      have e2 : (j + 1 + 3 - (hOf j).val) / 4 = j / 4 + 1 := by simp; omega
      rw [e2]
      rfl
    · rw [canon_miss e]
      have hne : j % 4 ≠ h.val := fun q => e (Fin.ext q)
      rw [ih j (by omega) h x (by omega)]
      congr 1
      omega

/-- A step loads its head's state before its chunk. -/
theorem ldAt_eq (ini : Fin 4 → Vec F S1x1x128x256 .f32)
    (hld : ∀ j < 4, ld₀ (pcs v L₀ ld₀ P j) (hOf j) = ini (hOf j)) (j : ℕ) :
    ldAt v L₀ ld₀ P j = stN ini P (j / 4) (hOf j) := by
  by_cases h4 : j < 4
  · rw [ldAt_lt v _ _ _ h4, hld j h4, Nat.div_eq_of_lt h4]
    rfl
  · funext y
    rw [ldAt_ge v _ _ _ h4, canon_pcs v ini hld (hOf j) y j (by simp; omega)]
    have e2 : (j + 3 - (hOf j).val) / 4 = j / 4 := by simp; omega
    rw [e2]

end pcs

section opcs

variable {ch : Fin 16 → Fin 16} (hch : Function.Injective ch) (ld : ℕ → Vec F S1x1x128x256 .f32)
  (O : Fin 16 → Fin 4 → Vec F S1x1x128x256 .f32 → Vec F S1x64x256 .bf16)

theorem opcs_succ (j : ℕ) : opcs ch ld O (j + 1) = ⟨rV (ch (sOf j)) (hOf j), O (sOf j) (hOf j) (ld j)⟩ :: opcs ch ld O j := rfl

theorem rV_disjoint {n n' : Fin 16} {h h' : Fin 4} (e : n' ≠ n ∨ h' ≠ h) : Disjoint (rV n' h').set (rV n h).set := by
  have := n.isLt; have := n'.isLt; have := h.isLt; have := h'.isLt
  rcases e with e | e
  · refine Rect.unit_disjoint (1 : Fin 3) ?_
    have : n'.val ≠ n.val := fun q => e (Fin.ext q)
    show 64 * n'.val + 64 ≤ 64 * n.val ∨ 64 * n.val + 64 ≤ 64 * n'.val
    omega
  · refine Rect.unit_disjoint (2 : Fin 3) ?_
    have : h'.val ≠ h.val := fun q => e (Fin.ext q)
    show 256 * h'.val + 256 ≤ 256 * h.val ∨ 256 * h.val + 256 ≤ 256 * h'.val
    omega

/-- A rectangle's newest piece is what it holds. -/
theorem canon_hitV (n : Fin 16) (h : Fin 4) (w : Vec F S1x64x256 .bf16) (L : List (View.Piece (Elt F) S1x1024x1024 .bf16))
    (x : S1x64x256.Idx) : View.canon (⟨rV n h, w⟩ :: L) ((rV n h).emb x) = w x := View.canon_cons_emb (rV n h) w L x

theorem canon_missV {n n' : Fin 16} {h h' : Fin 4} (e : n' ≠ n ∨ h' ≠ h) (w : Vec F S1x64x256 .bf16)
    (L : List (View.Piece (Elt F) S1x1024x1024 .bf16)) (x : S1x64x256.Idx) :
    View.canon (⟨rV n' h', w⟩ :: L) ((rV n h).emb x) = View.canon L ((rV n h).emb x) :=
  View.canon_cons_of_not_mem _ L (Finset.disjoint_right.mp (rV_disjoint e) ((rV n h).toLoadRect.idx_mem x))

include hch in
/-- A rectangle of an output holds what its own step stored. -/
theorem canon_opcs (s : Fin 16) (h : Fin 4) (x : S1x64x256.Idx) : ∀ j : ℕ, j ≤ 64 → 4 * s.val + h.val < j →
    View.canon (opcs ch ld O j) ((rV (ch s) h).emb x) = O s h (ld (4 * s.val + h.val)) x
  | 0, _, hj => absurd hj (Nat.not_lt_zero _)
  | j + 1, h64, hj => by
    have hs := s.isLt; have hh := h.isLt
    rw [opcs_succ]
    by_cases e : j = 4 * s.val + h.val
    · subst e
      have e1 : sOf (4 * s.val + h.val) = s := Fin.ext (by show (4 * s.val + h.val) / 4 % 16 = s.val; omega)
      have e2 : hOf (4 * s.val + h.val) = h := Fin.ext (by show (4 * s.val + h.val) % 4 = h.val; omega)
      rw [e1, e2, canon_hitV]
    · have hd : ch (sOf j) ≠ ch s ∨ hOf j ≠ h := by
        by_contra q
        rw [not_or, not_not, not_not] at q
        have q1 : j / 4 % 16 = s.val := congrArg Fin.val (hch q.1)
        have q2 : j % 4 = h.val := congrArg Fin.val q.2
        omega
      rw [canon_missV hd]
      exact canon_opcs s h x j (by omega) (by omega)

end opcs

end Cert.Chunk

end
-- ==== Proof.Kern.Body.lean ====
/- What a grid point leaves in its four output buffers, rectangle by rectangle: each head's state after the point's sixteen
   chunks, and for each chunk and head the rows its step computed from the state before the chunk. -/
module

public import proofs.«01_k».proof.Proof.Kern.ListsA
public import proofs.«01_k».proof.Proof.Kern.ListsB
public import proofs.«01_k».proof.Proof.Kern.Read
public import Idealize.ShloMosaic.Lib.WholeRead

@[expose] public section

noncomputable section

namespace Cert.Chunk

open Idealize.ShloMosaic Idealize.ShloMosaic.TcCoe
open Cert.KernelIdeal Cert.KernelIdeal.Gen

variable {F : FTy → Type} [FloatOps F]

/-- Chunk `n`'s rows of a block, as values. -/
def ck (x : Vec F S1x1024x512 .f32) (n : Fin 16) : Vec F S1x64x512 .f32 := fun y => x ((rK n).emb y)
/-- Chunk `n`'s rows, head `h`'s columns of a block, as values. -/
def cv (x : Vec F S1x1024x1024 .bf16) (n : Fin 16) (h : Fin 4) : Vec F S1x64x256 .bf16 := fun y => x ((rV n h).emb y)
/-- Head `h`'s matrix of a state block, as values. -/
def cs (x : Vec F S1x4x128x256 .f32) (h : Fin 4) : Vec F S1x1x128x256 .f32 := fun y => x ((rS h).emb y)

theorem lk_eq {arg : Memref sig .tc .vmem S1x1024x512 .f32} (ha : arg.IsWhole) (x : Vec F S1x1024x512 .f32) (n : Fin 16) :
    lk ha x n = ck x n := funext fun y => ha.readAt_unread x (rK n).toLoadRect y
theorem lv_eq {arg : Memref sig .tc .vmem S1x1024x1024 .bf16} (ha : arg.IsWhole) (x : Vec F S1x1024x1024 .bf16) (n : Fin 16)
    (h : Fin 4) : lv ha x n h = cv x n h := funext fun y => ha.readAt_unread x (rV n h).toLoadRect y

/-- A step's new state, as values. -/
def nS (ch : Fin 16 → Fin 16) (r : Fin 64) (la k : Vec F S1x1024x512 .f32) (v : Vec F S1x1024x1024 .bf16) (s : Fin 16)
    (h : Fin 4) (st : Vec F S1x1x128x256 .f32) : Vec F S1x1x128x256 .f32 := updP r h (ck la (ch s)) (ck k (ch s)) (cv v (ch s) h) st

/-- A step's rows of the output, as values. -/
def nO (ch : Fin 16 → Fin 16) (keep : IVec S64x64 1) (la q k : Vec F S1x1024x512 .f32) (v : Vec F S1x1024x1024 .bf16)
    (s : Fin 16) (h : Fin 4) (st : Vec F S1x1x128x256 .f32) : Vec F S1x64x256 .bf16 :=
  outP keep h (ck la (ch s)) (ck q (ch s)) (ck k (ch s)) (cv v (ch s) h) st

theorem updS_eq (ch : Fin 16 → Fin 16) (r : Fin 64) {arga argk : Memref sig .tc .vmem S1x1024x512 .f32} (ha : arga.IsWhole)
    (hk : argk.IsWhole) {argv : Memref sig .tc .vmem S1x1024x1024 .bf16} (hv : argv.IsWhole)
    (la k : Vec F S1x1024x512 .f32) (v : Vec F S1x1024x1024 .bf16) : updS ch r ha hk hv la k v = nS ch r la k v := by
  funext s h st
  show updP r h (lk ha la (ch s)) (lk hk k (ch s)) (lv hv v (ch s) h) st = _
  rw [lk_eq, lk_eq, lv_eq]
  rfl

theorem outS_eq (ch : Fin 16 → Fin 16) (keep : IVec S64x64 1) {arga argq argk : Memref sig .tc .vmem S1x1024x512 .f32}
    (ha : arga.IsWhole) (hq : argq.IsWhole) (hk : argk.IsWhole) {argv : Memref sig .tc .vmem S1x1024x1024 .bf16}
    (hv : argv.IsWhole) (la q k : Vec F S1x1024x512 .f32) (v : Vec F S1x1024x1024 .bf16) :
    outS ch keep ha hq hk hv la q k v = nO ch keep la q k v := by
  funext s h st
  show outP keep h (lk ha la (ch s)) (lk hq q (ch s)) (lk hk k (ch s)) (lv hv v (ch s) h) st = _
  rw [lk_eq, lk_eq, lk_eq, lv_eq]
  rfl

/-- Head `h`'s state before the point's chunk of rank `s`. -/
abbrev stK (ch : Fin 16 → Fin 16) (r : Fin 64) (la k : Vec F S1x1024x512 .f32) (v : Vec F S1x1024x1024 .bf16)
    (S : Vec F S1x4x128x256 .f32) (s : ℕ) (h : Fin 4) : Vec F S1x1x128x256 .f32 := stN (cs S) (nS ch r la k v) s h

theorem chF_inj : Function.Injective chF := fun _ _ e => e
theorem chB_inj : Function.Injective chB := fun a b e => by
  have : 15 - a.val = 15 - b.val := congrArg Fin.val e
  exact Fin.ext (by omega)

section lists

variable (v : View sig .tc .vmem S1x4x128x256 .f32)
  (ld₀ : List (View.Piece (Elt F) S1x4x128x256 .f32) → Fin 4 → Vec F S1x1x128x256 .f32)
  (P : Fin 16 → Fin 4 → Vec F S1x1x128x256 .f32 → Vec F S1x1x128x256 .f32) (S : Vec F S1x4x128x256 .f32)

/-- The whole block, as a rectangle. -/
abbrev full : Rect S1x4x128x256 :=
  Rect.unit (s := S1x4x128x256) ![0, 0, 0, 0] S1x4x128x256.size inb_S1x4x128x256_S1x4x128x256_0_0_0_0

theorem full_emb (y : S1x4x128x256.Idx) : full.emb y = y := by
  refine full.emb_eq_of_coords y y fun a => ?_
  fin_cases a <;> simp [full]

/-- The pieces of a buffer first filled whole with the initial state. -/
def iniL {arg : Memref sig .tc .vmem S1x4x128x256 .f32} (ha : arg.IsWhole) :
    List (View.Piece (Elt F) S1x4x128x256 .f32) :=
  [⟨full, View.readAt (Elt F) arg.view full.toLoadRect (ha.unread S)⟩]
/-- The first chunk's loads, of a buffer already written. -/
def ldA : List (View.Piece (Elt F) S1x4x128x256 .f32) → Fin 4 → Vec F S1x1x128x256 .f32 :=
  fun L h => v.readCov L (rS h).toLoadRect
/-- The first chunk's loads, of a buffer carried on. -/
def ldB {arg : Memref sig .tc .vmem S1x4x128x256 .f32} (ha : arg.IsWhole) :
    List (View.Piece (Elt F) S1x4x128x256 .f32) → Fin 4 → Vec F S1x1x128x256 .f32 :=
  fun _ h => View.readAt (Elt F) arg.view (rS h).toLoadRect (ha.unread S)

/-- A buffer carried on holds the carried state where the first chunk's steps load it. -/
theorem hld_B {arg : Memref sig .tc .vmem S1x4x128x256 .f32} (ha : arg.IsWhole) (L₀ : List (View.Piece (Elt F) S1x4x128x256 .f32)) :
    ∀ j < 4, ldB S ha (pcs v L₀ (ldB S ha) P j) (hOf j) = cs S (hOf j) :=
  fun j _ => funext fun y => ha.readAt_unread S (rS (hOf j)).toLoadRect y

/-- A buffer first filled whole with the initial state holds it where the first chunk's steps load it. -/
theorem hld_A {arg : Memref sig .tc .vmem S1x4x128x256 .f32} (ha : arg.IsWhole) :
    ∀ j < 4, ldA v (pcs v (iniL S ha) (ldA v) P j) (hOf j) = cs S (hOf j) := by
  intro j hj
  funext y
  have e' := congrFun (View.readCov_eq_canon' v (pcs v (iniL S ha) (ldA v) P j) (rS (hOf j)).toLoadRect) y
  refine e'.trans ?_
  refine (canon_pcs_zero v _ _ P (hOf j) y j (by show j ≤ j % 4; omega)).trans ?_
  have h1 := View.canon_cons_emb (Val := Elt F) full (View.readAt (Elt F) arg.view full.toLoadRect (ha.unread S)) [] ((rS (hOf j)).emb y)
  rw [full_emb] at h1
  refine h1.trans ((ha.readAt_unread S full.toLoadRect _).trans ?_)
  exact congrArg S (full_emb _)

end lists

variable (c : Dev nD) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1024x512 .f32) (harg4 : arg4.IsWhole)
  (arg5 : Memref sig .tc .vmem S1x1024x1024 .bf16) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1024x512 .f32) (harg8 : arg8.IsWhole)
  (arg9 : Memref sig .tc .vmem S1x1024x1024 .bf16) (harg9 : arg9.IsWhole)
  (arg10 : Memref sig .tc .vmem S1x4x128x256 .f32) (harg10 : arg10.IsWhole)
  (arg11 : Memref sig .tc .vmem S1x4x128x256 .f32) (harg11 : arg11.IsWhole)
  (arg12 : Memref sig .tc .vmem S1x1024x1024 .bf16) (harg12 : arg12.IsWhole)
  (arg13 : Memref sig .tc .vmem S1x1024x1024 .bf16) (harg13 : arg13.IsWhole)
  (arg14 : Memref sig .tc .vmem S1x4x128x256 .f32) (harg14 : arg14.IsWhole)
  (arg15 : Memref sig .tc .vmem S1x4x128x256 .f32) (harg15 : arg15.IsWhole)
  (x0 : Vec F S1x1024x512 .f32)  (x1 : Vec F S1x1024x512 .f32)  (x2 : Vec F S1x1024x512 .f32)  (x3 : Vec F S1x1024x1024 .bf16)  (x4 : Vec F S1x1024x512 .f32)  (x5 : Vec F S1x1024x512 .f32)  (x6 : Vec F S1x1024x512 .f32)  (x7 : Vec F S1x1024x1024 .bf16)  (x8 : Vec F S1x4x128x256 .f32)  (x9 : Vec F S1x4x128x256 .f32)

theorem out12_B (hc0 : ¬cond0_0 i) (xo12 xo13 : Vec F S1x4x128x256 .f32) (h : Fin 4) (x : S1x1x128x256.Idx) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 ((rS h).emb x) = stK chF 63 x2 x1 x3 xo12 16 h x := by
  unfold out0_B_12
  rw [View.read_writes_junk_apply_eq_canon, stateF_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 xo12 xo13 hc0]
  show View.canon (pcs arg14.view [] (ldB xo12 harg14) (updS chF 63 harg4 harg3 harg5 x2 x1 x3) 64) ((rS h).emb x) = _
  have e := canon_pcs arg14.view (cs xo12) (hld_B arg14.view (updS chF 63 harg4 harg3 harg5 x2 x1 x3) xo12 harg14 []) h x 64 (by omega)
  have e2 : (64 + 3 - h.val) / 4 = 16 := by omega
  rw [e2] at e
  refine e.trans ?_
  rw [updS_eq]

theorem out10_B (hc0 : ¬cond0_0 i) (xo12 xo13 : Vec F S1x4x128x256 .f32) (s : Fin 16) (h : Fin 4) (x : S1x64x256.Idx) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 ((rV (chF s) h).emb x)
      = nO chF k0_pay2 x2 x0 x1 x3 s h (stK chF 63 x2 x1 x3 xo12 s.val h) x := by
  unfold out0_B_10
  rw [View.read_writes_junk_apply_eq_canon, outF_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 xo12 xo13 hc0]
  show View.canon (opcs chF (ldAt arg14.view [] (ldB xo12 harg14) (updS chF 63 harg4 harg3 harg5 x2 x1 x3)) (outS chF k0_pay2 harg4 harg2 harg3 harg5 x2 x0 x1 x3) 64) ((rV (chF s) h).emb x) = _
  refine (canon_opcs chF_inj _ _ s h x 64 le_rfl (by omega)).trans ?_
  rw [ldAt_eq arg14.view (cs xo12) (hld_B arg14.view (updS chF 63 harg4 harg3 harg5 x2 x1 x3) xo12 harg14 []) (4 * s.val + h.val), updS_eq, outS_eq]
  have e1 : (4 * s.val + h.val) / 4 = s.val := by omega
  have e2 : hOf (4 * s.val + h.val) = h := Fin.ext (by show (4 * s.val + h.val) % 4 = h.val; omega)
  rw [e1, e2]

theorem out13_B (hc0 : ¬cond0_0 i) (xo12 xo13 : Vec F S1x4x128x256 .f32) (h : Fin 4) (x : S1x1x128x256.Idx) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 ((rS h).emb x) = stK chB 0 x6 x5 x7 xo13 16 h x := by
  unfold out0_B_13
  rw [View.read_writes_junk_apply_eq_canon, stateB_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 xo12 xo13 hc0]
  show View.canon (pcs arg15.view [] (ldB xo13 harg15) (updS chB 0 harg8 harg7 harg9 x6 x5 x7) 64) ((rS h).emb x) = _
  have e := canon_pcs arg15.view (cs xo13) (hld_B arg15.view (updS chB 0 harg8 harg7 harg9 x6 x5 x7) xo13 harg15 []) h x 64 (by omega)
  have e2 : (64 + 3 - h.val) / 4 = 16 := by omega
  rw [e2] at e
  refine e.trans ?_
  rw [updS_eq]

theorem out11_B (hc0 : ¬cond0_0 i) (xo12 xo13 : Vec F S1x4x128x256 .f32) (s : Fin 16) (h : Fin 4) (x : S1x64x256.Idx) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13 ((rV (chB s) h).emb x)
      = nO chB k0_pay3 x6 x4 x5 x7 s h (stK chB 0 x6 x5 x7 xo13 s.val h) x := by
  unfold out0_B_11
  rw [View.read_writes_junk_apply_eq_canon, outB_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 xo12 xo13 hc0]
  show View.canon (opcs chB (ldAt arg15.view [] (ldB xo13 harg15) (updS chB 0 harg8 harg7 harg9 x6 x5 x7)) (outS chB k0_pay3 harg8 harg6 harg7 harg9 x6 x4 x5 x7) 64) ((rV (chB s) h).emb x) = _
  refine (canon_opcs chB_inj _ _ s h x 64 le_rfl (by omega)).trans ?_
  rw [ldAt_eq arg15.view (cs xo13) (hld_B arg15.view (updS chB 0 harg8 harg7 harg9 x6 x5 x7) xo13 harg15 []) (4 * s.val + h.val), updS_eq, outS_eq]
  have e1 : (4 * s.val + h.val) / 4 = s.val := by omega
  have e2 : hOf (4 * s.val + h.val) = h := Fin.ext (by show (4 * s.val + h.val) % 4 = h.val; omega)
  rw [e1, e2]

theorem out12_A (hc0 : cond0_0 i) (h : Fin 4) (x : S1x1x128x256.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 ((rS h).emb x) = stK chF 63 x2 x1 x3 x8 16 h x := by
  unfold out0_A_12
  rw [View.read_writes_junk_apply_eq_canon, stateF_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 hc0]
  show View.canon (pcs arg14.view (iniL x8 harg10) (ldA arg14.view) (updS chF 63 harg4 harg3 harg5 x2 x1 x3) 64) ((rS h).emb x) = _
  have e := canon_pcs arg14.view (cs x8) (hld_A arg14.view (updS chF 63 harg4 harg3 harg5 x2 x1 x3) x8 harg10) h x 64 (by omega)
  have e2 : (64 + 3 - h.val) / 4 = 16 := by omega
  rw [e2] at e
  refine e.trans ?_
  rw [updS_eq]

theorem out10_A (hc0 : cond0_0 i) (s : Fin 16) (h : Fin 4) (x : S1x64x256.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 ((rV (chF s) h).emb x)
      = nO chF k0_pay2 x2 x0 x1 x3 s h (stK chF 63 x2 x1 x3 x8 s.val h) x := by
  unfold out0_A_10
  rw [View.read_writes_junk_apply_eq_canon, outF_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 hc0]
  show View.canon (opcs chF (ldAt arg14.view (iniL x8 harg10) (ldA arg14.view) (updS chF 63 harg4 harg3 harg5 x2 x1 x3)) (outS chF k0_pay2 harg4 harg2 harg3 harg5 x2 x0 x1 x3) 64) ((rV (chF s) h).emb x) = _
  refine (canon_opcs chF_inj _ _ s h x 64 le_rfl (by omega)).trans ?_
  rw [ldAt_eq arg14.view (cs x8) (hld_A arg14.view (updS chF 63 harg4 harg3 harg5 x2 x1 x3) x8 harg10) (4 * s.val + h.val), updS_eq, outS_eq]
  have e1 : (4 * s.val + h.val) / 4 = s.val := by omega
  have e2 : hOf (4 * s.val + h.val) = h := Fin.ext (by show (4 * s.val + h.val) % 4 = h.val; omega)
  rw [e1, e2]

theorem out13_A (hc0 : cond0_0 i) (h : Fin 4) (x : S1x1x128x256.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 ((rS h).emb x) = stK chB 0 x6 x5 x7 x9 16 h x := by
  unfold out0_A_13
  rw [View.read_writes_junk_apply_eq_canon, stateB_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 hc0]
  show View.canon (pcs arg15.view (iniL x9 harg11) (ldA arg15.view) (updS chB 0 harg8 harg7 harg9 x6 x5 x7) 64) ((rS h).emb x) = _
  have e := canon_pcs arg15.view (cs x9) (hld_A arg15.view (updS chB 0 harg8 harg7 harg9 x6 x5 x7) x9 harg11) h x 64 (by omega)
  have e2 : (64 + 3 - h.val) / 4 = 16 := by omega
  rw [e2] at e
  refine e.trans ?_
  rw [updS_eq]

theorem out11_A (hc0 : cond0_0 i) (s : Fin 16) (h : Fin 4) (x : S1x64x256.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 ((rV (chB s) h).emb x)
      = nO chB k0_pay3 x6 x4 x5 x7 s h (stK chB 0 x6 x5 x7 x9 s.val h) x := by
  unfold out0_A_11
  rw [View.read_writes_junk_apply_eq_canon, outB_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 hc0]
  show View.canon (opcs chB (ldAt arg15.view (iniL x9 harg11) (ldA arg15.view) (updS chB 0 harg8 harg7 harg9 x6 x5 x7)) (outS chB k0_pay3 harg8 harg6 harg7 harg9 x6 x4 x5 x7) 64) ((rV (chB s) h).emb x) = _
  refine (canon_opcs chB_inj _ _ s h x 64 le_rfl (by omega)).trans ?_
  rw [ldAt_eq arg15.view (cs x9) (hld_A arg15.view (updS chB 0 harg8 harg7 harg9 x6 x5 x7) x9 harg11) (4 * s.val + h.val), updS_eq, outS_eq]
  have e1 : (4 * s.val + h.val) / 4 = s.val := by omega
  have e2 : hOf (4 * s.val + h.val) = h := Fin.ext (by show (4 * s.val + h.val) % 4 = h.val; omega)
  rw [e1, e2]

end Cert.Chunk

end
-- ==== Proof.Kern.Scan.lean ====
/- The grid's sixteen points: what each leaves in the state buffers is the scan's state after its sixteen chunks, and its output
   blocks hold the scan's output. -/
module

public import proofs.«01_k».proof.Proof.Kern.Blocks
public import proofs.«01_k».proof.Proof.Kern.Body

@[expose] public section

set_option maxRecDepth 16384

noncomputable section

namespace Cert.Chunk

open Idealize.ShloMosaic Idealize.ShloMosaic.TcCoe
open Cert.KernelIdeal Cert.KernelIdeal.Gen
open Cert.Gla (Arr)

/-! ## A block's sixteen chunks -/

section block

variable (A : Arr) (b i : Fin 4)

/-- Chunk `s` of a block of query or key rows, in the forward order. -/
theorem k0_chunk (X : Fin 4 → Fin 4096 → Fin 512 → EReal) (x : Vec Ideal S1x1024x512 .f32)
    (hx : ∀ (p : Fin 1024) (y : Fin 512), x (ix3 0 p y) = X b ⟨1024 * i.val + p.val, by omega⟩ y) (s : Fin 16) (h : Fin 4)
    (c : Fin 64) (y : Fin 128) : ck x (chF s) (ix3 0 c (col h y))
      = X b (Gla.pos 0 (Fin.ofNat 64 (16 * i.val + s.val)) c) ⟨128 * h.val + y.val, by omega⟩ := by
  show x ((rK (chF s)).emb (ix3 0 c (col h y))) = _
  rw [rK_emb, hx]
  congr 1
  refine Fin.ext ?_
  simp only [Gla.pos, Fin.ofNat, chF, Fin.val_rev, if_pos, if_neg, one_ne_zero, ↓reduceIte]
  omega

/-- Chunk `s` of a block of log decays, in the forward order. -/
theorem la0_chunk (x : Vec Ideal S1x1024x512 .f32)
    (hx : ∀ (p : Fin 1024) (y : Fin 512), x (ix3 0 p y) = A.la b ⟨1024 * i.val + p.val, by omega⟩ ⟨y.val, by omega⟩) (s : Fin 16)
    (h : Fin 4) : (fun (c : Fin 64) (y : Fin 128) => ck x (chF s) (ix3 0 c (col h y)))
      = A.las 0 b h (Fin.ofNat 64 (16 * i.val + s.val)) := by
  funext c y
  show x ((rK (chF s)).emb (ix3 0 c (col h y))) = _
  rw [rK_emb, hx]
  unfold Arr.las
  congr 1
  · refine Fin.ext ?_
    simp only [Gla.pos, Fin.ofNat, chF, Fin.val_rev, if_pos, if_neg, one_ne_zero, ↓reduceIte]
    omega
  · refine Fin.ext ?_
    simp

/-- Chunk `s` of a block of values, in the forward order. -/
theorem v0_chunk (x : Vec Ideal S1x1024x1024 .bf16)
    (hx : ∀ (p : Fin 1024) (y : Fin 1024), x (ix3 0 p y) = A.v b ⟨1024 * i.val + p.val, by omega⟩ y) (s : Fin 16)
    (h : Fin 4) : (fun (c : Fin 64) (e : Fin 256) => cv x (chF s) h (ix3 0 c e))
      = A.vs 0 b h (Fin.ofNat 64 (16 * i.val + s.val)) := by
  funext c y
  show x ((rV (chF s) h).emb (ix3 0 c y)) = _
  rw [rV_emb, hx]
  unfold Arr.vs
  congr 1
  refine Fin.ext ?_
  simp only [Gla.pos, Fin.ofNat, chF, Fin.val_rev, if_pos, if_neg, one_ne_zero, ↓reduceIte]
  omega

/-- The forward states inside a block. -/
theorem st0_block (la k : Vec Ideal S1x1024x512 .f32) (v : Vec Ideal S1x1024x1024 .bf16) (S : Vec Ideal S1x4x128x256 .f32)
    (hla : ∀ (p : Fin 1024) (y : Fin 512), la (ix3 0 p y) = A.la b ⟨1024 * i.val + p.val, by omega⟩ ⟨y.val, by omega⟩)
    (hk : ∀ (p : Fin 1024) (y : Fin 512), k (ix3 0 p y) = A.k b ⟨1024 * i.val + p.val, by omega⟩ y)
    (hv : ∀ (p : Fin 1024) (y : Fin 1024), v (ix3 0 p y) = A.v b ⟨1024 * i.val + p.val, by omega⟩ y) (h : Fin 4)
    (hS : ∀ (x : Fin 128) (e : Fin 256), S (ix4 0 h x e) = A.st 0 b h (16 * i.val) x e) :
    ∀ s : ℕ, s ≤ 16 → (fun (x : Fin 128) (e : Fin 256) => stK chF 63 la k v S s h (ix4 0 0 x e)) = A.st 0 b h (16 * i.val + s)
  | 0, _ => by
    funext x e
    show S ((rS h).emb (ix4 0 0 x e)) = _
    rw [rS_emb, hS]
    rfl
  | s + 1, hs => by
    funext x e
    have ih := st0_block la k v S hla hk hv h hS s (by omega)
    have e1 : (⟨s % 16, Nat.mod_lt _ (by decide)⟩ : Fin 16) = ⟨s, by omega⟩ := Fin.ext (Nat.mod_eq_of_lt (by omega))
    show nS chF 63 la k v ⟨s % 16, Nat.mod_lt _ (by decide)⟩ h (stK chF 63 la k v S s h) (ix4 0 0 x e) = _
    rw [e1]
    refine (updF h _ _ _ _ x e).trans ?_
    rw [la0_chunk A b i la hla ⟨s, by omega⟩ h, v0_chunk A b i v hv ⟨s, by omega⟩ h, ih]
    have e2 : (fun (c : Fin 64) (y : Fin 128) => ck k (chF ⟨s, by omega⟩) (ix3 0 c (col h y)))
        = A.ks 0 b h (Fin.ofNat 64 (16 * i.val + s)) := by
      funext c y
      exact k0_chunk b i A.k k hk ⟨s, by omega⟩ h c y
    rw [e2]
    rfl

/-- The forward output inside a block. -/
theorem o0_block (la q k : Vec Ideal S1x1024x512 .f32) (v : Vec Ideal S1x1024x1024 .bf16) (S : Vec Ideal S1x4x128x256 .f32)
    (hla : ∀ (p : Fin 1024) (y : Fin 512), la (ix3 0 p y) = A.la b ⟨1024 * i.val + p.val, by omega⟩ ⟨y.val, by omega⟩)
    (hq : ∀ (p : Fin 1024) (y : Fin 512), q (ix3 0 p y) = A.q b ⟨1024 * i.val + p.val, by omega⟩ y)
    (hk : ∀ (p : Fin 1024) (y : Fin 512), k (ix3 0 p y) = A.k b ⟨1024 * i.val + p.val, by omega⟩ y)
    (hv : ∀ (p : Fin 1024) (y : Fin 1024), v (ix3 0 p y) = A.v b ⟨1024 * i.val + p.val, by omega⟩ y) (h : Fin 4)
    (hS : ∀ (x : Fin 128) (e : Fin 256), S (ix4 0 h x e) = A.st 0 b h (16 * i.val) x e) (s : Fin 16) (c : Fin 64) (e : Fin 256) :
    nO chF k0_pay2 la q k v s h (stK chF 63 la k v S s.val h) (ix3 0 c e)
      = A.o 0 b h ⟨16 * i.val + s.val, by omega⟩ c e := by
  have e0 : Fin.ofNat 64 (16 * i.val + s.val) = ⟨16 * i.val + s.val, by omega⟩ := Fin.ext (Nat.mod_eq_of_lt (by omega))
  refine (outF h _ _ _ _ _ c e).trans ?_
  rw [la0_chunk A b i la hla s h, v0_chunk A b i v hv s h, st0_block A b i la k v S hla hk hv h hS s.val (by omega)]
  have e2 : (fun (c : Fin 64) (y : Fin 128) => ck k (chF s) (ix3 0 c (col h y)))
      = A.ks 0 b h (Fin.ofNat 64 (16 * i.val + s.val)) := by
    funext c y
    exact k0_chunk b i A.k k hk s h c y
  have e3 : (fun (c : Fin 64) (y : Fin 128) => ck q (chF s) (ix3 0 c (col h y)))
      = A.qs 0 b h (Fin.ofNat 64 (16 * i.val + s.val)) := by
    funext c y
    exact k0_chunk b i A.q q hq s h c y
  rw [e2, e3, e0]
  rfl

/-- Chunk `s` of a block of query or key rows, in the backward order. -/
theorem k1_chunk (X : Fin 4 → Fin 4096 → Fin 512 → EReal) (x : Vec Ideal S1x1024x512 .f32)
    (hx : ∀ (p : Fin 1024) (y : Fin 512), x (ix3 0 p y) = X b ⟨1024 * (3 - i.val) + p.val, by omega⟩ y) (s : Fin 16) (h : Fin 4)
    (c : Fin 64) (y : Fin 128) : ck x (chB s) (ix3 0 c.rev (col h y))
      = X b (Gla.pos 1 (Fin.ofNat 64 (16 * i.val + s.val)) c) ⟨128 * h.val + y.val, by omega⟩ := by
  show x ((rK (chB s)).emb (ix3 0 c.rev (col h y))) = _
  rw [rK_emb, hx]
  congr 1
  refine Fin.ext ?_
  simp only [Gla.pos, Fin.ofNat, chB, Fin.val_rev, if_pos, if_neg, one_ne_zero, ↓reduceIte]
  omega

/-- Chunk `s` of a block of log decays, in the backward order. -/
theorem la1_chunk (x : Vec Ideal S1x1024x512 .f32)
    (hx : ∀ (p : Fin 1024) (y : Fin 512), x (ix3 0 p y) = A.la b ⟨1024 * (3 - i.val) + p.val, by omega⟩ ⟨512 + y.val, by omega⟩) (s : Fin 16)
    (h : Fin 4) : (fun (c : Fin 64) (y : Fin 128) => ck x (chB s) (ix3 0 c.rev (col h y)))
      = A.las 1 b h (Fin.ofNat 64 (16 * i.val + s.val)) := by
  funext c y
  show x ((rK (chB s)).emb (ix3 0 c.rev (col h y))) = _
  rw [rK_emb, hx]
  unfold Arr.las
  congr 1
  · refine Fin.ext ?_
    simp only [Gla.pos, Fin.ofNat, chB, Fin.val_rev, if_pos, if_neg, one_ne_zero, ↓reduceIte]
    omega

/-- Chunk `s` of a block of values, in the backward order. -/
theorem v1_chunk (x : Vec Ideal S1x1024x1024 .bf16)
    (hx : ∀ (p : Fin 1024) (y : Fin 1024), x (ix3 0 p y) = A.v b ⟨1024 * (3 - i.val) + p.val, by omega⟩ y) (s : Fin 16)
    (h : Fin 4) : (fun (c : Fin 64) (e : Fin 256) => cv x (chB s) h (ix3 0 c.rev e))
      = A.vs 1 b h (Fin.ofNat 64 (16 * i.val + s.val)) := by
  funext c y
  show x ((rV (chB s) h).emb (ix3 0 c.rev y)) = _
  rw [rV_emb, hx]
  unfold Arr.vs
  congr 1
  refine Fin.ext ?_
  simp only [Gla.pos, Fin.ofNat, chB, Fin.val_rev, if_pos, if_neg, one_ne_zero, ↓reduceIte]
  omega

/-- The backward states inside a block. -/
theorem st1_block (la k : Vec Ideal S1x1024x512 .f32) (v : Vec Ideal S1x1024x1024 .bf16) (S : Vec Ideal S1x4x128x256 .f32)
    (hla : ∀ (p : Fin 1024) (y : Fin 512), la (ix3 0 p y) = A.la b ⟨1024 * (3 - i.val) + p.val, by omega⟩ ⟨512 + y.val, by omega⟩)
    (hk : ∀ (p : Fin 1024) (y : Fin 512), k (ix3 0 p y) = A.k b ⟨1024 * (3 - i.val) + p.val, by omega⟩ y)
    (hv : ∀ (p : Fin 1024) (y : Fin 1024), v (ix3 0 p y) = A.v b ⟨1024 * (3 - i.val) + p.val, by omega⟩ y) (h : Fin 4)
    (hS : ∀ (x : Fin 128) (e : Fin 256), S (ix4 0 h x e) = A.st 1 b h (16 * i.val) x e) :
    ∀ s : ℕ, s ≤ 16 → (fun (x : Fin 128) (e : Fin 256) => stK chB 0 la k v S s h (ix4 0 0 x e)) = A.st 1 b h (16 * i.val + s)
  | 0, _ => by
    funext x e
    show S ((rS h).emb (ix4 0 0 x e)) = _
    rw [rS_emb, hS]
    rfl
  | s + 1, hs => by
    funext x e
    have ih := st1_block la k v S hla hk hv h hS s (by omega)
    have e1 : (⟨s % 16, Nat.mod_lt _ (by decide)⟩ : Fin 16) = ⟨s, by omega⟩ := Fin.ext (Nat.mod_eq_of_lt (by omega))
    show nS chB 0 la k v ⟨s % 16, Nat.mod_lt _ (by decide)⟩ h (stK chB 0 la k v S s h) (ix4 0 0 x e) = _
    rw [e1]
    refine (updB h _ _ _ _ x e).trans ?_
    rw [la1_chunk A b i la hla ⟨s, by omega⟩ h, v1_chunk A b i v hv ⟨s, by omega⟩ h, ih]
    have e2 : (fun (c : Fin 64) (y : Fin 128) => ck k (chB ⟨s, by omega⟩) (ix3 0 c.rev (col h y)))
        = A.ks 1 b h (Fin.ofNat 64 (16 * i.val + s)) := by
      funext c y
      exact k1_chunk b i A.k k hk ⟨s, by omega⟩ h c y
    rw [e2]
    rfl

/-- The backward output inside a block. -/
theorem o1_block (la q k : Vec Ideal S1x1024x512 .f32) (v : Vec Ideal S1x1024x1024 .bf16) (S : Vec Ideal S1x4x128x256 .f32)
    (hla : ∀ (p : Fin 1024) (y : Fin 512), la (ix3 0 p y) = A.la b ⟨1024 * (3 - i.val) + p.val, by omega⟩ ⟨512 + y.val, by omega⟩)
    (hq : ∀ (p : Fin 1024) (y : Fin 512), q (ix3 0 p y) = A.q b ⟨1024 * (3 - i.val) + p.val, by omega⟩ y)
    (hk : ∀ (p : Fin 1024) (y : Fin 512), k (ix3 0 p y) = A.k b ⟨1024 * (3 - i.val) + p.val, by omega⟩ y)
    (hv : ∀ (p : Fin 1024) (y : Fin 1024), v (ix3 0 p y) = A.v b ⟨1024 * (3 - i.val) + p.val, by omega⟩ y) (h : Fin 4)
    (hS : ∀ (x : Fin 128) (e : Fin 256), S (ix4 0 h x e) = A.st 1 b h (16 * i.val) x e) (s : Fin 16) (c : Fin 64) (e : Fin 256) :
    nO chB k0_pay3 la q k v s h (stK chB 0 la k v S s.val h) (ix3 0 c.rev e)
      = A.o 1 b h ⟨16 * i.val + s.val, by omega⟩ c e := by
  have e0 : Fin.ofNat 64 (16 * i.val + s.val) = ⟨16 * i.val + s.val, by omega⟩ := Fin.ext (Nat.mod_eq_of_lt (by omega))
  refine (outB h _ _ _ _ _ c e).trans ?_
  rw [la1_chunk A b i la hla s h, v1_chunk A b i v hv s h, st1_block A b i la k v S hla hk hv h hS s.val (by omega)]
  have e2 : (fun (c : Fin 64) (y : Fin 128) => ck k (chB s) (ix3 0 c.rev (col h y)))
      = A.ks 1 b h (Fin.ofNat 64 (16 * i.val + s.val)) := by
    funext c y
    exact k1_chunk b i A.k k hk s h c y
  have e3 : (fun (c : Fin 64) (y : Fin 128) => ck q (chB s) (ix3 0 c.rev (col h y)))
      = A.qs 1 b h (Fin.ofNat 64 (16 * i.val + s.val)) := by
    funext c y
    exact k1_chunk b i A.q q hq s h c y
  rw [e2, e3, e0]
  rfl

end block

end Cert.Chunk

end
-- ==== Proof.Kern.Points.lean ====
/- The grid's sixteen points: what each leaves in the state buffers is the scan's state after its sixteen chunks, its output
   blocks hold the scan's output, and so the four result arrays hold the scan's outputs and last states. -/
module

public import proofs.«01_k».proof.Proof.Kern.Scan

@[expose] public section

set_option maxRecDepth 16384

noncomputable section

namespace Cert.Chunk

open Idealize.ShloMosaic Idealize.ShloMosaic.TcCoe
open Cert.KernelIdeal Cert.KernelIdeal.Gen
open Cert.Gla (Arr)

variable (m : (ℓ : Loc nD τ sig) → Buf (Elt Ideal) ℓ) (c : Dev nD)

/-- The kernel's arguments, as the attention's arrays. -/
def arrs : Arr where
  q b p y := (m ((c : Thread nD τ).loc main_arg0) : S4x4096x512.Idx → EReal) (ix3 b p y)
  k b p y := (m ((c : Thread nD τ).loc main_arg1) : S4x4096x512.Idx → EReal) (ix3 b p y)
  v b p y := (m ((c : Thread nD τ).loc main_arg2) : S4x4096x1024.Idx → EReal) (ix3 b p y)
  la b p y := (m ((c : Thread nD τ).loc main_arg3) : S4x4096x1024.Idx → EReal) (ix3 b p y)
  s0 d b h x e := if d = 0 then (m ((c : Thread nD τ).loc main_arg4) : S4x4x128x256.Idx → EReal) (ix4 b h x e)
    else (m ((c : Thread nD τ).loc main_arg5) : S4x4x128x256.Idx → EReal) (ix4 b h x e)

theorem lt_prev {n : ℕ} (hn : n < cfg0.N) : n - 1 < cfg0.N := lt_of_le_of_lt (Nat.sub_le n 1) hn

/-- The forward state a point starts from. -/
def pre12 (t : Fin cfg0.N) : Vec Ideal S1x4x128x256 .f32 :=
  if t.val % 4 = 0 then iblk m c 8 t else (outsAt0 m c (t.val - 1) (lt_prev t.isLt)).2.2.1
/-- The backward state a point starts from. -/
def pre13 (t : Fin cfg0.N) : Vec Ideal S1x4x128x256 .f32 :=
  if t.val % 4 = 0 then iblk m c 9 t else (outsAt0 m c (t.val - 1) (lt_prev t.isLt)).2.2.2

section point

variable (t : Fin cfg0.N) (h : Fin 4)

theorem point12 (x : Fin 128) (e : Fin 256) : ((outsAt0 m c t.val t.isLt).2.2.1 : Vec Ideal S1x4x128x256 .f32) (ix4 0 h x e)
    = stK chF 63 (iblk m c 2 t) (iblk m c 1 t) (iblk m c 3 t) (pre12 m c t) 16 h (ix4 0 0 x e) := by
  rw [← rS_emb]
  by_cases h0 : t.val % 4 = 0
  · rw [outsAt0_A m c t h0]
    have e : pre12 m c t = iblk m c 8 t := if_pos h0
    rw [e]
    dsimp only
    exact out12_A (F := Ideal) ..
  · rw [outsAt0_B m c t h0]
    have e : pre12 m c t = (outsAt0 m c (t.val - 1) (lt_prev t.isLt)).2.2.1 := if_neg h0
    rw [e]
    dsimp only
    exact out12_B (F := Ideal) ..

theorem point13 (x : Fin 128) (e : Fin 256) : ((outsAt0 m c t.val t.isLt).2.2.2 : Vec Ideal S1x4x128x256 .f32) (ix4 0 h x e)
    = stK chB 0 (iblk m c 6 t) (iblk m c 5 t) (iblk m c 7 t) (pre13 m c t) 16 h (ix4 0 0 x e) := by
  rw [← rS_emb]
  by_cases h0 : t.val % 4 = 0
  · rw [outsAt0_A m c t h0]
    have e : pre13 m c t = iblk m c 9 t := if_pos h0
    rw [e]
    dsimp only
    exact out13_A (F := Ideal) ..
  · rw [outsAt0_B m c t h0]
    have e : pre13 m c t = (outsAt0 m c (t.val - 1) (lt_prev t.isLt)).2.2.2 := if_neg h0
    rw [e]
    dsimp only
    exact out13_B (F := Ideal) ..

theorem point10 (s : Fin 16) (y : S1x64x256.Idx) :
    ((outsAt0 m c t.val t.isLt).1 : Vec Ideal S1x1024x1024 .bf16) ((rV (chF s) h).emb y)
      = nO chF k0_pay2 (iblk m c 2 t) (iblk m c 0 t) (iblk m c 1 t) (iblk m c 3 t) s h (stK chF 63 (iblk m c 2 t) (iblk m c 1 t) (iblk m c 3 t) (pre12 m c t) s.val h) y := by
  by_cases h0 : t.val % 4 = 0
  · rw [outsAt0_A m c t h0]
    have e : pre12 m c t = iblk m c 8 t := if_pos h0
    rw [e]
    dsimp only
    exact out10_A (F := Ideal) ..
  · rw [outsAt0_B m c t h0]
    have e : pre12 m c t = (outsAt0 m c (t.val - 1) (lt_prev t.isLt)).2.2.1 := if_neg h0
    rw [e]
    dsimp only
    exact out10_B (F := Ideal) ..

theorem point11 (s : Fin 16) (y : S1x64x256.Idx) :
    ((outsAt0 m c t.val t.isLt).2.1 : Vec Ideal S1x1024x1024 .bf16) ((rV (chB s) h).emb y)
      = nO chB k0_pay3 (iblk m c 6 t) (iblk m c 4 t) (iblk m c 5 t) (iblk m c 7 t) s h (stK chB 0 (iblk m c 6 t) (iblk m c 5 t) (iblk m c 7 t) (pre13 m c t) s.val h) y := by
  by_cases h0 : t.val % 4 = 0
  · rw [outsAt0_A m c t h0]
    have e : pre13 m c t = iblk m c 9 t := if_pos h0
    rw [e]
    dsimp only
    exact out11_A (F := Ideal) ..
  · rw [outsAt0_B m c t h0]
    have e : pre13 m c t = (outsAt0 m c (t.val - 1) (lt_prev t.isLt)).2.2.2 := if_neg h0
    rw [e]
    dsimp only
    exact out11_B (F := Ideal) ..

end point

variable (b : Fin 4)

/-- The state block 0 a point starts from is the scan's state before its chunks. -/
theorem pre12_eq (h : Fin 4) : ∀ (n : ℕ) (hn : n < 4) (t : Fin cfg0.N) (ht : t.val = 4 * b.val + n) (x : Fin 128) (e : Fin 256),
    pre12 m c t (ix4 0 h x e) = (arrs m c).st 0 b h (16 * n) x e
  | 0, hn, t, ht, x, e => by
    have e1 : pre12 m c t = iblk m c 8 t := if_pos (by omega)
    rw [e1]
    refine (blk8 m c t b 0 (by simpa using ht) h x e).trans ?_
    simp only [Arr.st, Gla.state, arrs, ↓reduceIte, Nat.mul_zero]
  | n + 1, hn, t, ht, x, e => by
    have ih := pre12_eq h n (by omega) ⟨t.val - 1, lt_prev t.isLt⟩ (by simp only []; omega)
    have e1 : pre12 m c t = (outsAt0 m c (t.val - 1) (lt_prev t.isLt)).2.2.1 := if_neg (by omega)
    rw [e1]
    have ht' : (⟨t.val - 1, lt_prev t.isLt⟩ : Fin cfg0.N).val = 4 * b.val + (⟨n, by omega⟩ : Fin 4).val := by simp only []; omega
    refine (point12 m c ⟨t.val - 1, lt_prev t.isLt⟩ h x e).trans ?_
    exact congrFun (congrFun (st0_block (arrs m c) b ⟨n, by omega⟩ _ _ _ _ (blk2 m c _ b ⟨n, by omega⟩ ht')
      (blk1 m c _ b ⟨n, by omega⟩ ht') (blk3 m c _ b ⟨n, by omega⟩ ht') h ih 16 le_rfl) x) e

/-- The state block 1 a point starts from is the scan's state before its chunks. -/
theorem pre13_eq (h : Fin 4) : ∀ (n : ℕ) (hn : n < 4) (t : Fin cfg0.N) (ht : t.val = 4 * b.val + n) (x : Fin 128) (e : Fin 256),
    pre13 m c t (ix4 0 h x e) = (arrs m c).st 1 b h (16 * n) x e
  | 0, hn, t, ht, x, e => by
    have e1 : pre13 m c t = iblk m c 9 t := if_pos (by omega)
    rw [e1]
    refine (blk9 m c t b 0 (by simpa using ht) h x e).trans ?_
    simp only [Arr.st, Gla.state, arrs, one_ne_zero, ↓reduceIte, Nat.mul_zero]
  | n + 1, hn, t, ht, x, e => by
    have ih := pre13_eq h n (by omega) ⟨t.val - 1, lt_prev t.isLt⟩ (by simp only []; omega)
    have e1 : pre13 m c t = (outsAt0 m c (t.val - 1) (lt_prev t.isLt)).2.2.2 := if_neg (by omega)
    rw [e1]
    have ht' : (⟨t.val - 1, lt_prev t.isLt⟩ : Fin cfg0.N).val = 4 * b.val + (⟨n, by omega⟩ : Fin 4).val := by simp only []; omega
    refine (point13 m c ⟨t.val - 1, lt_prev t.isLt⟩ h x e).trans ?_
    exact congrFun (congrFun (st1_block (arrs m c) b ⟨n, by omega⟩ _ _ _ _ (blk6 m c _ b ⟨n, by omega⟩ ht')
      (blk5 m c _ b ⟨n, by omega⟩ ht') (blk7 m c _ b ⟨n, by omega⟩ ht') h ih 16 le_rfl) x) e

/-- The state a batch's last point leaves. -/
theorem last12 (h : Fin 4) (t : Fin cfg0.N) (ht : t.val = 4 * b.val + 3) (x : Fin 128) (e : Fin 256) :
    ((outsAt0 m c t.val t.isLt).2.2.1 : Vec Ideal S1x4x128x256 .f32) (ix4 0 h x e) = (arrs m c).st 0 b h 64 x e := by
  refine (point12 m c t h x e).trans ?_
  exact congrFun (congrFun (st0_block (arrs m c) b 3 _ _ _ _ (blk2 m c t b 3 ht) (blk1 m c t b 3 ht)
    (blk3 m c t b 3 ht) h (pre12_eq m c b h 3 (by omega) t ht) 16 le_rfl) x) e

/-- The state a batch's last point leaves. -/
theorem last13 (h : Fin 4) (t : Fin cfg0.N) (ht : t.val = 4 * b.val + 3) (x : Fin 128) (e : Fin 256) :
    ((outsAt0 m c t.val t.isLt).2.2.2 : Vec Ideal S1x4x128x256 .f32) (ix4 0 h x e) = (arrs m c).st 1 b h 64 x e := by
  refine (point13 m c t h x e).trans ?_
  exact congrFun (congrFun (st1_block (arrs m c) b 3 _ _ _ _ (blk6 m c t b 3 ht) (blk5 m c t b 3 ht)
    (blk7 m c t b 3 ht) h (pre13_eq m c b h 3 (by omega) t ht) 16 le_rfl) x) e

/-- Output block 0 of a point, at an index. -/
theorem outs10 (i : Fin 4) (t : Fin cfg0.N) (ht : t.val = 4 * b.val + i.val) (p y : Fin 1024) :
    ((outsAt0 m c t.val t.isLt).1 : Vec Ideal S1x1024x1024 .bf16) (ix3 0 p y)
      = (arrs m c).res 0 b ⟨1024 * i.val + p.val, by omega⟩ y := by
  obtain ⟨s, r, rfl⟩ : ∃ (s : Fin 16) (r : Fin 64), p = ⟨64 * (chF s).val + r.val, by omega⟩ :=
    ⟨⟨p.val / 64, by omega⟩, ⟨p.val % 64, by omega⟩,
      Fin.ext (by simp only [chF, Fin.val_rev]; omega)⟩
  obtain ⟨h, e, rfl⟩ : ∃ (h : Fin 4) (e : Fin 256), y = ⟨256 * h.val + e.val, by omega⟩ :=
    ⟨⟨y.val / 256, by omega⟩, ⟨y.val % 256, by omega⟩, Fin.ext (by simp only []; omega)⟩
  rw [← rV_emb (chF s) h r e]
  refine (point10 m c t h s _).trans ?_
  refine (o0_block (arrs m c) b i _ _ _ _ _ (blk2 m c t b i ht) (blk0 m c t b i ht) (blk1 m c t b i ht)
    (blk3 m c t b i ht) h (pre12_eq m c b h i.val i.isLt t ht) s r e).trans ?_
  refine ((arrs m c).res_pos 0 b h ⟨16 * i.val + s.val, by omega⟩ r e).symm.trans ?_
  congr 1
  refine Fin.ext ?_
  simp only [Gla.pos, chF, Fin.val_rev, one_ne_zero, ↓reduceIte]
  omega

/-- Output block 1 of a point, at an index. -/
theorem outs11 (i : Fin 4) (t : Fin cfg0.N) (ht : t.val = 4 * b.val + i.val) (p y : Fin 1024) :
    ((outsAt0 m c t.val t.isLt).2.1 : Vec Ideal S1x1024x1024 .bf16) (ix3 0 p y)
      = (arrs m c).res 1 b ⟨1024 * (3 - i.val) + p.val, by omega⟩ y := by
  obtain ⟨s, r, rfl⟩ : ∃ (s : Fin 16) (r : Fin 64), p = ⟨64 * (chB s).val + r.rev.val, by omega⟩ :=
    ⟨⟨15 - p.val / 64, by omega⟩, ⟨63 - p.val % 64, by omega⟩,
      Fin.ext (by simp only [chB, Fin.val_rev]; omega)⟩
  obtain ⟨h, e, rfl⟩ : ∃ (h : Fin 4) (e : Fin 256), y = ⟨256 * h.val + e.val, by omega⟩ :=
    ⟨⟨y.val / 256, by omega⟩, ⟨y.val % 256, by omega⟩, Fin.ext (by simp only []; omega)⟩
  rw [← rV_emb (chB s) h r.rev e]
  refine (point11 m c t h s _).trans ?_
  refine (o1_block (arrs m c) b i _ _ _ _ _ (blk6 m c t b i ht) (blk4 m c t b i ht) (blk5 m c t b i ht)
    (blk7 m c t b i ht) h (pre13_eq m c b h i.val i.isLt t ht) s r e).trans ?_
  refine ((arrs m c).res_pos 1 b h ⟨16 * i.val + s.val, by omega⟩ r e).symm.trans ?_
  congr 1
  refine Fin.ext ?_
  simp only [Gla.pos, chB, Fin.val_rev, one_ne_zero, ↓reduceIte]
  omega

/-! ## The result arrays -/

theorem final10 : (dats m 0 c).arrAt 10 cfg0.N = (fun j : S4x4096x1024.Idx => (arrs m c).res 0 (j 0) (j 1) (j 2)) := by
  refine (dats m 0 c).arrAt_eq_of_covers 10 _ (by decide +kernel) fun t hf y => ?_
  blk_simp
  rw [after0_10]
  have y' : S1x1024x1024.Idx := y
  obtain ⟨a, p, q, rfl⟩ : ∃ (a : Fin 1) (p : Fin 1024) (q : Fin 1024), y = (ix3 a p q : S1x1024x1024.Idx) := ⟨y 0, y 1, y 2, eq_ix3 y⟩
  obtain rfl : a = 0 := Subsingleton.elim _ _
  have htN : t.val < 16 := t.isLt
  have ht : t.val = 4 * (⟨t.val / 4, by omega⟩ : Fin 4).val + (⟨t.val % 4, by omega⟩ : Fin 4).val := by simp only []; omega
  refine (outs10 m c ⟨t.val / 4, by omega⟩ ⟨t.val % 4, by omega⟩ t ht p q).trans ?_
  refine Eq.trans ?_ (congrArg (fun j : S4x4096x1024.Idx => (arrs m c).res 0 (j 0) (j 1) (j 2))
    (emb10 t ⟨t.val / 4, by omega⟩ ⟨t.val % 4, by omega⟩ ht p q)).symm
  rfl

theorem final11 : (dats m 0 c).arrAt 11 cfg0.N = (fun j : S4x4096x1024.Idx => (arrs m c).res 1 (j 0) (j 1) (j 2)) := by
  refine (dats m 0 c).arrAt_eq_of_covers 11 _ (by decide +kernel) fun t hf y => ?_
  blk_simp
  rw [after0_11]
  have y' : S1x1024x1024.Idx := y
  obtain ⟨a, p, q, rfl⟩ : ∃ (a : Fin 1) (p : Fin 1024) (q : Fin 1024), y = (ix3 a p q : S1x1024x1024.Idx) := ⟨y 0, y 1, y 2, eq_ix3 y⟩
  obtain rfl : a = 0 := Subsingleton.elim _ _
  have htN : t.val < 16 := t.isLt
  have ht : t.val = 4 * (⟨t.val / 4, by omega⟩ : Fin 4).val + (⟨t.val % 4, by omega⟩ : Fin 4).val := by simp only []; omega
  refine (outs11 m c ⟨t.val / 4, by omega⟩ ⟨t.val % 4, by omega⟩ t ht p q).trans ?_
  refine Eq.trans ?_ (congrArg (fun j : S4x4096x1024.Idx => (arrs m c).res 1 (j 0) (j 1) (j 2))
    (emb11 t ⟨t.val / 4, by omega⟩ ⟨t.val % 4, by omega⟩ ht p q)).symm
  rfl

theorem final12 : (dats m 0 c).arrAt 12 cfg0.N = (fun j : S4x4x128x256.Idx => (arrs m c).st 0 (j 0) (j 1) 64 (j 2) (j 3)) := by
  refine (dats m 0 c).arrAt_eq_of_covers 12 _ (by decide +kernel) fun t hf y => ?_
  blk_simp
  rw [after0_12]
  obtain ⟨a, h, x, e, rfl⟩ : ∃ (a : Fin 1) (h : Fin 4) (x : Fin 128) (e : Fin 256), y = (ix4 a h x e : S1x4x128x256.Idx) :=
    ⟨y 0, y 1, y 2, y 3, eq_ix4 y⟩
  obtain rfl : a = 0 := Subsingleton.elim _ _
  have htN : t.val < 16 := t.isLt
  have h3 : t.val % 4 = 3 := (flush0_12 t).mp hf
  have ht : t.val = 4 * (⟨t.val / 4, by omega⟩ : Fin 4).val + (3 : Fin 4).val := by
    show t.val = 4 * (t.val / 4) + 3
    omega
  refine (last12 m c ⟨t.val / 4, by omega⟩ h t ht x e).trans ?_
  refine Eq.trans ?_ (congrArg (fun j : S4x4x128x256.Idx => (arrs m c).st 0 (j 0) (j 1) 64 (j 2) (j 3))
    (emb12 t ⟨t.val / 4, by omega⟩ 3 ht h x e)).symm
  rfl

theorem final13 : (dats m 0 c).arrAt 13 cfg0.N = (fun j : S4x4x128x256.Idx => (arrs m c).st 1 (j 0) (j 1) 64 (j 2) (j 3)) := by
  refine (dats m 0 c).arrAt_eq_of_covers 13 _ (by decide +kernel) fun t hf y => ?_
  blk_simp
  rw [after0_13]
  obtain ⟨a, h, x, e, rfl⟩ : ∃ (a : Fin 1) (h : Fin 4) (x : Fin 128) (e : Fin 256), y = (ix4 a h x e : S1x4x128x256.Idx) :=
    ⟨y 0, y 1, y 2, y 3, eq_ix4 y⟩
  obtain rfl : a = 0 := Subsingleton.elim _ _
  have htN : t.val < 16 := t.isLt
  have h3 : t.val % 4 = 3 := (flush0_13 t).mp hf
  have ht : t.val = 4 * (⟨t.val / 4, by omega⟩ : Fin 4).val + (3 : Fin 4).val := by
    show t.val = 4 * (t.val / 4) + 3
    omega
  refine (last13 m c ⟨t.val / 4, by omega⟩ h t ht x e).trans ?_
  refine Eq.trans ?_ (congrArg (fun j : S4x4x128x256.Idx => (arrs m c).st 1 (j 0) (j 1) 64 (j 2) (j 3))
    (emb13 t ⟨t.val / 4, by omega⟩ 3 ht h x e)).symm
  rfl

end Cert.Chunk

end
-- ==== Proof.Ref.Point.lean ====
/- The reference's values at an index, over the extended reals: the stacked arrays before the loop, one trip, and the results. -/
module

public import proofs.«01_k».proof.Proof.Gen.ReferenceIdeal.Step
public import proofs.«01_k».proof.Proof.Gla.Spec
public import Idealize.ShloMosaic.Lib.DynamicIndex

@[expose] public section

set_option maxRecDepth 16384

noncomputable section

namespace Cert.RefTrips

open Idealize.ShloMosaic Idealize.ShloMosaic.TcCoe
open Cert.ReferenceIdeal Cert.ReferenceIdeal.Gen
open Cert.ReferenceIdeal.Step

/-! ## Splitting positions into chunks and columns into heads -/

theorem split128 (X : S8x4096x512.Idx → EReal) (s c : Fin 64) (n : Fin 8) (h : Fin 4) (x : Fin 128) :
    shapeCast S8x64x64x4x128 X shapeCasts_S8x4096x512_S8x64x64x4x128 (ix5 n s c h x)
      = X (ix3 n ⟨64 * s.val + c.val, by omega⟩ ⟨128 * h.val + x.val, by omega⟩) := by
  refine shapeCast_apply X _ _ _ ?_
  refine (rowMajor_val3 _ _ _ rfl rfl).trans (Eq.trans ?_ (rowMajor_val5 _ _ _ _ _ rfl rfl rfl rfl).symm)
  show n.val * 2097152 + (64 * s.val + c.val) * 512 + (128 * h.val + x.val)
    = n.val * 2097152 + s.val * 32768 + c.val * 512 + h.val * 128 + x.val
  omega

theorem split256 (X : S8x4096x1024.Idx → EReal) (s c : Fin 64) (n : Fin 8) (h : Fin 4) (x : Fin 256) :
    shapeCast S8x64x64x4x256 X shapeCasts_S8x4096x1024_S8x64x64x4x256 (ix5 n s c h x)
      = X (ix3 n ⟨64 * s.val + c.val, by omega⟩ ⟨256 * h.val + x.val, by omega⟩) := by
  refine shapeCast_apply X _ _ _ ?_
  refine (rowMajor_val3 _ _ _ rfl rfl).trans (Eq.trans ?_ (rowMajor_val5 _ _ _ _ _ rfl rfl rfl rfl).symm)
  show n.val * 4194304 + (64 * s.val + c.val) * 1024 + (256 * h.val + x.val)
    = n.val * 4194304 + s.val * 65536 + c.val * 1024 + h.val * 256 + x.val
  omega

theorem front128 (Y : S8x64x64x4x128.Idx → EReal) (s c : Fin 64) (n : Fin 8) (h : Fin 4) (x : Fin 128) :
    transpose S64x8x64x4x128 [1, 0, 2, 3, 4] Y transposes_S8x64x64x4x128_S64x8x64x4x128_1_0_2_3_4 (ix5 s n c h x)
      = Y (ix5 n s c h x) := by
  pointwise
theorem front256 (Y : S8x64x64x4x256.Idx → EReal) (s c : Fin 64) (n : Fin 8) (h : Fin 4) (x : Fin 256) :
    transpose S64x8x64x4x256 [1, 0, 2, 3, 4] Y transposes_S8x64x64x4x256_S64x8x64x4x256_1_0_2_3_4 (ix5 s n c h x)
      = Y (ix5 n s c h x) := by
  pointwise

/-! ## The stacked arrays -/

/-- Batch `b` of direction `d` among the stacked eight. -/
abbrev bat (d : Fin 2) (b : Fin 4) : Fin 8 := ⟨4 * d.val + b.val, by omega⟩

variable (a0 a1 : S4x4096x512.Idx → EReal) (a2 : S4x4096x1024.Idx → EReal) (a3 : S4x4096x1024.Idx → EReal)
  (a4 a5 : S4x4x128x256.Idx → EReal)

/-- The arguments, as the attention's arrays. -/
def arrs : Gla.Arr where
  q b p y := a0 (ix3 b p y)
  k b p y := a1 (ix3 b p y)
  v b p y := a2 (ix3 b p y)
  la b p y := a3 (ix3 b p y)
  s0 d b h x e := if d = 0 then a4 (ix4 b h x e) else a5 (ix4 b h x e)

theorem pos0 (s c : Fin 64) : Gla.pos 0 s c = ⟨64 * s.val + c.val, by omega⟩ := by
  refine Fin.ext ?_
  simp only [Gla.pos, ↓reduceIte]
theorem pos1 (s c : Fin 64) : Gla.pos 1 s c = Fin.rev ⟨64 * s.val + c.val, by omega⟩ := by
  refine Fin.ext ?_
  rw [Fin.val_rev]
  simp only [Gla.pos, one_ne_zero, ↓reduceIte]
  omega

theorem bat0 (b : Fin 4) : bat 0 b = ⟨b.val, by omega⟩ := Fin.ext (by simp)
theorem bat1 (b : Fin 4) : bat 1 b = ⟨4 + b.val, by omega⟩ := Fin.ext (by simp)

theorem A5_0 (b : Fin 4) (p : Fin 4096) (y : Fin 512) :
    (A_main_v5 (F := Ideal) a0 a1 a2 a3 a4 a5 : S8x4096x512.Idx → EReal) (ix3 (bat 0 b) p y) = a0 (ix3 b p y) := by
  rw [bat0]
  unfold A_main_v5
  pointwise
theorem A5_1 (b : Fin 4) (p : Fin 4096) (y : Fin 512) :
    (A_main_v5 (F := Ideal) a0 a1 a2 a3 a4 a5 : S8x4096x512.Idx → EReal) (ix3 (bat 1 b) p y) = a0 (ix3 b p.rev y) := by
  rw [bat1]
  unfold A_main_v5 A_main_v4
  pointwise
  rfl

theorem A9_0 (b : Fin 4) (p : Fin 4096) (y : Fin 512) :
    (A_main_v9 (F := Ideal) a0 a1 a2 a3 a4 a5 : S8x4096x512.Idx → EReal) (ix3 (bat 0 b) p y) = a1 (ix3 b p y) := by
  rw [bat0]
  unfold A_main_v9
  pointwise
theorem A9_1 (b : Fin 4) (p : Fin 4096) (y : Fin 512) :
    (A_main_v9 (F := Ideal) a0 a1 a2 a3 a4 a5 : S8x4096x512.Idx → EReal) (ix3 (bat 1 b) p y) = a1 (ix3 b p.rev y) := by
  rw [bat1]
  unfold A_main_v9 A_main_v8
  pointwise
  rfl

theorem A13_0 (b : Fin 4) (p : Fin 4096) (y : Fin 1024) :
    (A_main_v13 (F := Ideal) a0 a1 a2 a3 a4 a5 : S8x4096x1024.Idx → EReal) (ix3 (bat 0 b) p y) = a2 (ix3 b p y) := by
  rw [bat0]
  unfold A_main_v13 A_main_v0
  pointwise
theorem A13_1 (b : Fin 4) (p : Fin 4096) (y : Fin 1024) :
    (A_main_v13 (F := Ideal) a0 a1 a2 a3 a4 a5 : S8x4096x1024.Idx → EReal) (ix3 (bat 1 b) p y) = a2 (ix3 b p.rev y) := by
  rw [bat1]
  unfold A_main_v13 A_main_v12 A_main_v0
  pointwise
  rfl

theorem A19_0 (b : Fin 4) (p : Fin 4096) (y : Fin 512) :
    (A_main_v19 (F := Ideal) a0 a1 a2 a3 a4 a5 : S8x4096x512.Idx → EReal) (ix3 (bat 0 b) p y) = a3 (ix3 b p ⟨y.val, by omega⟩) := by
  rw [bat0]
  unfold A_main_v19 A_main_v16
  pointwise
theorem A19_1 (b : Fin 4) (p : Fin 4096) (y : Fin 512) :
    (A_main_v19 (F := Ideal) a0 a1 a2 a3 a4 a5 : S8x4096x512.Idx → EReal) (ix3 (bat 1 b) p y) = a3 (ix3 b p.rev ⟨512 + y.val, by omega⟩) := by
  rw [bat1]
  unfold A_main_v19 A_main_v18 A_main_v17
  pointwise
  rfl

/-- Queries, stacked. -/
theorem qs_at (d : Fin 2) (b : Fin 4) (s c : Fin 64) (h : Fin 4) (x : Fin 128) :
    (A_main_v7 (F := Ideal) a0 a1 a2 a3 a4 a5 : S64x8x64x4x128.Idx → EReal) (ix5 s (bat d b) c h x)
      = (arrs a0 a1 a2 a3 a4 a5).qs d b h s c x := by
  unfold A_main_v7 A_main_v6
  rw [front128, split128]
  fin_cases d
  · refine (A5_0 ..).trans ?_
    show _ = a0 (ix3 b (Gla.pos 0 s c) _)
    rw [pos0]

  · refine (A5_1 ..).trans ?_
    show _ = a0 (ix3 b (Gla.pos 1 s c) _)
    rw [pos1]

/-- Keys, stacked. -/
theorem ks_at (d : Fin 2) (b : Fin 4) (s c : Fin 64) (h : Fin 4) (x : Fin 128) :
    (A_main_v11 (F := Ideal) a0 a1 a2 a3 a4 a5 : S64x8x64x4x128.Idx → EReal) (ix5 s (bat d b) c h x)
      = (arrs a0 a1 a2 a3 a4 a5).ks d b h s c x := by
  unfold A_main_v11 A_main_v10
  rw [front128, split128]
  fin_cases d
  · refine (A9_0 ..).trans ?_
    show _ = a1 (ix3 b (Gla.pos 0 s c) _)
    rw [pos0]

  · refine (A9_1 ..).trans ?_
    show _ = a1 (ix3 b (Gla.pos 1 s c) _)
    rw [pos1]

/-- Values, stacked. -/
theorem vs_at (d : Fin 2) (b : Fin 4) (s c : Fin 64) (h : Fin 4) (x : Fin 256) :
    (A_main_v15 (F := Ideal) a0 a1 a2 a3 a4 a5 : S64x8x64x4x256.Idx → EReal) (ix5 s (bat d b) c h x)
      = (arrs a0 a1 a2 a3 a4 a5).vs d b h s c x := by
  unfold A_main_v15 A_main_v14
  rw [front256, split256]
  fin_cases d
  · refine (A13_0 ..).trans ?_
    show _ = a2 (ix3 b (Gla.pos 0 s c) _)
    rw [pos0]

  · refine (A13_1 ..).trans ?_
    show _ = a2 (ix3 b (Gla.pos 1 s c) _)
    rw [pos1]

/-- Log decays, stacked. -/
theorem las_at (d : Fin 2) (b : Fin 4) (s c : Fin 64) (h : Fin 4) (x : Fin 128) :
    (A_main_v21 (F := Ideal) a0 a1 a2 a3 a4 a5 : S64x8x64x4x128.Idx → EReal) (ix5 s (bat d b) c h x)
      = (arrs a0 a1 a2 a3 a4 a5).las d b h s c x := by
  unfold A_main_v21 A_main_v20
  rw [front128, split128]
  fin_cases d
  · refine (A19_0 ..).trans ?_
    show _ = a3 (ix3 b (Gla.pos 0 s c) _)
    rw [pos0]
    congr 2; exact Fin.ext (by simp)
  · refine (A19_1 ..).trans ?_
    show _ = a3 (ix3 b (Gla.pos 1 s c) _)
    rw [pos1]
    congr 2

/-- Initial states, stacked. -/
theorem s0_at (d : Fin 2) (b h : Fin 4) (x : Fin 128) (e : Fin 256) :
    (A_main_v3 (F := Ideal) a0 a1 a2 a3 a4 a5 : S8x4x128x256.Idx → EReal) (ix4 (bat d b) h x e)
      = (arrs a0 a1 a2 a3 a4 a5).s0 d b h x e := by
  unfold A_main_v3
  fin_cases d
  · show concatenate _ _ _ _ (ix4 (bat 0 b) h x e) = a4 (ix4 b h x e)
    rw [bat0]
    pointwise
  · show concatenate _ _ _ _ (ix4 (bat 1 b) h x e) = a5 (ix4 b h x e)
    rw [bat1]
    pointwise

/-! ## One trip -/

theorem slices128 (j : Fin 64) : S64x8x64x4x128.Slices ![j.val, 0, 0, 0, 0] S1x8x64x4x128 := by
  refine ⟨rfl, fun a => ?_⟩
  fin_cases a <;> simp <;> omega
theorem dyn128 (X : S64x8x64x4x128.Idx → EReal) (j : Fin 64) (n : Fin 8) (c : Fin 64) (h : Fin 4) (x : Fin 128) :
    Host.dynamicSlice S1x8x64x4x128 X (fun k => ((![constantI S_ 32 (BitVec.ofNat 32 j.val), constantI S_ 32 0#32,
        constantI S_ 32 0#32, constantI S_ 32 0#32, constantI S_ 32 0#32] : Fin 5 → S_.Idx → BitVec 32) k (Shape.Idx.first h_S_)).toInt)
      sliceFits_S64x8x64x4x128_S1x8x64x4x128 (ix5 0 n c h x) = X (ix5 j n c h x) := by
  rw [Host.dynamicSlice_eq_extractStridedSlice _ X _ ![j.val, 0, 0, 0, 0] _ (slices128 j)]
  · pointwise
  · intro a
    fin_cases a
    · exact toInt_ofNat_of_lt (by omega)
    all_goals rfl

theorem slices256 (j : Fin 64) : S64x8x64x4x256.Slices ![j.val, 0, 0, 0, 0] S1x8x64x4x256 := by
  refine ⟨rfl, fun a => ?_⟩
  fin_cases a <;> simp <;> omega
theorem dyn256 (X : S64x8x64x4x256.Idx → EReal) (j : Fin 64) (n : Fin 8) (c : Fin 64) (h : Fin 4) (x : Fin 256) :
    Host.dynamicSlice S1x8x64x4x256 X (fun k => ((![constantI S_ 32 (BitVec.ofNat 32 j.val), constantI S_ 32 0#32,
        constantI S_ 32 0#32, constantI S_ 32 0#32, constantI S_ 32 0#32] : Fin 5 → S_.Idx → BitVec 32) k (Shape.Idx.first h_S_)).toInt)
      sliceFits_S64x8x64x4x256_S1x8x64x4x256 (ix5 0 n c h x) = X (ix5 j n c h x) := by
  rw [Host.dynamicSlice_eq_extractStridedSlice _ X _ ![j.val, 0, 0, 0, 0] _ (slices256 j)]
  · pointwise
  · intro a
    fin_cases a
    · exact toInt_ofNat_of_lt (by omega)
    all_goals rfl

theorem unit128 (Y : S1x8x64x4x128.Idx → EReal) (n : Fin 8) (c : Fin 64) (h : Fin 4) (x : Fin 128) :
    shapeCast S8x64x4x128 Y shapeCasts_S1x8x64x4x128_S8x64x4x128 (ix4 n c h x) = Y (ix5 0 n c h x) := by
  pointwise
theorem unit256 (Y : S1x8x64x4x256.Idx → EReal) (n : Fin 8) (c : Fin 64) (h : Fin 4) (x : Fin 256) :
    shapeCast S8x64x4x256 Y shapeCasts_S1x8x64x4x256_S8x64x4x256 (ix4 n c h x) = Y (ix5 0 n c h x) := by
  pointwise

variable (S : State Ideal) (j : Fin 64)

theorem b5_at (n : Fin 8) (c : Fin 64) (h : Fin 4) (x : Fin 128) :
    (b5 j.val S : S8x64x4x128.Idx → EReal) (ix4 n c h x) = (S.main_v23_0 : S64x8x64x4x128.Idx → EReal) (ix5 j n c h x) := by
  refine Eq.trans ?_ (dyn128 S.main_v23_0 j n c h x)
  unfold b5
  exact unit128 (b4 j.val S) n c h x

theorem b11_at (n : Fin 8) (c : Fin 64) (h : Fin 4) (x : Fin 128) :
    (b11 j.val S : S8x64x4x128.Idx → EReal) (ix4 n c h x) = (S.main_v23_1 : S64x8x64x4x128.Idx → EReal) (ix5 j n c h x) := by
  refine Eq.trans ?_ (dyn128 S.main_v23_1 j n c h x)
  unfold b11
  exact unit128 (b10 j.val S) n c h x

theorem b17_at (n : Fin 8) (c : Fin 64) (h : Fin 4) (x : Fin 256) :
    (b17 j.val S : S8x64x4x256.Idx → EReal) (ix4 n c h x) = (S.main_v23_2 : S64x8x64x4x256.Idx → EReal) (ix5 j n c h x) := by
  refine Eq.trans ?_ (dyn256 S.main_v23_2 j n c h x)
  unfold b17
  exact unit256 (b16 j.val S) n c h x

theorem b23_at (n : Fin 8) (c : Fin 64) (h : Fin 4) (x : Fin 128) :
    (b23 j.val S : S8x64x4x128.Idx → EReal) (ix4 n c h x) = (S.main_v23_3 : S64x8x64x4x128.Idx → EReal) (ix5 j n c h x) := by
  refine Eq.trans ?_ (dyn128 S.main_v23_3 j n c h x)
  unfold b23
  exact unit128 (b22 j.val S) n c h x

theorem mask_at (c c' : Fin 64) : (K_main_v2 (F := Ideal) : S64x64.Idx → BitVec 1) (ix2 c c') = if c' ≤ c then 1#1 else 0#1 := by
  revert c c'
  decide +kernel

theorem b50_at (n : Fin 8) (h : Fin 4) (x : Fin 128) (e : Fin 256) :
    (b50 j.val S : S8x4x128x256.Idx → EReal) (ix4 n h x e) =
      Gla.upd (fun c x => (S.main_v23_3 : S64x8x64x4x128.Idx → EReal) (ix5 j n c h x))
        (fun c x => (S.main_v23_1 : S64x8x64x4x128.Idx → EReal) (ix5 j n c h x))
        (fun c e => (S.main_v23_2 : S64x8x64x4x256.Idx → EReal) (ix5 j n c h e))
        (fun x e => (S.main_v23_6 : S8x4x128x256.Idx → EReal) (ix4 n h x e)) x e := by
  pointwise [b50, b49, b48, b47, b46, b45, b44, b28, b27, b26, b25, b24]
  unfold Gla.upd
  simp only [b11_at, b17_at, b23_at]
  rw [mul_comm]

theorem b51_at (n : Fin 8) (c : Fin 64) (h : Fin 4) (e : Fin 256) :
    (b51 j.val S : S8x64x4x256.Idx → EReal) (ix4 n c h e) =
      Gla.out (fun c x => (S.main_v23_3 : S64x8x64x4x128.Idx → EReal) (ix5 j n c h x))
        (fun c x => (S.main_v23_0 : S64x8x64x4x128.Idx → EReal) (ix5 j n c h x))
        (fun c x => (S.main_v23_1 : S64x8x64x4x128.Idx → EReal) (ix5 j n c h x))
        (fun c e => (S.main_v23_2 : S64x8x64x4x256.Idx → EReal) (ix5 j n c h e))
        (fun x e => (S.main_v23_6 : S8x4x128x256.Idx → EReal) (ix4 n h x e)) c e := by
  pointwise [b51, b43, b42, b41, b40, b39, b38, b37, b36, b35, b34, b33, b32, b31, b30, b29]
  unfold Gla.out
  simp only [b5_at, b11_at, b17_at, b23_at, mask_at]
  congr 1
  · refine Finset.sum_congr rfl fun c' _ => ?_
    by_cases hc : c' ≤ c
    · rw [if_pos hc, if_pos hc]
      refine (mul_comm _ _).trans ?_
      simp only [zero_sub]
    · rw [if_neg hc, if_neg hc]
      rfl
  · exact Finset.sum_congr rfl fun x _ => mul_comm _ _

end Cert.RefTrips

end
-- ==== Proof.Ref.Trips.lean ====
/- The reference's run as its loop's step iterated. The generated run (Gen/ReferenceIdeal/Run.lean) gives the results as
   `STEP` iterated on all the buffers at once; here that is read as `step` (Gen/ReferenceIdeal/Step.lean) iterated on the
   loop's state alone: a relation `Reads` between a valuation and a state, kept by a trip and true on entry. -/
module

public import proofs.«01_k».proof.Proof.Gen.ReferenceIdeal.Run
public import proofs.«01_k».proof.Proof.Gen.ReferenceIdeal.Step

@[expose] public section

noncomputable section

namespace Cert.RefTrips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state the loop's carried buffers hold in the valuation `W`. -/
def stateOf (W : Valuation τ sig (Elt F)) : State F where
  main_v23_6 := W (Proc.devRef .tc main_v23_6)
  main_v23_7 := W (Proc.devRef .tc main_v23_7)
  main_v23_0 := W (Proc.devRef .tc main_v23_0)
  main_v23_1 := W (Proc.devRef .tc main_v23_1)
  main_v23_2 := W (Proc.devRef .tc main_v23_2)
  main_v23_3 := W (Proc.devRef .tc main_v23_3)

/-- The valuation `W` stands before trip `j` with state `s`: its state is `s`, its counter `j`, its mask the triangle. -/
structure Reads (W : Valuation τ sig (Elt F)) (s : State F) (j : ℕ) : Prop where
  state : stateOf W = s
  counter : W (Proc.devRef .tc main_v23_5) = constantI S_ 32 (BitVec.ofNat 32 j)
  mask : W (Proc.devRef .tc main_v23_4) = Cert.ReferenceIdeal.Step.K_main_v2 (F := F)

variable {W : Valuation τ sig (Elt F)} {s : State F} {j : ℕ}

set_option maxRecDepth 8192 in
/-- The new recurrent state after a trip. -/
theorem Reads.next_6 (h : Reads W s j) : step_main_v23_6 W = Cert.ReferenceIdeal.Step.b50 j s := by
  obtain rfl := h.state
  simp only [step_main_v23_6, res_main_while0b_v33, res_main_while0b_v34, res_main_while0b_v35, res_main_while0b_v36, h.counter]
  rfl

set_option maxRecDepth 8192 in
/-- The output array after a trip. -/
theorem Reads.next_7 (h : Reads W s j) : step_main_v23_7 W = Cert.ReferenceIdeal.Step.b57 j s := by
  obtain rfl := h.state
  simp only [step_main_v23_7, res_main_while0b_v33, res_main_while0b_v34, res_main_while0b_v35, res_main_while0b_v42, h.counter, h.mask]
  rfl

/-- A trip keeps the relation. -/
theorem Reads.trip (h : Reads W s j) : Reads (STEP W) (step j s) (j + 1) where
  state := by
    have h6 := (STEP_main_v23_6 W).trans h.next_6
    have h7 := (STEP_main_v23_7 W).trans h.next_7
    have h0 := (STEP_main_v23_0 W).trans (congrArg State.main_v23_0 h.state)
    have h1 := (STEP_main_v23_1 W).trans (congrArg State.main_v23_1 h.state)
    have h2 := (STEP_main_v23_2 W).trans (congrArg State.main_v23_2 h.state)
    have h3 := (STEP_main_v23_3 W).trans (congrArg State.main_v23_3 h.state)
    unfold stateOf Cert.ReferenceIdeal.Step.step
    rw [h6, h7, h0, h1, h2, h3]
  counter := by
    refine (STEP_main_v23_5 W).trans ?_
    unfold step_main_v23_5
    rw [h.counter]
    funext i
    show BitVec.ofNat 32 j + 1#32 = BitVec.ofNat 32 (j + 1)
    simp only [BitVec.ofNat_add]
  mask := (STEP_main_v23_4 W).trans h.mask

variable (m : (ℓ : Loc nD τ sig) → Buf (Elt F) ℓ) (c : Dev nD)

/-- The state the first trip starts from, of the memory at launch. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
theorem entry_6 : entryContents preI m c (Proc.devRef .tc main_v23_6) = (start m c).main_v23_6 := by
  simp only [entryContents, afterL_cons, afterL_nil]; after_reads_simp; rfl
set_option maxRecDepth 65536 in
theorem entry_7 : entryContents preI m c (Proc.devRef .tc main_v23_7) = (start m c).main_v23_7 := by
  simp only [entryContents, afterL_cons, afterL_nil]; after_reads_simp; rfl
set_option maxRecDepth 65536 in
theorem entry_0 : entryContents preI m c (Proc.devRef .tc main_v23_0) = (start m c).main_v23_0 := by
  simp only [entryContents, afterL_cons, afterL_nil]; after_reads_simp; rfl
set_option maxRecDepth 65536 in
theorem entry_1 : entryContents preI m c (Proc.devRef .tc main_v23_1) = (start m c).main_v23_1 := by
  simp only [entryContents, afterL_cons, afterL_nil]; after_reads_simp; rfl
set_option maxRecDepth 65536 in
theorem entry_2 : entryContents preI m c (Proc.devRef .tc main_v23_2) = (start m c).main_v23_2 := by
  simp only [entryContents, afterL_cons, afterL_nil]; after_reads_simp; rfl
set_option maxRecDepth 65536 in
theorem entry_3 : entryContents preI m c (Proc.devRef .tc main_v23_3) = (start m c).main_v23_3 := by
  simp only [entryContents, afterL_cons, afterL_nil]; after_reads_simp; rfl
set_option maxRecDepth 65536 in
theorem entry_counter : entryContents preI m c (Proc.devRef .tc main_v23_5) = constantI S_ 32 (BitVec.ofNat 32 0) := by
  simp only [entryContents, afterL_cons, afterL_nil]; after_reads_simp; rfl
set_option maxRecDepth 65536 in
theorem entry_mask : entryContents preI m c (Proc.devRef .tc main_v23_4) = Cert.ReferenceIdeal.Step.K_main_v2 (F := F) := by
  simp only [entryContents, afterL_cons, afterL_nil]; after_reads_simp; rfl

/-- On entry to the loop the relation holds, at trip 0. -/
theorem reads_entry : Reads (entryContents preI m c) (start m c) 0 where
  state := by
    unfold stateOf
    rw [entry_6, entry_7, entry_0, entry_1, entry_2, entry_3]
  counter := entry_counter m c
  mask := entry_mask m c

/-- The state before trip `j`. -/
def at' : ℕ → State F
  | 0 => start m c
  | j + 1 => step j (at' j)

theorem reads_iter : ∀ j, Reads (STEP^[j] (entryContents preI m c)) (at' m c j) j
  | 0 => reads_entry m c
  | j + 1 => by
    rw [Function.iterate_succ_apply']
    exact (reads_iter j).trip

variable {m c}

/-! The results, as functions of the loop's state. -/

theorem result_27 (h : stateOf W = s) : out_main_v27 W = Cert.ReferenceIdeal.Step.R_main_v27 s := by subst h; rfl
theorem result_29 (h : stateOf W = s) : out_main_v29 W = Cert.ReferenceIdeal.Step.R_main_v29 s := by subst h; rfl
theorem result_30 (h : stateOf W = s) : out_main_v30 W = Cert.ReferenceIdeal.Step.R_main_v30 s := by subst h; rfl
theorem result_31 (h : stateOf W = s) : out_main_v31 W = Cert.ReferenceIdeal.Step.R_main_v31 s := by subst h; rfl

variable (m)

/-- The reference's run: every result is read off the state after 64 trips, the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v27) = Cert.ReferenceIdeal.Step.R_main_v27 (at' m c 64)
      ∧ r.2.mem ((c.tc : Thread nD τ).loc main_v29) = Cert.ReferenceIdeal.Step.R_main_v29 (at' m c 64)
      ∧ r.2.mem ((c.tc : Thread nD τ).loc main_v30) = Cert.ReferenceIdeal.Step.R_main_v30 (at' m c 64)
      ∧ r.2.mem ((c.tc : Thread nD τ).loc main_v31) = Cert.ReferenceIdeal.Step.R_main_v31 (at' m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := (reads_iter m c 64).state
    ⟨(h c).1.trans (result_27 hk), (h c).2.1.trans (result_29 hk), (h c).2.2.1.trans (result_30 hk),
      (h c).2.2.2.1.trans (result_31 hk), (h c).2.2.2.2⟩) (Value.run m ρ)

end Cert.RefTrips

end
-- ==== Proof.Ref.Value.lean ====
/- The reference's results: by induction on the trips, its recurrent state is the scan's state before the next chunk and its output
   array holds the scan's output of the chunks read so far. -/
module

public import proofs.«01_k».proof.Proof.Ref.Point
public import proofs.«01_k».proof.Proof.Ref.Trips
public import Idealize.ShloMosaic.Lib.WordCmp

@[expose] public section

set_option maxRecDepth 16384

noncomputable section

namespace Cert.RefTrips

open Idealize.ShloMosaic Idealize.ShloMosaic.TcCoe
open Cert.ReferenceIdeal Cert.ReferenceIdeal.Gen
open Cert.ReferenceIdeal.Step
open Cert.Gla (Arr)

theorem put256 (X : S64x8x64x4x256.Idx → EReal) (U : S1x8x64x4x256.Idx → EReal) (j s : Fin 64) (n : Fin 8) (c : Fin 64) (h : Fin 4)
    (x : Fin 256) :
    Host.dynamicUpdateSlice X U (fun k => ((![constantI S_ 32 (BitVec.ofNat 32 j.val), constantI S_ 32 0#32,
        constantI S_ 32 0#32, constantI S_ 32 0#32, constantI S_ 32 0#32] : Fin 5 → S_.Idx → BitVec 32) k (Shape.Idx.first h_S_)).toInt)
      updateFits_S64x8x64x4x256_S1x8x64x4x256 (ix5 s n c h x) = if s = j then U (ix5 0 n c h x) else X (ix5 s n c h x) := by
  rw [WordCmp.dynamicUpdateSlice_eq_update X U _ _ ![j.val, 0, 0, 0, 0] (slices256 j) (fun a => ?_)]
  · pointwise
    by_cases hs : s = j
    · subst hs
      rw [if_pos rfl]
      split
      · exact congrArg (fun a : Fin 1 => U (ix5 a n c h x)) (Subsingleton.elim _ _)
      · rename_i q
        exact absurd (by omega) q
    · rw [if_neg hs]
      have hv : s.val ≠ j.val := fun q => hs (Fin.ext q)
      split
      · rename_i q
        exact absurd q (by omega)
      · rfl
  · fin_cases a
    · exact toInt_ofNat_of_lt (by omega)
    all_goals rfl

variable (S : State Ideal) (j : Fin 64)

theorem b57_at (s : Fin 64) (n : Fin 8) (c : Fin 64) (h : Fin 4) (e : Fin 256) :
    (b57 j.val S : S64x8x64x4x256.Idx → EReal) (ix5 s n c h e)
      = if s = j then (b51 j.val S : S8x64x4x256.Idx → EReal) (ix4 n c h e) else (S.main_v23_7 : S64x8x64x4x256.Idx → EReal) (ix5 s n c h e) := by
  refine (put256 S.main_v23_7 (b52 j.val S) j s n c h e).trans ?_
  have e1 : (b52 j.val S : S1x8x64x4x256.Idx → EReal) (ix5 0 n c h e) = (b51 j.val S : S8x64x4x256.Idx → EReal) (ix4 n c h e) := by
    pointwise [b52]
  rw [e1]

variable (m : (ℓ : Loc nD τ sig) → Buf (Elt Ideal) ℓ) (c : Dev nD)

/-- The reference's arguments, as the attention's arrays. -/
abbrev A : Arr := arrs (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5))

/-- The stacked arrays stay. -/
theorem at_const : ∀ j : ℕ, (at' m c j).main_v23_0 = (start m c).main_v23_0 ∧ (at' m c j).main_v23_1 = (start m c).main_v23_1
    ∧ (at' m c j).main_v23_2 = (start m c).main_v23_2 ∧ (at' m c j).main_v23_3 = (start m c).main_v23_3
  | 0 => ⟨rfl, rfl, rfl, rfl⟩
  | j + 1 => at_const j

section reads

variable (k : ℕ) (d : Fin 2) (b h : Fin 4) (s : Fin 64)

theorem at_q : (fun (r : Fin 64) (x : Fin 128) => ((at' m c k).main_v23_0 : S64x8x64x4x128.Idx → EReal) (ix5 s (bat d b) r h x))
    = (A m c).qs d b h s := by
  funext r x; rw [(at_const m c k).1]; exact qs_at ..
theorem at_k : (fun (r : Fin 64) (x : Fin 128) => ((at' m c k).main_v23_1 : S64x8x64x4x128.Idx → EReal) (ix5 s (bat d b) r h x))
    = (A m c).ks d b h s := by
  funext r x; rw [(at_const m c k).2.1]; exact ks_at ..
theorem at_v : (fun (r : Fin 64) (x : Fin 256) => ((at' m c k).main_v23_2 : S64x8x64x4x256.Idx → EReal) (ix5 s (bat d b) r h x))
    = (A m c).vs d b h s := by
  funext r x; rw [(at_const m c k).2.2.1]; exact vs_at ..
theorem at_la : (fun (r : Fin 64) (x : Fin 128) => ((at' m c k).main_v23_3 : S64x8x64x4x128.Idx → EReal) (ix5 s (bat d b) r h x))
    = (A m c).las d b h s := by
  funext r x; rw [(at_const m c k).2.2.2]; exact las_at ..

end reads

variable (d : Fin 2) (b h : Fin 4)

theorem at_state : ∀ k : ℕ, k ≤ 64 → (fun (x : Fin 128) (e : Fin 256) => ((at' m c k).main_v23_6 : S8x4x128x256.Idx → EReal) (ix4 (bat d b) h x e))
    = (A m c).st d b h k
  | 0, _ => by funext x e; exact s0_at ..
  | k + 1, hk => by
    funext x e
    have ih := at_state k (by omega)
    refine (b50_at (at' m c k) ⟨k, by omega⟩ (bat d b) h x e).trans ?_
    rw [at_la, at_k, at_v, ih]
    have e0 : (⟨k, by omega⟩ : Fin 64) = Fin.ofNat 64 k := Fin.ext (Nat.mod_eq_of_lt (by omega)).symm
    rw [e0]
    rfl

theorem at_out (r : Fin 64) (e : Fin 256) : ∀ k : ℕ, k ≤ 64 → ∀ s : Fin 64, s.val < k →
    ((at' m c k).main_v23_7 : S64x8x64x4x256.Idx → EReal) (ix5 s (bat d b) r h e) = (A m c).o d b h s r e
  | 0, _, s, hs => absurd hs (Nat.not_lt_zero _)
  | k + 1, hk, s, hs => by
    refine (b57_at (at' m c k) ⟨k, by omega⟩ s (bat d b) r h e).trans ?_
    by_cases hsk : s = ⟨k, by omega⟩
    · rw [if_pos hsk]
      refine (b51_at (at' m c k) ⟨k, by omega⟩ (bat d b) r h e).trans ?_
      rw [at_la, at_q, at_k, at_v, at_state m c d b h k (by omega), hsk]
      rfl
    · rw [if_neg hsk]
      have : s.val ≠ k := fun q => hsk (Fin.ext q)
      exact at_out r e k (by omega) s (by omega)

theorem R27 : R_main_v27 (at' m c 64) = fun i : S4x4096x1024.Idx => (A m c).res 0 (i 0) (i 1) (i 2) := by
  funext i
  obtain ⟨b, p, y, rfl⟩ : ∃ (b : Fin 4) (p : Fin 4096) (y : Fin 1024), i = ix3 b p y := ⟨i 0, i 1, i 2, eq_ix3 i⟩
  pointwise [R_main_v27]
  have e8 : (⟨b.val, by omega⟩ : Fin 8) = bat 0 b := (bat0 b).symm
  rw [e8]
  refine (at_out m c 0 b _ _ _ 64 le_rfl _ (by show p.val / 64 < 64; omega)).trans ?_
  rfl

theorem R29 : R_main_v29 (at' m c 64) = fun i : S4x4096x1024.Idx => (A m c).res 1 (i 0) (i 1) (i 2) := by
  funext i
  obtain ⟨b, p, y, rfl⟩ : ∃ (b : Fin 4) (p : Fin 4096) (y : Fin 1024), i = ix3 b p y := ⟨i 0, i 1, i 2, eq_ix3 i⟩
  pointwise [R_main_v29]
  have e8 : (⟨4 + b.val, by omega⟩ : Fin 8) = bat 1 b := (bat1 b).symm
  show ((at' m c 64).main_v23_7 : S64x8x64x4x256.Idx → EReal) (ix5 ⟨p.rev.val / 64, _⟩ ⟨4 + b.val, _⟩ ⟨p.rev.val % 64, _⟩ ⟨y.val / 256, _⟩ ⟨y.val % 256, _⟩) = _
  rw [e8]
  refine (at_out m c 1 b _ _ _ 64 le_rfl _ (by show p.rev.val / 64 < 64; omega)).trans ?_
  have hr : Arr.rank 1 p = p.rev.val := by
    rw [Fin.val_rev]; simp only [Arr.rank, one_ne_zero, ↓reduceIte]; omega
  show _ = (A m c).o 1 b ⟨y.val / 256, _⟩ ⟨Arr.rank 1 p / 64, _⟩ ⟨Arr.rank 1 p % 64, _⟩ ⟨y.val % 256, _⟩
  simp only [hr]

theorem R30 : R_main_v30 (at' m c 64) = fun i : S4x4x128x256.Idx => (A m c).st 0 (i 0) (i 1) 64 (i 2) (i 3) := by
  funext i
  obtain ⟨b, h, x, e, rfl⟩ : ∃ (b h : Fin 4) (x : Fin 128) (e : Fin 256), i = ix4 b h x e := ⟨i 0, i 1, i 2, i 3, eq_ix4 i⟩
  pointwise [R_main_v30]
  have e8 : (⟨b.val, by omega⟩ : Fin 8) = bat 0 b := (bat0 b).symm
  rw [e8]
  exact congrFun (congrFun (at_state m c 0 b h 64 le_rfl) _) _

theorem R31 : R_main_v31 (at' m c 64) = fun i : S4x4x128x256.Idx => (A m c).st 1 (i 0) (i 1) 64 (i 2) (i 3) := by
  funext i
  obtain ⟨b, h, x, e, rfl⟩ : ∃ (b h : Fin 4) (x : Fin 128) (e : Fin 256), i = ix4 b h x e := ⟨i 0, i 1, i 2, i 3, eq_ix4 i⟩
  pointwise [R_main_v31]
  have e8 : (⟨4 + b.val, by omega⟩ : Fin 8) = bat 1 b := (bat1 b).symm
  rw [e8]
  exact congrFun (congrFun (at_state m c 1 b h 64 le_rfl) _) _

end Cert.RefTrips

end
-- ==== Proof.Kern2.Chunk.lean ====
/- The projection's body as vectors: the normalised rows a grid point keeps in its buffer, the columns of the weight it loads, and the
   running sums of the decays of a chunk, once for the eight chunks of a point and the two directions. The kernel's own payloads
   (Gen/Kernel2Ideal/Skeleton.lean) are these at their chunk and direction. -/
module

public import proofs.«01_k».proof.Proof.Gen.Kernel2Ideal.Frame

@[expose] public section

noncomputable section

namespace Cert.Proj

open Idealize.ShloMosaic Idealize.ShloMosaic.TcCoe
open Cert.Kernel2Ideal Cert.Kernel2Ideal.Gen

variable {F : FTy → Type} [FloatOps F]

/-- The rows of chunk `n` and the columns of direction `d`, in a block of 512 positions. -/
def rL (n : Fin 8) (d : Fin 2) : Rect S1x512x1024 :=
  Rect.unit (s := S1x512x1024) ![0, 64 * n.val, 512 * d.val] S1x64x512.size (by
    intro a; have := n.isLt; have := d.isLt; fin_cases a <;> simp [Shape.size] <;> omega)

/-- The buffer of normalised rows, whole. -/
abbrev rH : Rect S512x1024 := Rect.unit (s := S512x1024) ![0, 0] S512x1024.size inb_S512x1024_S512x1024_0_0
/-- A wide output block, whole. -/
abbrev rO : Rect S1x512x1024 := Rect.unit (s := S1x512x1024) ![0, 0, 0] S1x512x1024.size inb_S1x512x1024_S1x512x1024_0_0_0
/-- A narrow output block, whole. -/
abbrev rQ : Rect S1x512x512 := Rect.unit (s := S1x512x512) ![0, 0, 0] S1x512x512.size inb_S1x512x512_S1x512x512_0_0_0
/-- A vector block, whole. -/
abbrev rG : Rect S1x1024 := Rect.unit (s := S1x1024) ![0, 0] S1x1024.size inb_S1x1024_S1x1024_0_0
/-- A batch's modulation block, whole. -/
abbrev rM : Rect S1x1x1024 := Rect.unit (s := S1x1x1024) ![0, 0, 0] S1x1x1024.size inb_S1x1x1024_S1x1x1024_0_0_0
/-- The second decay weight, whole. -/
abbrev r2 : Rect S128x1024 := Rect.unit (s := S128x1024) ![0, 0] S128x1024.size inb_S128x1024_S128x1024_0_0

/-! ## Columns of the weight -/

abbrev rU : Rect S1024x7296 := Rect.unit (s := S1024x7296) ![0, 0] S1024x1024.size inb_S1024x7296_S1024x1024_0_0
abbrev rVs : Rect S1024x7296 := Rect.unit (s := S1024x7296) ![0, 1024] S1024x1024.size inb_S1024x7296_S1024x1024_0_1024
abbrev rWq : Rect S1024x7296 := Rect.unit (s := S1024x7296) ![0, 2048] S1024x512.size inb_S1024x7296_S1024x512_0_2048
abbrev rR : Rect S1024x7296 := Rect.unit (s := S1024x7296) ![0, 2560] S1024x1024.size inb_S1024x7296_S1024x1024_0_2560
abbrev rGa : Rect S1024x7296 := Rect.unit (s := S1024x7296) ![0, 3584] S1024x1024.size inb_S1024x7296_S1024x1024_0_3584
abbrev rGb : Rect S1024x7296 := Rect.unit (s := S1024x7296) ![0, 4608] S1024x1024.size inb_S1024x7296_S1024x1024_0_4608
abbrev rWk : Rect S1024x7296 := Rect.unit (s := S1024x7296) ![0, 5632] S1024x512.size inb_S1024x7296_S1024x512_0_5632
abbrev rWv : Rect S1024x7296 := Rect.unit (s := S1024x7296) ![0, 6144] S1024x1024.size inb_S1024x7296_S1024x1024_0_6144
abbrev rLr : Rect S1024x7296 := Rect.unit (s := S1024x7296) ![0, 7168] S1024x128.size inb_S1024x7296_S1024x128_0_7168

/-! ## Running sums -/

theorem slices_tile (j : Fin 8) : S64x512.Slices ![8 * j.val, 0] S8x512 :=
  ⟨rfl, by intro a; have := j.isLt; fin_cases a <;> simp [Shape.size] <;> omega⟩

theorem slices_chunk (n : Fin 8) (d : Fin 2) : S512x1024.Slices ![64 * n.val, 512 * d.val] S64x512 :=
  ⟨rfl, by intro a; have := n.isLt; have := d.isLt; fin_cases a <;> simp [Shape.size] <;> omega⟩

/-- One doubling step within a tile of eight rows, forward: add the row `s` above, if there is one. -/
def stF (s : BitVec 32) (y : FVec F S8x512 .f32) : FVec F S8x512 .f32 :=
  addf y (select (cmpi .sge (iota .tc S8x512 32 [0] iota_S8x512_d0_w32) (broadcast S8x512 s))
    (dynamicRotate 0 s none y rotates_S8x512_d0) (broadcast S8x512 (Scalar.ofBits .f32 0x00000000#32)))

/-- One doubling step backward: add the row `8 - s` below, if there is one. -/
def stB (s : BitVec 32) (y : FVec F S8x512 .f32) : FVec F S8x512 .f32 :=
  addf y (select (cmpi .slt (iota .tc S8x512 32 [0] iota_S8x512_d0_w32) (broadcast S8x512 s))
    (dynamicRotate 0 s none y rotates_S8x512_d0) (broadcast S8x512 (Scalar.ofBits .f32 0x00000000#32)))

/-- Tile `j` of a chunk. -/
def tile (x : FVec F S64x512 .f32) (j : Fin 8) : FVec F S8x512 .f32 :=
  extractStridedSlice S8x512 ![8 * j.val, 0] x (slices_tile j)

/-- The running sums within a tile, forward. -/
def tileF (x : FVec F S64x512 .f32) (j : Fin 8) : FVec F S8x512 .f32 := stF 4#32 (stF 2#32 (stF 1#32 (tile x j)))
/-- The running sums within a tile, backward. -/
def tileB (x : FVec F S64x512 .f32) (j : Fin 8) : FVec F S8x512 .f32 := stB 4#32 (stB 6#32 (stB 7#32 (tile x j)))

/-- A tile with the last row of the tile before it added. -/
def carryF (prev t : FVec F S8x512 .f32) : FVec F S8x512 .f32 :=
  addf t (broadcastTo S8x512 (shapeCast S1x512 (extractStridedSlice S1x512 ![7, 0] prev slices_S8x512_o7_0_S1x512)
    shapeCasts_S1x512_S1x512) broadcasts_S1x512_S8x512)
/-- A tile with the first row of the tile after it added. -/
def carryB (prev t : FVec F S8x512 .f32) : FVec F S8x512 .f32 :=
  addf t (broadcastTo S8x512 (shapeCast S1x512 (extractStridedSlice S1x512 ![0, 0] prev slices_S8x512_o0_0_S1x512)
    shapeCasts_S1x512_S1x512) broadcasts_S1x512_S8x512)

/-- The tile of rank `j` with all before it carried in, forward. -/
def sumF (x : FVec F S64x512 .f32) (j : ℕ) : FVec F S8x512 .f32 :=
  Nat.rec (tileF x 0) (fun j T => carryF T (tileF x ⟨(j + 1) % 8, Nat.mod_lt _ (by decide)⟩)) j
/-- The tile of rank `j` counted from the last, with all after it carried in. -/
def sumB (x : FVec F S64x512 .f32) (j : ℕ) : FVec F S8x512 .f32 :=
  Nat.rec (tileB x 7) (fun j T => carryB T (tileB x ⟨(7 - (j + 1)) % 8, Nat.mod_lt _ (by decide)⟩)) j

/-- A chunk's running sums, forward. -/
def cumF (x : FVec F S64x512 .f32) : FVec F S1x64x512 .f32 :=
  shapeCast S1x64x512 (concatenate S64x512 0 [⟨S8x512, sumF x 0⟩, ⟨S8x512, sumF x 1⟩, ⟨S8x512, sumF x 2⟩, ⟨S8x512, sumF x 3⟩,
    ⟨S8x512, sumF x 4⟩, ⟨S8x512, sumF x 5⟩, ⟨S8x512, sumF x 6⟩, ⟨S8x512, sumF x 7⟩]
    concatenates_S8x512_S8x512_S8x512_S8x512_S8x512_S8x512_S8x512_S8x512_S64x512_d0) shapeCasts_S64x512_S1x64x512
/-- A chunk's running sums, backward. -/
def cumB (x : FVec F S64x512 .f32) : FVec F S1x64x512 .f32 :=
  shapeCast S1x64x512 (concatenate S64x512 0 [⟨S8x512, sumB x 7⟩, ⟨S8x512, sumB x 6⟩, ⟨S8x512, sumB x 5⟩, ⟨S8x512, sumB x 4⟩,
    ⟨S8x512, sumB x 3⟩, ⟨S8x512, sumB x 2⟩, ⟨S8x512, sumB x 1⟩, ⟨S8x512, sumB x 0⟩]
    concatenates_S8x512_S8x512_S8x512_S8x512_S8x512_S8x512_S8x512_S8x512_S64x512_d0) shapeCasts_S64x512_S1x64x512

/-- The decays of chunk `n`, direction `d`. -/
def chunk (la : FVec F S512x1024 .f32) (n : Fin 8) (d : Fin 2) : FVec F S64x512 .f32 :=
  extractStridedSlice S64x512 ![64 * n.val, 512 * d.val] la (slices_chunk n d)

/-- The pieces stored to the decays' output after `n` chunks, newest first. -/
def laL (la : FVec F S512x1024 .f32) (n : ℕ) : List (View.Piece (Elt F) S1x512x1024 .f32) :=
  Nat.rec [] (fun n L => ⟨rL ⟨n % 8, Nat.mod_lt _ (by decide)⟩ 1, cumB (chunk la ⟨n % 8, Nat.mod_lt _ (by decide)⟩ 1)⟩
    :: ⟨rL ⟨n % 8, Nat.mod_lt _ (by decide)⟩ 0, cumF (chunk la ⟨n % 8, Nat.mod_lt _ (by decide)⟩ 0)⟩ :: L) n

/-- The decays of a block, from the gates' columns. -/
def laV (lr : FVec F S512x128 .f32) (w2 : Vec F S128x1024 .bf16) (b2 : Vec F S1x1024 .f32) : FVec F S512x1024 .f32 :=
  k0_pay10 (k0_pay8 lr w2 b2) (k0_pay9 lr w2 b2)

end Cert.Proj

end
-- ==== Proof.Kern2.Lists.lean ====
/- The pieces the kernel's run stores at a grid point, output by output, read as the vectors of Chunk.lean. -/
module

public import proofs.«01_k».proof.Proof.Kern2.Chunk

@[expose] public section

noncomputable section

namespace Cert.Proj

open Idealize.ShloMosaic Idealize.ShloMosaic.TcCoe
open Cert.Kernel2Ideal Cert.Kernel2Ideal.Gen

variable {F : FTy → Type} [FloatOps F]

variable (c : Dev nD) (i : grid0.Coords)
  (arg2 : Memref sig .tc .vmem S1x512x1024 .f32) (harg2 : arg2.IsWhole)
  (arg3 : Memref sig .tc .vmem S1x1x1024 .f32) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x7296 .bf16) (harg6 : arg6.IsWhole)
  (arg7 : Memref sig .tc .vmem S128x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x512x1024 .bf16) (harg11 : arg11.IsWhole)
  (arg12 : Memref sig .tc .vmem S1x512x1024 .bf16) (harg12 : arg12.IsWhole)
  (arg13 : Memref sig .tc .vmem S1x512x1024 .bf16) (harg13 : arg13.IsWhole)
  (arg14 : Memref sig .tc .vmem S1x512x1024 .bf16) (harg14 : arg14.IsWhole)
  (arg15 : Memref sig .tc .vmem S1x512x1024 .bf16) (harg15 : arg15.IsWhole)
  (arg16 : Memref sig .tc .vmem S1x512x1024 .bf16) (harg16 : arg16.IsWhole)
  (arg17 : Memref sig .tc .vmem S1x512x512 .f32) (harg17 : arg17.IsWhole)
  (arg18 : Memref sig .tc .vmem S1x512x512 .f32) (harg18 : arg18.IsWhole)
  (arg19 : Memref sig .tc .vmem S1x512x1024 .f32) (harg19 : arg19.IsWhole)
  (arg20 : Memref sig .tc .vmem S512x1024 .bf16) (harg20 : arg20.IsWhole)
  (x0 : Vec F S1x512x1024 .f32) (x1 : Vec F S1x1x1024 .f32) (x2 : Vec F S1x1x1024 .f32) (x3 : Vec F S1x1024 .f32) (x4 : Vec F S1024x7296 .bf16) (x5 : Vec F S128x1024 .bf16) (x6 : Vec F S1x1024 .f32) (x7 : Vec F S1x1024 .f32) (x8 : Vec F S1x1024 .f32)

/-- The normalised rows, as the kernel loads them back from its buffer. -/
def hb : Vec F S512x1024 .bf16 :=
  arg20.view.readCov [⟨rH, k0_pay2 (View.readAt (Elt F) arg2.view rO.toLoadRect (harg2.unread x0))
    (View.readAt (Elt F) arg5.view rG.toLoadRect (harg5.unread x3)) (View.readAt (Elt F) arg3.view rM.toLoadRect (harg3.unread x1))
    (View.readAt (Elt F) arg4.view rM.toLoadRect (harg4.unread x2))⟩] rH.toLoadRect

theorem list9 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).1 =
      [⟨rO, k0_pay322 (hb arg2 harg2 arg3 harg3 arg4 harg4 arg5 harg5 arg20 x0 x1 x2 x3) (View.readAt (Elt F) arg6.view rU.toLoadRect (harg6.unread x4))⟩] := by
  sl_kernel_rfl

theorem list10 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.1 =
      [⟨rO, k0_pay323 (k0_pay321 (hb arg2 harg2 arg3 harg3 arg4 harg4 arg5 harg5 arg20 x0 x1 x2 x3) (View.readAt (Elt F) arg6.view rVs.toLoadRect (harg6.unread x4))) (View.readAt (Elt F) arg9.view rG.toLoadRect (harg9.unread x7)) (View.readAt (Elt F) arg10.view rG.toLoadRect (harg10.unread x8))⟩] := by
  sl_kernel_rfl

theorem list11 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.1 =
      [⟨rO, k0_pay1 (k0_pay324 (hb arg2 harg2 arg3 harg3 arg4 harg4 arg5 harg5 arg20 x0 x1 x2 x3) (View.readAt (Elt F) arg6.view rWv.toLoadRect (harg6.unread x4)))⟩] := by
  sl_kernel_rfl

theorem list12 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.1 =
      [⟨rO, k0_pay320 (k0_pay318 (hb arg2 harg2 arg3 harg3 arg4 harg4 arg5 harg5 arg20 x0 x1 x2 x3) (View.readAt (Elt F) arg6.view rR.toLoadRect (harg6.unread x4)))⟩] := by
  sl_kernel_rfl

theorem list13 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.1 =
      [⟨rO, k0_pay317 (k0_pay7 (hb arg2 harg2 arg3 harg3 arg4 harg4 arg5 harg5 arg20 x0 x1 x2 x3) (View.readAt (Elt F) arg6.view rGa.toLoadRect (harg6.unread x4)))⟩] := by
  sl_kernel_rfl

theorem list14 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.1 =
      [⟨rO, k0_pay319 (hb arg2 harg2 arg3 harg3 arg4 harg4 arg5 harg5 arg20 x0 x1 x2 x3) (View.readAt (Elt F) arg6.view rGb.toLoadRect (harg6.unread x4))⟩] := by
  sl_kernel_rfl

theorem list15 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.1 =
      [⟨rQ, k0_pay4 (hb arg2 harg2 arg3 harg3 arg4 harg4 arg5 harg5 arg20 x0 x1 x2 x3) (View.readAt (Elt F) arg6.view rWq.toLoadRect (harg6.unread x4))⟩] := by
  sl_kernel_rfl

theorem list16 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.2.1 =
      [⟨rQ, k0_pay6 (hb arg2 harg2 arg3 harg3 arg4 harg4 arg5 harg5 arg20 x0 x1 x2 x3) (View.readAt (Elt F) arg6.view rWk.toLoadRect (harg6.unread x4))⟩] := by
  sl_kernel_rfl

theorem list17 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.2.2.1 =
      laL (laV (k0_pay3 (hb arg2 harg2 arg3 harg3 arg4 harg4 arg5 harg5 arg20 x0 x1 x2 x3) (View.readAt (Elt F) arg6.view rLr.toLoadRect (harg6.unread x4))) (View.readAt (Elt F) arg7.view r2.toLoadRect (harg7.unread x5)) (View.readAt (Elt F) arg8.view rG.toLoadRect (harg8.unread x6))) 8 := by
  sl_kernel_rfl

end Cert.Proj

end
-- ==== Proof.Kern2.Out.lean ====
/- What a grid point leaves in its nine output buffers, as vectors of its input blocks. -/
module

public import proofs.«01_k».proof.Proof.Kern2.Lists
public import Idealize.ShloMosaic.Lib.WholeRead

@[expose] public section

noncomputable section

namespace Cert.Proj

open Idealize.ShloMosaic Idealize.ShloMosaic.TcCoe
open Cert.Kernel2Ideal Cert.Kernel2Ideal.Gen

variable {F : FTy → Type} [FloatOps F]

/-- The columns of the weight a rectangle names, as values. -/
def cols (R : Rect S1024x7296) (x : Vec F S1024x7296 .bf16) : Vec F R.shape .bf16 := fun y => x (R.emb y)

theorem rH_emb (y : S512x1024.Idx) : rH.emb y = y := rH.emb_eq_of_coords y y fun a => by fin_cases a <;> simp [rH]
theorem rO_emb (y : S1x512x1024.Idx) : rO.emb y = y := rO.emb_eq_of_coords y y fun a => by fin_cases a <;> simp [rO]
theorem rQ_emb (y : S1x512x512.Idx) : rQ.emb y = y := rQ.emb_eq_of_coords y y fun a => by fin_cases a <;> simp [rQ]
theorem rG_emb (y : S1x1024.Idx) : rG.emb y = y := rG.emb_eq_of_coords y y fun a => by fin_cases a <;> simp [rG]
theorem rM_emb (y : S1x1x1024.Idx) : rM.emb y = y := rM.emb_eq_of_coords y y fun a => by fin_cases a <;> simp [rM]
theorem r2_emb (y : S128x1024.Idx) : r2.emb y = y := r2.emb_eq_of_coords y y fun a => by fin_cases a <;> simp [r2]

theorem ld_O {arg : Memref sig .tc .vmem S1x512x1024 .f32} (ha : arg.IsWhole) (x : Vec F S1x512x1024 .f32) :
    View.readAt (Elt F) arg.view rO.toLoadRect (ha.unread x) = x :=
  funext fun y => (ha.readAt_unread x rO.toLoadRect y).trans (congrArg x (rO_emb y))
theorem ld_G {arg : Memref sig .tc .vmem S1x1024 .f32} (ha : arg.IsWhole) (x : Vec F S1x1024 .f32) :
    View.readAt (Elt F) arg.view rG.toLoadRect (ha.unread x) = x :=
  funext fun y => (ha.readAt_unread x rG.toLoadRect y).trans (congrArg x (rG_emb y))
theorem ld_M {arg : Memref sig .tc .vmem S1x1x1024 .f32} (ha : arg.IsWhole) (x : Vec F S1x1x1024 .f32) :
    View.readAt (Elt F) arg.view rM.toLoadRect (ha.unread x) = x :=
  funext fun y => (ha.readAt_unread x rM.toLoadRect y).trans (congrArg x (rM_emb y))
theorem ld_2 {arg : Memref sig .tc .vmem S128x1024 .bf16} (ha : arg.IsWhole) (x : Vec F S128x1024 .bf16) :
    View.readAt (Elt F) arg.view r2.toLoadRect (ha.unread x) = x :=
  funext fun y => (ha.readAt_unread x r2.toLoadRect y).trans (congrArg x (r2_emb y))
theorem ld_W (R : Rect S1024x7296) {arg : Memref sig .tc .vmem S1024x7296 .bf16} (ha : arg.IsWhole) (x : Vec F S1024x7296 .bf16) :
    View.readAt (Elt F) arg.view R.toLoadRect (ha.unread x) = cols R x :=
  funext fun y => ha.readAt_unread x R.toLoadRect y

/-- A buffer stored whole holds what was stored. -/
theorem canon_O {e : EltTy} (w : Vec F S1x512x1024 e) (y : S1x512x1024.Idx) :
    View.canon (Val := Elt F) [⟨rO, w⟩] y = w y := by
  have h := View.canon_cons_emb (Val := Elt F) rO w [] y
  rw [rO_emb] at h
  exact h
theorem canon_Q {e : EltTy} (w : Vec F S1x512x512 e) (y : S1x512x512.Idx) :
    View.canon (Val := Elt F) [⟨rQ, w⟩] y = w y := by
  have h := View.canon_cons_emb (Val := Elt F) rQ w [] y
  rw [rQ_emb] at h
  exact h
theorem read_H (v : View sig .tc .vmem S512x1024 .bf16) (w : Vec F S512x1024 .bf16) :
    v.readCov [⟨rH, w⟩] rH.toLoadRect = w := by
  funext y
  refine (congrFun (View.readCov_eq_canon' v [⟨rH, w⟩] rH.toLoadRect) y).trans ?_
  exact View.canon_cons_emb (Val := Elt F) rH w [] y

/-! ## The decays' output, rectangle by rectangle -/

theorem rL_disjoint {n n' : Fin 8} {d d' : Fin 2} (e : n' ≠ n ∨ d' ≠ d) : Disjoint (rL n' d').set (rL n d).set := by
  by_cases hn : n' = n
  · have hd : d'.val ≠ d.val := fun q => (e.resolve_left (fun h => h hn)) (Fin.ext q)
    refine Rect.unit_disjoint (2 : Fin 3) ?_
    have := d.isLt
    have := d'.isLt
    simp [Shape.size]
    omega
  · have hn' : n'.val ≠ n.val := fun q => hn (Fin.ext q)
    refine Rect.unit_disjoint (1 : Fin 3) ?_
    simp [Shape.size]
    omega

theorem canon_miss {n n' : Fin 8} {d d' : Fin 2} (e : n' ≠ n ∨ d' ≠ d) (w : Vec F S1x64x512 .f32)
    (L : List (View.Piece (Elt F) S1x512x1024 .f32)) (x : S1x64x512.Idx) :
    View.canon (⟨rL n' d', w⟩ :: L) ((rL n d).emb x) = View.canon L ((rL n d).emb x) :=
  View.canon_cons_of_not_mem _ L (Finset.disjoint_right.mp (rL_disjoint e) ((rL n d).toLoadRect.idx_mem x))

theorem canon_hit (n : Fin 8) (d : Fin 2) (w : Vec F S1x64x512 .f32) (L : List (View.Piece (Elt F) S1x512x1024 .f32))
    (x : S1x64x512.Idx) : View.canon (⟨rL n d, w⟩ :: L) ((rL n d).emb x) = w x := View.canon_cons_emb (rL n d) w L x

/-- The rank of a chunk, kept below eight. -/
abbrev nOf (n : ℕ) : Fin 8 := ⟨n % 8, Nat.mod_lt _ (by decide)⟩

theorem laL_succ (la : FVec F S512x1024 .f32) (n : ℕ) : laL la (n + 1)
    = ⟨rL (nOf n) 1, cumB (chunk la (nOf n) 1)⟩ :: ⟨rL (nOf n) 0, cumF (chunk la (nOf n) 0)⟩ :: laL la n := rfl

theorem canon_laF (la : FVec F S512x1024 .f32) (n : Fin 8) (x : S1x64x512.Idx) : ∀ j : ℕ, n.val < j → j ≤ 8 →
    View.canon (laL la j) ((rL n 0).emb x) = cumF (chunk la n 0) x
  | 0, h, _ => absurd h (Nat.not_lt_zero _)
  | j + 1, h, h8 => by
    rw [laL_succ, canon_miss (Or.inr (by decide))]
    by_cases e : nOf j = n
    · subst e
      exact canon_hit ..
    · rw [canon_miss (Or.inl e)]
      refine canon_laF la n x j ?_ (by omega)
      have : j % 8 ≠ n.val := fun q => e (Fin.ext q)
      omega

theorem canon_laB (la : FVec F S512x1024 .f32) (n : Fin 8) (x : S1x64x512.Idx) : ∀ j : ℕ, n.val < j → j ≤ 8 →
    View.canon (laL la j) ((rL n 1).emb x) = cumB (chunk la n 1) x
  | 0, h, _ => absurd h (Nat.not_lt_zero _)
  | j + 1, h, h8 => by
    rw [laL_succ]
    by_cases e : nOf j = n
    · subst e
      exact canon_hit ..
    · rw [canon_miss (Or.inl e), canon_miss (Or.inl e)]
      refine canon_laB la n x j ?_ (by omega)
      have : j % 8 ≠ n.val := fun q => e (Fin.ext q)
      omega

/-! ## The outputs -/

variable (c : Dev nD) (i : grid0.Coords)
  (arg2 : Memref sig .tc .vmem S1x512x1024 .f32) (harg2 : arg2.IsWhole)
  (arg3 : Memref sig .tc .vmem S1x1x1024 .f32) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x7296 .bf16) (harg6 : arg6.IsWhole)
  (arg7 : Memref sig .tc .vmem S128x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x512x1024 .bf16) (harg11 : arg11.IsWhole)
  (arg12 : Memref sig .tc .vmem S1x512x1024 .bf16) (harg12 : arg12.IsWhole)
  (arg13 : Memref sig .tc .vmem S1x512x1024 .bf16) (harg13 : arg13.IsWhole)
  (arg14 : Memref sig .tc .vmem S1x512x1024 .bf16) (harg14 : arg14.IsWhole)
  (arg15 : Memref sig .tc .vmem S1x512x1024 .bf16) (harg15 : arg15.IsWhole)
  (arg16 : Memref sig .tc .vmem S1x512x1024 .bf16) (harg16 : arg16.IsWhole)
  (arg17 : Memref sig .tc .vmem S1x512x512 .f32) (harg17 : arg17.IsWhole)
  (arg18 : Memref sig .tc .vmem S1x512x512 .f32) (harg18 : arg18.IsWhole)
  (arg19 : Memref sig .tc .vmem S1x512x1024 .f32) (harg19 : arg19.IsWhole)
  (arg20 : Memref sig .tc .vmem S512x1024 .bf16) (harg20 : arg20.IsWhole)
  (x0 : Vec F S1x512x1024 .f32) (x1 : Vec F S1x1x1024 .f32) (x2 : Vec F S1x1x1024 .f32) (x3 : Vec F S1x1024 .f32) (x4 : Vec F S1024x7296 .bf16) (x5 : Vec F S128x1024 .bf16) (x6 : Vec F S1x1024 .f32) (x7 : Vec F S1x1024 .f32) (x8 : Vec F S1x1024 .f32)

theorem hb_eq : hb arg2 harg2 arg3 harg3 arg4 harg4 arg5 harg5 arg20 x0 x1 x2 x3 = k0_pay2 x0 x3 x1 x2 := by
  unfold hb
  rw [read_H, ld_O, ld_G, ld_M, ld_M]

theorem out9_eq :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay322 (k0_pay2 x0 x3 x1 x2) (cols rU x4) := by
  funext y
  unfold out0_A_9
  rw [View.read_writes_junk_apply_eq_canon, list9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_O _ y

theorem out10_eq :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay323 (k0_pay321 (k0_pay2 x0 x3 x1 x2) (cols rVs x4)) x7 x8 := by
  funext y
  unfold out0_A_10
  rw [View.read_writes_junk_apply_eq_canon, list10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W, ld_G, ld_G]
  exact canon_O _ y

theorem out11_eq :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay1 (k0_pay324 (k0_pay2 x0 x3 x1 x2) (cols rWv x4)) := by
  funext y
  unfold out0_A_11
  rw [View.read_writes_junk_apply_eq_canon, list11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_O _ y

theorem out12_eq :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay320 (k0_pay318 (k0_pay2 x0 x3 x1 x2) (cols rR x4)) := by
  funext y
  unfold out0_A_12
  rw [View.read_writes_junk_apply_eq_canon, list12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_O _ y

theorem out13_eq :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay317 (k0_pay7 (k0_pay2 x0 x3 x1 x2) (cols rGa x4)) := by
  funext y
  unfold out0_A_13
  rw [View.read_writes_junk_apply_eq_canon, list13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_O _ y

theorem out14_eq :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay319 (k0_pay2 x0 x3 x1 x2) (cols rGb x4) := by
  funext y
  unfold out0_A_14
  rw [View.read_writes_junk_apply_eq_canon, list14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_O _ y

theorem out15_eq :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay4 (k0_pay2 x0 x3 x1 x2) (cols rWq x4) := by
  funext y
  unfold out0_A_15
  rw [View.read_writes_junk_apply_eq_canon, list15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_Q _ y

theorem out16_eq :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 = k0_pay6 (k0_pay2 x0 x3 x1 x2) (cols rWk x4) := by
  funext y
  unfold out0_A_16
  rw [View.read_writes_junk_apply_eq_canon, list16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W]
  exact canon_Q _ y

theorem out17_F (n : Fin 8) (y : S1x64x512.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 ((rL n 0).emb y)
      = cumF (chunk (laV (k0_pay3 (k0_pay2 x0 x3 x1 x2) (cols rLr x4)) x5 x6) n 0) y := by
  unfold out0_A_17
  rw [View.read_writes_junk_apply_eq_canon, list17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W, ld_2, ld_G]
  exact canon_laF _ n y 8 n.isLt le_rfl

theorem out17_B (n : Fin 8) (y : S1x64x512.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 ((rL n 1).emb y)
      = cumB (chunk (laV (k0_pay3 (k0_pay2 x0 x3 x1 x2) (cols rLr x4)) x5 x6) n 1) y := by
  unfold out0_A_17
  rw [View.read_writes_junk_apply_eq_canon, list17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8, hb_eq, ld_W, ld_2, ld_G]
  exact canon_laB _ n y 8 n.isLt le_rfl

end Cert.Proj

end
-- ==== Proof.Proj.Spec.lean ====
/- The projection in front of the scan, over the extended reals: a row normalised and modulated, times the columns of the weight, and what
   the blocks of columns become. -/
module

public import Idealize.ShloMosaic.Lib.Pointwise

@[expose] public section

noncomputable section

namespace Cert.ProjSpec

open Idealize.ShloMosaic

/-- The width of a row, 1024. -/
abbrev width : EReal := Ideal.ofBits .f32 0x44800000#32
/-- What is added to a mean square. -/
abbrev eps : EReal := Ideal.ofBits .f32 0x358637BD#32
/-- One half. -/
abbrev half : EReal := Ideal.ofBits .f32 0x3F000000#32
/-- The reciprocal of the root of two, as the float holds it. -/
abbrev rt : EReal := Ideal.ofBits .f32 0x3F3504F3#32
/-- The queries' scale. -/
abbrev qs : EReal := Ideal.ofBits .f32 0x3DB504F3#32
/-- One sixteenth. -/
abbrev sixteenth : EReal := Ideal.ofBits .f32 0x3D800000#32

/-- A row over its root mean square, scaled and shifted. -/
def rnorm (x g sc sh : Fin 1024 → EReal) (y : Fin 1024) : EReal :=
  x y * Ideal.rsqrt (Ideal.div (∑ z, x z * x z) width + eps) * g y * (1 + sc y) + sh y

/-- The Gaussian unit. -/
def gelu (a : EReal) : EReal := half * a * (1 + FloatOps.erf (F := Ideal) (φ := .f32) (a * rt))

/-- The logistic function. -/
def logi (a : EReal) : EReal := Ideal.div 1 (1 + Ideal.exp (0 - a))

/-- A row less its mean, over its deviation, scaled and shifted. -/
def lnorm (f g b : Fin 1024 → EReal) (y : Fin 1024) : EReal :=
  (f y - Ideal.div (∑ z, f z) width)
    * Ideal.rsqrt (Ideal.div (∑ z, (f z - Ideal.div (∑ z, f z) width) * (f z - Ideal.div (∑ z, f z) width)) width + eps) * g y + b y

/-- The log-decay: a sixteenth of the logarithm of the logistic function, by the formula that does not overflow. -/
def decay (z : EReal) : EReal :=
  (min z 0 - Ideal.log (1 + Ideal.exp (0 - FloatOps.absf (F := Ideal) (φ := .f32) z))) * sixteenth

/-- The arrays the projection takes. -/
structure Arr where
  /-- The rows. -/
  x : Fin 4 → Fin 4096 → Fin 1024 → EReal
  /-- A batch's shift. -/
  sh : Fin 4 → Fin 1024 → EReal
  /-- A batch's scale. -/
  sc : Fin 4 → Fin 1024 → EReal
  /-- The rows' gain. -/
  g : Fin 1024 → EReal
  /-- The weight. -/
  w : Fin 1024 → Fin 7200 → EReal
  /-- The gain of the gate's normalisation. -/
  lg : Fin 1024 → EReal
  /-- Its offset. -/
  lb : Fin 1024 → EReal
  /-- The two directions' second decay weights. -/
  w2 : Fin 2 → Fin 16 → Fin 512 → EReal
  /-- Their offsets. -/
  b2 : Fin 2 → Fin 512 → EReal

namespace Arr

variable (A : Arr) (b : Fin 4) (p : Fin 4096)

/-- The normalised row. -/
def h (y : Fin 1024) : EReal := rnorm (A.x b p) A.g (A.sc b) (A.sh b) y

/-- Column `k` of the projection. -/
def proj (k : Fin 7200) : EReal := ∑ z : Fin 1024, A.h b p z * A.w z k

/-- Column `y` of the block of columns that starts at `o`. -/
def at' (o : ℕ) {n : ℕ} (ho : o + n ≤ 7200) (y : Fin n) : EReal := A.proj b p ⟨o + y.val, by omega⟩

/-- The decay's argument. -/
def z (d : Fin 2) (y : Fin 512) : EReal :=
  ∑ r : Fin 16, A.proj b p ⟨7168 + (16 * d.val + r.val), by omega⟩ * A.w2 d r y + A.b2 d y

/-- A log-decay within a chunk. -/
def la (d : Fin 2) (s : Fin 64) (y : Fin 512) (c : ℕ) : EReal :=
  decay (A.z b ⟨64 * s.val + c % 64, by omega⟩ d y)

def gu (y : Fin 1024) : EReal := gelu (A.at' b p 0 (n := 1024) (by decide) y)
def vn (y : Fin 1024) : EReal := lnorm (fun y => gelu (A.at' b p 1024 (n := 1024) (by decide) y)) A.lg A.lb y
def v (y : Fin 1024) : EReal := A.at' b p 6144 (n := 1024) (by decide) y
def rs (y : Fin 1024) : EReal := A.at' b p 2560 (n := 1024) (by decide) y * logi (A.at' b p 2560 (n := 1024) (by decide) y)
def ga (y : Fin 1024) : EReal := logi (A.at' b p 3584 (n := 1024) (by decide) y)
def gb (y : Fin 1024) : EReal := logi (A.at' b p 4608 (n := 1024) (by decide) y)
def q (y : Fin 512) : EReal := A.at' b p 2048 (n := 512) (by decide) y * qs
def k (y : Fin 512) : EReal := A.at' b p 5632 (n := 512) (by decide) y

/-- The running sums of the decays within a chunk: forward to a position with it, backward from the chunk's end to a position with it. -/
def cum (d : Fin 2) (s c : Fin 64) (y : Fin 512) : EReal :=
  if d = 0 then ∑ i ∈ Finset.range (c.val + 1), A.la b d s y i else ∑ i ∈ Finset.range (64 - c.val), A.la b d s y (63 - i)

/-- The decays' result: the forward columns, then the backward ones. -/
def las (y : Fin 1024) : EReal :=
  A.cum b ⟨y.val / 512, by omega⟩ ⟨p.val / 64, by omega⟩ ⟨p.val % 64, by omega⟩ ⟨y.val % 512, by omega⟩

theorem las_eq (s c : Fin 64) (d : Fin 2) (z : Fin 512) (p : Fin 4096) (y : Fin 1024) (hp : p.val = 64 * s.val + c.val) (hy : y.val = 512 * d.val + z.val) :
    A.las b p y = A.cum b d s c z := by
  unfold las
  congr 1 <;> exact Fin.ext (by simp only []; omega)

end Arr

end Cert.ProjSpec

end
-- ==== Proof.Kern2.Point.lean ====
/- The kernel's payloads at an index, over the extended reals. -/
module

public import proofs.«01_k».proof.Proof.Kern2.Out
public import proofs.«01_k».proof.Proof.Proj.Spec

@[expose] public section

set_option maxRecDepth 16384

noncomputable section

namespace Cert.Proj

open Idealize.ShloMosaic Idealize.ShloMosaic.TcCoe
open Cert.Kernel2Ideal Cert.Kernel2Ideal.Gen
open Cert.ProjSpec

theorem pay2_apply (x : Vec Ideal S1x512x1024 .f32) (g : Vec Ideal S1x1024 .f32) (sh sc : Vec Ideal S1x1x1024 .f32) (p : Fin 512) (y : Fin 1024) :
    k0_pay2 x g sh sc (ix2 p y)
      = rnorm (fun y => x (ix3 0 p y)) (fun y => g (ix2 0 y)) (fun y => sc (ix3 0 0 y)) (fun y => sh (ix3 0 0 y)) y := by
  pointwise [k0_pay2, rnorm]

section

variable (h : Vec Ideal S512x1024 .bf16) (w : Vec Ideal S1024x1024 .bf16) (w' : Vec Ideal S1024x512 .bf16) (p : Fin 512)

/-- A product's column. -/
def mm {n : ℕ} (w : (⟨2, ![1024, n]⟩ : Shape).Idx → EReal) (y : Fin n) : EReal := ∑ z : Fin 1024, h (ix2 p z) * w (ix2 z y)

theorem pay4_apply (y : Fin 512) : k0_pay4 h w' (ix3 0 p y) = mm h p w' y * qs := by pointwise [k0_pay4, mm]
theorem pay6_apply (y : Fin 512) : k0_pay6 h w' (ix3 0 p y) = mm h p w' y := by pointwise [k0_pay6, mm]
theorem pay322_apply (y : Fin 1024) : k0_pay322 h w (ix3 0 p y) = gelu (mm h p w y) := by pointwise [k0_pay322, mm, gelu]
theorem pay1_apply (y : Fin 1024) : k0_pay1 (k0_pay324 h w) (ix3 0 p y) = mm h p w y := by pointwise [k0_pay1, k0_pay324, mm]
theorem pay320_apply (y : Fin 1024) : k0_pay320 (k0_pay318 h w) (ix3 0 p y) = mm h p w y * logi (mm h p w y) := by
  pointwise [k0_pay320, k0_pay318, mm, logi]
theorem pay317_apply (y : Fin 1024) : k0_pay317 (k0_pay7 h w) (ix3 0 p y) = logi (mm h p w y) := by
  pointwise [k0_pay317, k0_pay7, mm, logi]
theorem pay319_apply (y : Fin 1024) : k0_pay319 h w (ix3 0 p y) = logi (mm h p w y) := by
  pointwise [k0_pay319, mm, logi]
theorem pay321_apply (y : Fin 1024) : k0_pay321 h w (ix2 p y) = mm h p w y := by pointwise [k0_pay321, mm]
theorem pay3_apply (w : Vec Ideal S1024x128 .bf16) (y : Fin 128) : k0_pay3 h w (ix2 p y) = mm h p w y := by pointwise [k0_pay3, mm]

end

theorem pay323_apply (a : FVec Ideal S512x1024 .f32) (g b : Vec Ideal S1x1024 .f32) (p : Fin 512) (y : Fin 1024) :
    k0_pay323 a g b (ix3 0 p y) = lnorm (fun z => gelu (a (ix2 p z))) (fun z => g (ix2 0 z)) (fun z => b (ix2 0 z)) y := by
  pointwise [k0_pay323, lnorm, gelu]

theorem laV_apply (lr : FVec Ideal S512x128 .f32) (w2 : Vec Ideal S128x1024 .bf16) (b2 : Vec Ideal S1x1024 .f32) (p : Fin 512) (y : Fin 1024) :
    laV lr w2 b2 (ix2 p y) = decay (∑ r : Fin 128, lr (ix2 p r) * w2 (ix2 r y) + b2 (ix2 0 y)) := by
  pointwise [laV, k0_pay10, k0_pay8, k0_pay9, k0_pay5, decay]

/-! ## Running sums -/

theorem stF1 (Y : FVec Ideal S8x512 .f32) (p : Fin 8) (y : Fin 512) : stF 1#32 Y (ix2 p y)
    = Y (ix2 p y) + if 1 ≤ p.val then Y (ix2 ⟨(p.val + 8 - 1) % 8, by omega⟩ y) else 0 := by
  pointwise [stF]
  fin_cases p <;> rfl
theorem stF2 (Y : FVec Ideal S8x512 .f32) (p : Fin 8) (y : Fin 512) : stF 2#32 Y (ix2 p y)
    = Y (ix2 p y) + if 2 ≤ p.val then Y (ix2 ⟨(p.val + 8 - 2) % 8, by omega⟩ y) else 0 := by
  pointwise [stF]
  fin_cases p <;> rfl
theorem stF4 (Y : FVec Ideal S8x512 .f32) (p : Fin 8) (y : Fin 512) : stF 4#32 Y (ix2 p y)
    = Y (ix2 p y) + if 4 ≤ p.val then Y (ix2 ⟨(p.val + 8 - 4) % 8, by omega⟩ y) else 0 := by
  pointwise [stF]
  fin_cases p <;> rfl
theorem stB7 (Y : FVec Ideal S8x512 .f32) (p : Fin 8) (y : Fin 512) : stB 7#32 Y (ix2 p y)
    = Y (ix2 p y) + if p.val < 7 then Y (ix2 ⟨(p.val + 8 - 7) % 8, by omega⟩ y) else 0 := by
  pointwise [stB]
  fin_cases p <;> rfl
theorem stB6 (Y : FVec Ideal S8x512 .f32) (p : Fin 8) (y : Fin 512) : stB 6#32 Y (ix2 p y)
    = Y (ix2 p y) + if p.val < 6 then Y (ix2 ⟨(p.val + 8 - 6) % 8, by omega⟩ y) else 0 := by
  pointwise [stB]
  fin_cases p <;> rfl
theorem stB4 (Y : FVec Ideal S8x512 .f32) (p : Fin 8) (y : Fin 512) : stB 4#32 Y (ix2 p y)
    = Y (ix2 p y) + if p.val < 4 then Y (ix2 ⟨(p.val + 8 - 4) % 8, by omega⟩ y) else 0 := by
  pointwise [stB]
  fin_cases p <;> rfl

theorem tile_apply (x : FVec Ideal S64x512 .f32) (j p : Fin 8) (y : Fin 512) :
    tile x j (ix2 p y) = x (ix2 ⟨8 * j.val + p.val, by omega⟩ y) := by
  pointwise [tile]
theorem chunk_apply (a : FVec Ideal S512x1024 .f32) (n : Fin 8) (d : Fin 2) (p : Fin 64) (y : Fin 512) :
    chunk a n d (ix2 p y) = a (ix2 ⟨64 * n.val + p.val, by omega⟩ ⟨512 * d.val + y.val, by omega⟩) := by
  pointwise [chunk]
theorem carryF_apply (X Y : FVec Ideal S8x512 .f32) (p : Fin 8) (y : Fin 512) :
    carryF X Y (ix2 p y) = Y (ix2 p y) + X (ix2 7 y) := by
  pointwise [carryF]
theorem carryB_apply (X Y : FVec Ideal S8x512 .f32) (p : Fin 8) (y : Fin 512) :
    carryB X Y (ix2 p y) = Y (ix2 p y) + X (ix2 0 y) := by
  pointwise [carryB]

/-- A chunk's column by position. -/
def cl (x : FVec Ideal S64x512 .f32) (y : Fin 512) (c : ℕ) : EReal := x (ix2 ⟨c % 64, Nat.mod_lt _ (by decide)⟩ y)

theorem tile_cl (x : FVec Ideal S64x512 .f32) (j p : Fin 8) (y : Fin 512) :
    tile x j (ix2 p y) = cl x y (8 * j.val + p.val) := by
  rw [tile_apply]
  unfold cl
  congr 3
  omega

theorem tileF_apply (x : FVec Ideal S64x512 .f32) (j p : Fin 8) (y : Fin 512) :
    tileF x j (ix2 p y) = ∑ i ∈ Finset.range (p.val + 1), cl x y (8 * j.val + i) := by
  unfold tileF
  simp only [stF4, stF2, stF1, tile_cl]
  fin_cases p <;> simp [Finset.sum_range_succ] <;> abel

theorem tileB_apply (x : FVec Ideal S64x512 .f32) (j p : Fin 8) (y : Fin 512) :
    tileB x j (ix2 p y) = ∑ i ∈ Finset.range (8 - p.val), cl x y (8 * j.val + 7 - i) := by
  unfold tileB
  simp only [stB4, stB6, stB7, tile_cl]
  fin_cases p <;> simp [Finset.sum_range_succ] <;> abel

theorem sumF_succ (x : FVec Ideal S64x512 .f32) (j : ℕ) :
    sumF x (j + 1) = carryF (sumF x j) (tileF x ⟨(j + 1) % 8, Nat.mod_lt _ (by decide)⟩) := rfl
theorem sumB_succ (x : FVec Ideal S64x512 .f32) (j : ℕ) :
    sumB x (j + 1) = carryB (sumB x j) (tileB x ⟨(7 - (j + 1)) % 8, Nat.mod_lt _ (by decide)⟩) := rfl

theorem sumF_apply (x : FVec Ideal S64x512 .f32) (y : Fin 512) : ∀ (j : ℕ) (hj : j < 8) (p : Fin 8),
    sumF x j (ix2 p y) = ∑ i ∈ Finset.range (8 * j + p.val + 1), cl x y i
  | 0, _, p => by
    refine (tileF_apply x 0 p y).trans ?_
    simp
  | j + 1, hj, p => by
    rw [sumF_succ, carryF_apply, sumF_apply x y j (by omega) 7, tileF_apply, add_comm]
    have e : 8 * (j + 1) + p.val + 1 = (8 * j + 7 + 1) + (p.val + 1) := by omega
    rw [e, Finset.sum_range_add (cl x y) (8 * j + 7 + 1) (p.val + 1)]
    refine congrArg₂ (· + ·) rfl (Finset.sum_congr rfl fun i _ => congrArg (cl x y) ?_)
    simp only []
    omega

theorem sumB_apply (x : FVec Ideal S64x512 .f32) (y : Fin 512) : ∀ (j : ℕ) (hj : j < 8) (p : Fin 8),
    sumB x j (ix2 p y) = ∑ i ∈ Finset.range (8 * j + 8 - p.val), cl x y (63 - i)
  | 0, _, p => by
    refine (tileB_apply x 7 p y).trans ?_
    simp
  | j + 1, hj, p => by
    rw [sumB_succ, carryB_apply, sumB_apply x y j (by omega) 0, tileB_apply, add_comm]
    have e : 8 * (j + 1) + 8 - p.val = (8 * j + 8 - (0 : Fin 8).val) + (8 - p.val) := by
      have := p.isLt
      simp only [Fin.val_zero]
      omega
    rw [e, Finset.sum_range_add (fun i => cl x y (63 - i))]
    refine congrArg₂ (· + ·) rfl (Finset.sum_congr rfl fun i hi => congrArg (cl x y) ?_)
    have := Finset.mem_range.mp hi
    simp only [Fin.val_zero]
    omega

theorem cumF_tile (x : FVec Ideal S64x512 .f32) (j p : Fin 8) (y : Fin 512) :
    cumF x (ix3 0 ⟨8 * j.val + p.val, by omega⟩ y) = sumF x j.val (ix2 p y) := by
  fin_cases j <;> fin_cases p <;> pointwise [cumF]

theorem cumB_tile (x : FVec Ideal S64x512 .f32) (j p : Fin 8) (y : Fin 512) :
    cumB x (ix3 0 ⟨8 * j.val + p.val, by omega⟩ y) = sumB x (7 - j.val) (ix2 p y) := by
  fin_cases j <;> fin_cases p <;> pointwise [cumB]

end Cert.Proj

end
-- ==== Proof.Kern2.Blocks.lean ====
/- Where the projection's windows lie in the arrays, and the arrays the host prepares for it. -/
module

public import proofs.«01_k».proof.Proof.Kern2.Point
public import proofs.«01_k».proof.Proof.Gen.Kernel2Ideal.Value
public import Idealize.ShloMosaic.Lib.Pipeline.ValueKit.Point
public import Idealize.ShloMosaic.Lib.StableHlo.ReadAt

@[expose] public section

set_option maxRecDepth 16384

noncomputable section

namespace Cert.Proj

open Idealize.ShloMosaic Idealize.ShloMosaic.TcCoe
open Cert.Kernel2Ideal Cert.Kernel2Ideal.Gen

theorem rL_emb (n : Fin 8) (d : Fin 2) (r : Fin 64) (y : Fin 512) :
    (rL n d).emb (ix3 0 r y) = (ix3 0 ⟨64 * n.val + r.val, by omega⟩ ⟨512 * d.val + y.val, by omega⟩ : S1x512x1024.Idx) := by
  refine (rL n d).emb_eq_of_coords _ _ fun a => ?_
  fin_cases a <;> simp [rL]

theorem idx : ∀ t : Fin cfg0.N,
    win0_0.index t = ![t.val / 8, t.val % 8, 0] ∧ win0_1.index t = ![t.val / 8, 0, 0] ∧ win0_2.index t = ![t.val / 8, 0, 0]
    ∧ win0_3.index t = ![0, 0] ∧ win0_4.index t = ![0, 0] ∧ win0_5.index t = ![0, 0] ∧ win0_6.index t = ![0, 0]
    ∧ win0_7.index t = ![0, 0] ∧ win0_8.index t = ![0, 0]
    ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0]
    ∧ win0_13.index t = ![t.val / 8, t.val % 8, 0] ∧ win0_14.index t = ![t.val / 8, t.val % 8, 0]
    ∧ win0_15.index t = ![t.val / 8, t.val % 8, 0] ∧ win0_16.index t = ![t.val / 8, t.val % 8, 0]
    ∧ win0_17.index t = ![t.val / 8, t.val % 8, 0] := by
  decide +kernel

variable (m : (ℓ : Loc nD τ sig) → Buf (Elt Ideal) ℓ) (c : Dev nD) (t : Fin cfg0.N) (b : Fin 4) (i : Fin 8)

/-! ## The arrays the host prepares -/

theorem V_x (b : Fin 4) (p : Fin 4096) (y : Fin 1024) : (V m c main_arg0 : S4x4096x1024.Idx → EReal) (ix3 b p y)
    = (m ((c : Thread nD τ).loc main_arg0) : S4x4096x1024.Idx → EReal) (ix3 b p y) := by
  unfold V
  after_reads_at
theorem V_sh (b : Fin 4) (y : Fin 1024) : (V m c main_arg1 : S4x1x1024.Idx → EReal) (ix3 b 0 y)
    = (m ((c : Thread nD τ).loc main_arg1) : S4x1x1024.Idx → EReal) (ix3 b 0 y) := by
  unfold V
  after_reads_at
theorem V_sc (b : Fin 4) (y : Fin 1024) : (V m c main_arg2 : S4x1x1024.Idx → EReal) (ix3 b 0 y)
    = (m ((c : Thread nD τ).loc main_arg2) : S4x1x1024.Idx → EReal) (ix3 b 0 y) := by
  unfold V
  after_reads_at
theorem V_g (y : Fin 1024) : (V m c main_v17 : S1x1024.Idx → EReal) (ix2 0 y)
    = (m ((c : Thread nD τ).loc main_arg3) : S1024.Idx → EReal) (ix1 y) := by
  unfold V
  after_reads_at
theorem V_lg (y : Fin 1024) : (V m c main_v18 : S1x1024.Idx → EReal) (ix2 0 y)
    = (m ((c : Thread nD τ).loc main_arg5) : S1024.Idx → EReal) (ix1 y) := by
  unfold V
  after_reads_at
theorem V_lb (y : Fin 1024) : (V m c main_v19 : S1x1024.Idx → EReal) (ix2 0 y)
    = (m ((c : Thread nD τ).loc main_arg6) : S1024.Idx → EReal) (ix1 y) := by
  unfold V
  after_reads_at
theorem V_w (z : Fin 1024) (k : Fin 7296) (hk : k.val < 7200) : (V m c main_v1 : S1024x7296.Idx → EReal) (ix2 z k)
    = (m ((c : Thread nD τ).loc main_arg4) : S1024x7200.Idx → EReal) (ix2 z ⟨k.val, hk⟩) := by
  unfold V
  after_reads_at
  exact dif_pos hk

/-! ## The blocks -/

theorem blk0 (ht : t.val = 8 * b.val + i.val) (p : Fin 512) (y : Fin 1024) :
    (iblk m c 0 t : S1x512x1024.Idx → EReal) (ix3 0 p y) = (V m c main_arg0 : S4x4096x1024.Idx → EReal) (ix3 b ⟨512 * i.val + p.val, by omega⟩ y) := by
  blk_ext [iblk, idx t]
theorem blk1 (ht : t.val = 8 * b.val + i.val) (y : Fin 1024) :
    (iblk m c 1 t : S1x1x1024.Idx → EReal) (ix3 0 0 y) = (V m c main_arg1 : S4x1x1024.Idx → EReal) (ix3 b 0 y) := by
  blk_ext [iblk, idx t]
theorem blk2 (ht : t.val = 8 * b.val + i.val) (y : Fin 1024) :
    (iblk m c 2 t : S1x1x1024.Idx → EReal) (ix3 0 0 y) = (V m c main_arg2 : S4x1x1024.Idx → EReal) (ix3 b 0 y) := by
  blk_ext [iblk, idx t]
theorem blk3 (y : Fin 1024) :
    (iblk m c 3 t : S1x1024.Idx → EReal) (ix2 0 y) = (V m c main_v17 : S1x1024.Idx → EReal) (ix2 0 y) := by
  blk_ext [iblk, idx t]
theorem blk4 (z : Fin 1024) (k : Fin 7296) :
    (iblk m c 4 t : S1024x7296.Idx → EReal) (ix2 z k) = (V m c main_v1 : S1024x7296.Idx → EReal) (ix2 z k) := by
  blk_ext [iblk, idx t]
theorem blk5 (z : Fin 128) (k : Fin 1024) :
    (iblk m c 5 t : S128x1024.Idx → EReal) (ix2 z k) = (V m c main_v15 : S128x1024.Idx → EReal) (ix2 z k) := by
  blk_ext [iblk, idx t]
theorem blk6 (y : Fin 1024) :
    (iblk m c 6 t : S1x1024.Idx → EReal) (ix2 0 y) = (V m c main_v16 : S1x1024.Idx → EReal) (ix2 0 y) := by
  blk_ext [iblk, idx t]
theorem blk7 (y : Fin 1024) :
    (iblk m c 7 t : S1x1024.Idx → EReal) (ix2 0 y) = (V m c main_v18 : S1x1024.Idx → EReal) (ix2 0 y) := by
  blk_ext [iblk, idx t]
theorem blk8 (y : Fin 1024) :
    (iblk m c 8 t : S1x1024.Idx → EReal) (ix2 0 y) = (V m c main_v19 : S1x1024.Idx → EReal) (ix2 0 y) := by
  blk_ext [iblk, idx t]

theorem emb9 (ht : t.val = 8 * b.val + i.val) (p : Fin 512) (y : Fin 1024) : ((cfg0.win 9).blk t).view.emb (ix3 0 p y : S1x512x1024.Idx)
    = (ix3 b ⟨512 * i.val + p.val, by omega⟩ y : S4x4096x1024.Idx) := by blk_ext [idx t]
theorem emb10 (ht : t.val = 8 * b.val + i.val) (p : Fin 512) (y : Fin 1024) : ((cfg0.win 10).blk t).view.emb (ix3 0 p y : S1x512x1024.Idx)
    = (ix3 b ⟨512 * i.val + p.val, by omega⟩ y : S4x4096x1024.Idx) := by blk_ext [idx t]
theorem emb11 (ht : t.val = 8 * b.val + i.val) (p : Fin 512) (y : Fin 1024) : ((cfg0.win 11).blk t).view.emb (ix3 0 p y : S1x512x1024.Idx)
    = (ix3 b ⟨512 * i.val + p.val, by omega⟩ y : S4x4096x1024.Idx) := by blk_ext [idx t]
theorem emb12 (ht : t.val = 8 * b.val + i.val) (p : Fin 512) (y : Fin 1024) : ((cfg0.win 12).blk t).view.emb (ix3 0 p y : S1x512x1024.Idx)
    = (ix3 b ⟨512 * i.val + p.val, by omega⟩ y : S4x4096x1024.Idx) := by blk_ext [idx t]
theorem emb13 (ht : t.val = 8 * b.val + i.val) (p : Fin 512) (y : Fin 1024) : ((cfg0.win 13).blk t).view.emb (ix3 0 p y : S1x512x1024.Idx)
    = (ix3 b ⟨512 * i.val + p.val, by omega⟩ y : S4x4096x1024.Idx) := by blk_ext [idx t]
theorem emb14 (ht : t.val = 8 * b.val + i.val) (p : Fin 512) (y : Fin 1024) : ((cfg0.win 14).blk t).view.emb (ix3 0 p y : S1x512x1024.Idx)
    = (ix3 b ⟨512 * i.val + p.val, by omega⟩ y : S4x4096x1024.Idx) := by blk_ext [idx t]
theorem emb15 (ht : t.val = 8 * b.val + i.val) (p : Fin 512) (y : Fin 512) : ((cfg0.win 15).blk t).view.emb (ix3 0 p y : S1x512x512.Idx)
    = (ix3 b ⟨512 * i.val + p.val, by omega⟩ y : S4x4096x512.Idx) := by blk_ext [idx t]
theorem emb16 (ht : t.val = 8 * b.val + i.val) (p : Fin 512) (y : Fin 512) : ((cfg0.win 16).blk t).view.emb (ix3 0 p y : S1x512x512.Idx)
    = (ix3 b ⟨512 * i.val + p.val, by omega⟩ y : S4x4096x512.Idx) := by blk_ext [idx t]
theorem emb17 (ht : t.val = 8 * b.val + i.val) (p : Fin 512) (y : Fin 1024) : ((cfg0.win 17).blk t).view.emb (ix3 0 p y : S1x512x1024.Idx)
    = (ix3 b ⟨512 * i.val + p.val, by omega⟩ y : S4x4096x1024.Idx) := by blk_ext [idx t]

end Cert.Proj

end
-- ==== Proof.Kern2.Host.lean ====
/- The second decay weight and its offset as the host prepares them: the two directions' weights stand as blocks of one matrix, zero
   elsewhere, so a column of the product sees its own direction's sixteen rows only. -/
module

public import proofs.«01_k».proof.Proof.Kern2.Point
public import proofs.«01_k».proof.Proof.Gen.Kernel2Ideal.Value
public import Idealize.ShloMosaic.Lib.StableHlo.ReadAt
public import Idealize.ShloMosaic.Lib.Routing.OpsSet

@[expose] public section

set_option maxRecDepth 16384

noncomputable section

namespace Cert.Proj

open Idealize.ShloMosaic Idealize.ShloMosaic.TcCoe
open Cert.Kernel2Ideal Cert.Kernel2Ideal.Gen

/-- Two words side by side. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

theorem pair_0 (a b : BitVec 32) : pair a b (ix1 0) = a := by pointwise [pair]
theorem pair_1 (a b : BitVec 32) : pair a b (ix1 1) = b := by pointwise [pair]

/-- One direction's weight. -/
def w2d0 (a7 : S2x16x512.Idx → EReal) : S16x512.Idx → EReal :=
  shapeCast S16x512 (extractStridedSlice S1x16x512 ![0, 0, 0] a7 slices_S2x16x512_S1x16x512_0_0_0) shapeCasts_S1x16x512_S16x512
def w2d1 (a7 : S2x16x512.Idx → EReal) : S16x512.Idx → EReal :=
  shapeCast S16x512 (extractStridedSlice S1x16x512 ![1, 0, 0] a7 slices_S2x16x512_S1x16x512_1_0_0) shapeCasts_S1x16x512_S16x512

theorem w2d0_apply (a7 : S2x16x512.Idx → EReal) (r : Fin 16) (y : Fin 512) : w2d0 a7 (ix2 r y) = a7 (ix3 0 r y) := by pointwise [w2d0]
theorem w2d1_apply (a7 : S2x16x512.Idx → EReal) (r : Fin 16) (y : Fin 512) : w2d1 a7 (ix2 r y) = a7 (ix3 1 r y) := by pointwise [w2d1]

/-- A block set at a corner, read. -/
theorem set_apply (x0 : S128x1024.Idx → EReal) (a b : BitVec 32) (u : S16x512.Idx → EReal) (A B : ℕ) (hA : a.toInt = (A : ℤ)) (hB : b.toInt = (B : ℤ))
    (r : Fin 128) (k : Fin 1024) :
    Host.scatter scatter_S128x1024_S2_S16x512_01_n_01_0 (fun _ b => b) x0 (pair a b) u (ix2 r k)
      = if h : (A ≤ r.val ∧ r.val < A + 16) ∧ (B ≤ k.val ∧ k.val < B + 512)
        then u (ix2 ⟨r.val - A, by omega⟩ ⟨k.val - B, by omega⟩) else x0 (ix2 r k) := by
  have key : ∀ j : S16x512.Idx, scatter_S128x1024_S2_S16x512_01_n_01_0.resultIdx? j (pair a b) = some (ix2 r k)
      ↔ A + (j 0).val = r.val ∧ B + (j 1).val = k.val := by
    intro j
    have s0 : scatter_S128x1024_S2_S16x512_01_n_01_0.start j (pair a b) 0 = (pair a b (ix1 0)).toInt := by
      refine congrArg (fun q => (pair a b q).toInt) (funext fun q => ?_)
      fin_cases q
      rfl
    have s1 : scatter_S128x1024_S2_S16x512_01_n_01_0.start j (pair a b) 1 = (pair a b (ix1 1)).toInt := by
      refine congrArg (fun q => (pair a b q).toInt) (funext fun q => ?_)
      fin_cases q
      rfl
    have w0 : scatter_S128x1024_S2_S16x512_01_n_01_0.window j 0 = (j 0).val := rfl
    have w1 : scatter_S128x1024_S2_S16x512_01_n_01_0.window j 1 = (j 1).val := rfl
    refine (Routing.resultIdx?_ix2 scatter_S128x1024_S2_S16x512_01_n_01_0 j (pair a b) r k).trans ?_
    rw [s0, s1, w0, w1, pair_0, pair_1, hA, hB]
    omega
  by_cases h : (A ≤ r.val ∧ r.val < A + 16) ∧ (B ≤ k.val ∧ k.val < B + 512)
  · rw [dif_pos h]
    refine Routing.scatter_set_hit _ x0 (pair a b) u (ix2 r k) _ (fun j hj => ?_) (ix2 ⟨r.val - A, by omega⟩ ⟨k.val - B, by omega⟩) ?_
    · obtain ⟨e0, e1⟩ := (key j).1 hj
      refine congrArg u ?_
      refine (eq_ix2 j).trans ?_
      congr 1
      · exact Fin.ext (by simp only []; omega)
      · exact Fin.ext (by simp only []; omega)
    · refine (key _).2 ⟨?_, ?_⟩
      · show A + (r.val - A) = r.val
        omega
      · show B + (k.val - B) = k.val
        omega
  · rw [dif_neg h]
    refine Routing.scatter_set_miss _ x0 (pair a b) u (ix2 r k) fun j hj => h ?_
    obtain ⟨e0, e1⟩ := (key j).1 hj
    have h0 : (j 0).val < 16 := (j 0).isLt
    have h1 : (j 1).val < 512 := (j 1).isLt
    omega

/-- The matrix the host builds. -/
def w2cat (a7 : S2x16x512.Idx → EReal) : S128x1024.Idx → EReal :=
  Host.scatter scatter_S128x1024_S2_S16x512_01_n_01_0 (fun _ b => b)
    (Host.scatter scatter_S128x1024_S2_S16x512_01_n_01_0 (fun _ b => b)
      (broadcastInDim S128x1024 ![] bcast_S_S128x1024 (constant (F := Ideal) S_ .f32 0x00000000#32)) (pair 0#32 0#32) (w2d0 a7))
    (pair 16#32 512#32) (w2d1 a7)

theorem zeros_apply (r : Fin 128) (k : Fin 1024) :
    broadcastInDim S128x1024 ![] bcast_S_S128x1024 (constant (F := Ideal) S_ .f32 0x00000000#32) (ix2 r k) = (0 : EReal) := by
  pointwise

theorem w2cat_apply (a7 : S2x16x512.Idx → EReal) (r : Fin 128) (k : Fin 1024) : w2cat a7 (ix2 r k)
    = if h : (16 ≤ r.val ∧ r.val < 32) ∧ (512 ≤ k.val ∧ k.val < 1024) then a7 (ix3 1 ⟨r.val - 16, by omega⟩ ⟨k.val - 512, by omega⟩)
      else if h : r.val < 16 ∧ k.val < 512 then a7 (ix3 0 ⟨r.val, h.1⟩ ⟨k.val, h.2⟩) else 0 := by
  unfold w2cat
  rw [set_apply _ 16#32 512#32 _ 16 512 rfl rfl, set_apply _ 0#32 0#32 _ 0 0 rfl rfl, zeros_apply]
  simp only [w2d0_apply, w2d1_apply]
  by_cases h : (16 ≤ r.val ∧ r.val < 32) ∧ (512 ≤ k.val ∧ k.val < 1024)
  · rw [dif_pos h, dif_pos h]
  · rw [dif_neg h, dif_neg h]
    by_cases h' : r.val < 16 ∧ k.val < 512
    · rw [dif_pos h', dif_pos (by omega)]
      rfl
    · rw [dif_neg h', dif_neg (by omega)]

/-- A product with that matrix is a product with one direction's weight. -/
theorem sum_w2cat (a7 : S2x16x512.Idx → EReal) (f : Fin 128 → EReal) (d : Fin 2) (y : Fin 512) :
    ∑ r : Fin 128, f r * w2cat a7 (ix2 r ⟨512 * d.val + y.val, by omega⟩)
      = ∑ r : Fin 16, f ⟨16 * d.val + r.val, by omega⟩ * a7 (ix3 d r y) := by
  have inj : Function.Injective fun r : Fin 16 => (⟨16 * d.val + r.val, by omega⟩ : Fin 128) := by
    intro r r' e
    have := Fin.mk.inj e
    exact Fin.ext (by omega)
  refine (Finset.sum_of_injOn _ inj.injOn (fun _ _ => Finset.mem_coe.2 (Finset.mem_univ _)) (fun r _ hr => ?_) fun r _ => ?_).symm
  · have hr' : ¬ (16 * d.val ≤ r.val ∧ r.val < 16 * d.val + 16) := by
      intro q
      refine hr ⟨⟨r.val - 16 * d.val, by omega⟩, Finset.mem_coe.2 (Finset.mem_univ _), Fin.ext ?_⟩
      show 16 * d.val + (r.val - 16 * d.val) = r.val
      omega
    have hd := d.isLt
    have hy := y.isLt
    rw [w2cat_apply, dif_neg (by simp only []; omega), dif_neg (by simp only []; omega), mul_zero]
  · refine congrArg _ ?_
    rw [w2cat_apply]
    have hy := y.isLt
    fin_cases d
    · rw [dif_neg (by simp only []; omega), dif_pos (by simp only []; omega)]
      congr 2
      · exact Fin.ext (by simp)
      · exact Fin.ext (by simp)
    · rw [dif_pos (by simp only []; omega)]
      congr 2
      · exact Fin.ext (by simp)
      · exact Fin.ext (by simp)

theorem b2_apply (a8 : S2x512.Idx → EReal) (d : Fin 2) (y : Fin 512) :
    shapeCast S1x1024 a8 shapeCasts_S2x512_S1x1024 (ix2 0 ⟨512 * d.val + y.val, by omega⟩) = a8 (ix2 d y) := by
  refine shapeCast_apply a8 _ _ _ ?_
  refine (rowMajor_val2 _ _ rfl).trans (Eq.trans ?_ (rowMajor_val2 _ _ rfl).symm)
  show d.val * 512 + y.val = 0 * 1024 + (512 * d.val + y.val)
  omega

variable (m : (ℓ : Loc nD τ sig) → Buf (Elt Ideal) ℓ) (c : Dev nD)

theorem trunc_apply (X : S128x1024.Idx → EReal) (q : S128x1024.Idx) :
    truncf (F := Ideal) (φ := .f32) .bf16 X bitsLt_bf16_f32 q = X q := rfl

theorem w2_eq (a7 : S2x16x512.Idx → EReal) (x5 x6 x11 x12 : IVec S1 32)
    (h5 : x5 = broadcastInDim S1 ![] bcast_S_S1 (constantI S_ 32 0#32)) (h6 : x6 = broadcastInDim S1 ![] bcast_S_S1 (constantI S_ 32 0#32))
    (h11 : x11 = broadcastInDim S1 ![] bcast_S_S1 (constantI S_ 32 16#32)) (h12 : x12 = broadcastInDim S1 ![] bcast_S_S1 (constantI S_ 32 512#32)) :
    truncf (F := Ideal) .bf16
      (Host.scatter scatter_S128x1024_S2_S16x512_01_n_01_0 (fun x b => b)
        (Host.scatter scatter_S128x1024_S2_S16x512_01_n_01_0 (fun x b => b)
          (broadcastInDim S128x1024 ![] bcast_S_S128x1024 (constant (F := Ideal) S_ .f32 0#32))
          (concatenate S2 0 [⟨S1, x5⟩, ⟨S1, x6⟩] concatenates_S1_S1_S2_d0)
          fun i => shapeCast S16x512 (extractStridedSlice S1x16x512 ![0, 0, 0] a7 slices_S2x16x512_S1x16x512_0_0_0) shapeCasts_S1x16x512_S16x512 i)
        (concatenate S2 0 [⟨S1, x11⟩, ⟨S1, x12⟩] concatenates_S1_S1_S2_d0)
        fun i => shapeCast S16x512 (extractStridedSlice S1x16x512 ![1, 0, 0] a7 slices_S2x16x512_S1x16x512_1_0_0) shapeCasts_S1x16x512_S16x512 i)
      bitsLt_bf16_f32 = w2cat a7 := by
  subst h5 h6 h11 h12
  refine Eq.trans (b := truncf (F := Ideal) (φ := .f32) .bf16 (w2cat a7) bitsLt_bf16_f32) ?_ (funext fun q => trunc_apply _ q)
  refine congrArg (fun X => truncf (F := Ideal) (φ := .f32) .bf16 X bitsLt_bf16_f32) ?_
  unfold w2cat pair w2d0 w2d1
  rfl

theorem V_w2 : (V m c main_v15 : S128x1024.Idx → EReal) = w2cat (m ((c : Thread nD τ).loc main_arg7) : S2x16x512.Idx → EReal) := by
  unfold V
  after_reads_simp
  generalize h5 : StableHlo.upto [hostOps0, hostOps0_1, hostOps0_2].flatten (fun b => m (c, b)) 12 (Proc.tc.devRef main_v5) = x5
  generalize h6 : StableHlo.upto [hostOps0, hostOps0_1, hostOps0_2].flatten (fun b => m (c, b)) 12 (Proc.tc.devRef main_v6) = x6
  generalize h11 : StableHlo.upto [hostOps0, hostOps0_1, hostOps0_2].flatten (fun b => m (c, b)) 20 (Proc.tc.devRef main_v11) = x11
  generalize h12 : StableHlo.upto [hostOps0, hostOps0_1, hostOps0_2].flatten (fun b => m (c, b)) 20 (Proc.tc.devRef main_v12) = x12
  refine w2_eq _ x5 x6 x11 x12 ?_ ?_ ?_ ?_
  · rw [← h5]
    after_reads_simp
  · rw [← h6]
    after_reads_simp
  · rw [← h11]
    after_reads_simp
  · rw [← h12]
    after_reads_simp

theorem V_b2 : (V m c main_v16 : S1x1024.Idx → EReal)
    = shapeCast S1x1024 (m ((c : Thread nD τ).loc main_arg8) : S2x512.Idx → EReal) shapeCasts_S2x512_S1x1024 := by
  unfold V
  after_reads_simp
  rfl

end Cert.Proj

end
-- ==== Proof.Kern2.Points.lean ====
/- The grid's thirty-two points: the blocks each leaves are the projection's results at the block's rows, and so the nine result arrays
   hold the projection's results. -/
module

public import proofs.«01_k».proof.Proof.Kern2.Blocks
public import proofs.«01_k».proof.Proof.Kern2.Host

@[expose] public section

set_option maxRecDepth 16384

noncomputable section

namespace Cert.Proj

open Idealize.ShloMosaic Idealize.ShloMosaic.TcCoe
open Cert.Kernel2Ideal Cert.Kernel2Ideal.Gen
open Cert.ProjSpec

variable (m : (ℓ : Loc nD τ sig) → Buf (Elt Ideal) ℓ) (c : Dev nD)

/-- The kernel's arguments, as the projection's arrays. -/
def arrs : Arr where
  x b p y := (m ((c : Thread nD τ).loc main_arg0) : S4x4096x1024.Idx → EReal) (ix3 b p y)
  sh b y := (m ((c : Thread nD τ).loc main_arg1) : S4x1x1024.Idx → EReal) (ix3 b 0 y)
  sc b y := (m ((c : Thread nD τ).loc main_arg2) : S4x1x1024.Idx → EReal) (ix3 b 0 y)
  g y := (m ((c : Thread nD τ).loc main_arg3) : S1024.Idx → EReal) (ix1 y)
  w z k := (m ((c : Thread nD τ).loc main_arg4) : S1024x7200.Idx → EReal) (ix2 z k)
  lg y := (m ((c : Thread nD τ).loc main_arg5) : S1024.Idx → EReal) (ix1 y)
  lb y := (m ((c : Thread nD τ).loc main_arg6) : S1024.Idx → EReal) (ix1 y)
  w2 d r y := (m ((c : Thread nD τ).loc main_arg7) : S2x16x512.Idx → EReal) (ix3 d r y)
  b2 d y := (m ((c : Thread nD τ).loc main_arg8) : S2x512.Idx → EReal) (ix2 d y)

/-- A row of a block, among all rows. -/
abbrev row (i : Fin 8) (p : Fin 512) : Fin 4096 := ⟨512 * i.val + p.val, by omega⟩

section point

variable (t : Fin cfg0.N) (b : Fin 4) (i : Fin 8) (ht : t.val = 8 * b.val + i.val) (p : Fin 512)

/-- The normalised rows of a point. -/
abbrev hv : FVec Ideal S512x1024 .bf16 := k0_pay2 (iblk m c 0 t) (iblk m c 3 t) (iblk m c 1 t) (iblk m c 2 t)

include ht

theorem hv_eq (y : Fin 1024) : hv m c t (ix2 p y) = (arrs m c).h b (row i p) y := by
  have e0 : (fun y => (iblk m c 0 t : S1x512x1024.Idx → EReal) (ix3 0 p y)) = (arrs m c).x b (row i p) :=
    funext fun y => (blk0 m c t b i ht p y).trans (V_x m c b _ y)
  have e1 : (fun y => (iblk m c 1 t : S1x1x1024.Idx → EReal) (ix3 0 0 y)) = (arrs m c).sh b :=
    funext fun y => (blk1 m c t b i ht y).trans (V_sh m c b y)
  have e2 : (fun y => (iblk m c 2 t : S1x1x1024.Idx → EReal) (ix3 0 0 y)) = (arrs m c).sc b :=
    funext fun y => (blk2 m c t b i ht y).trans (V_sc m c b y)
  have e3 : (fun y => (iblk m c 3 t : S1x1024.Idx → EReal) (ix2 0 y)) = (arrs m c).g :=
    funext fun y => (blk3 m c t y).trans (V_g m c y)
  refine (pay2_apply _ _ _ _ p y).trans ?_
  rw [e0, e1, e2, e3]
  rfl

theorem mm_eq {n : ℕ} (w : (⟨2, ![1024, n]⟩ : Shape).Idx → EReal) (y : Fin n) (k : Fin 7296) (hk : k.val < 7200)
    (hw : ∀ z : Fin 1024, w (ix2 z y) = (iblk m c 4 t : S1024x7296.Idx → EReal) (ix2 z k)) :
    mm (hv m c t) p w y = (arrs m c).proj b (row i p) ⟨k.val, hk⟩ := by
  unfold mm Arr.proj
  refine Finset.sum_congr rfl fun z _ => ?_
  rw [hv_eq m c t b i ht, hw, blk4, V_w m c z k hk]
  rfl

theorem mm_rU (y : Fin 1024) : mm (hv m c t) p (cols rU (iblk m c 4 t)) y = (arrs m c).at' b (row i p) 0 (n := 1024) (by decide) y :=
  mm_eq m c t b i ht p (cols rU (iblk m c 4 t)) y ⟨0 + y.val, by omega⟩ (by simp only []; omega)
    fun z => congrArg (iblk m c 4 t) (rU.emb_eq_of_coords _ _ fun a => by fin_cases a <;> simp [rU])

theorem mm_rVs (y : Fin 1024) : mm (hv m c t) p (cols rVs (iblk m c 4 t)) y = (arrs m c).at' b (row i p) 1024 (n := 1024) (by decide) y :=
  mm_eq m c t b i ht p (cols rVs (iblk m c 4 t)) y ⟨1024 + y.val, by omega⟩ (by simp only []; omega)
    fun z => congrArg (iblk m c 4 t) (rVs.emb_eq_of_coords _ _ fun a => by fin_cases a <;> simp [rVs])

theorem mm_rWq (y : Fin 512) : mm (hv m c t) p (cols rWq (iblk m c 4 t)) y = (arrs m c).at' b (row i p) 2048 (n := 512) (by decide) y :=
  mm_eq m c t b i ht p (cols rWq (iblk m c 4 t)) y ⟨2048 + y.val, by omega⟩ (by simp only []; omega)
    fun z => congrArg (iblk m c 4 t) (rWq.emb_eq_of_coords _ _ fun a => by fin_cases a <;> simp [rWq])

theorem mm_rR (y : Fin 1024) : mm (hv m c t) p (cols rR (iblk m c 4 t)) y = (arrs m c).at' b (row i p) 2560 (n := 1024) (by decide) y :=
  mm_eq m c t b i ht p (cols rR (iblk m c 4 t)) y ⟨2560 + y.val, by omega⟩ (by simp only []; omega)
    fun z => congrArg (iblk m c 4 t) (rR.emb_eq_of_coords _ _ fun a => by fin_cases a <;> simp [rR])

theorem mm_rGa (y : Fin 1024) : mm (hv m c t) p (cols rGa (iblk m c 4 t)) y = (arrs m c).at' b (row i p) 3584 (n := 1024) (by decide) y :=
  mm_eq m c t b i ht p (cols rGa (iblk m c 4 t)) y ⟨3584 + y.val, by omega⟩ (by simp only []; omega)
    fun z => congrArg (iblk m c 4 t) (rGa.emb_eq_of_coords _ _ fun a => by fin_cases a <;> simp [rGa])

theorem mm_rGb (y : Fin 1024) : mm (hv m c t) p (cols rGb (iblk m c 4 t)) y = (arrs m c).at' b (row i p) 4608 (n := 1024) (by decide) y :=
  mm_eq m c t b i ht p (cols rGb (iblk m c 4 t)) y ⟨4608 + y.val, by omega⟩ (by simp only []; omega)
    fun z => congrArg (iblk m c 4 t) (rGb.emb_eq_of_coords _ _ fun a => by fin_cases a <;> simp [rGb])

theorem mm_rWk (y : Fin 512) : mm (hv m c t) p (cols rWk (iblk m c 4 t)) y = (arrs m c).at' b (row i p) 5632 (n := 512) (by decide) y :=
  mm_eq m c t b i ht p (cols rWk (iblk m c 4 t)) y ⟨5632 + y.val, by omega⟩ (by simp only []; omega)
    fun z => congrArg (iblk m c 4 t) (rWk.emb_eq_of_coords _ _ fun a => by fin_cases a <;> simp [rWk])

theorem mm_rWv (y : Fin 1024) : mm (hv m c t) p (cols rWv (iblk m c 4 t)) y = (arrs m c).at' b (row i p) 6144 (n := 1024) (by decide) y :=
  mm_eq m c t b i ht p (cols rWv (iblk m c 4 t)) y ⟨6144 + y.val, by omega⟩ (by simp only []; omega)
    fun z => congrArg (iblk m c 4 t) (rWv.emb_eq_of_coords _ _ fun a => by fin_cases a <;> simp [rWv])

theorem mm_rLr (r : Fin 128) (hr : r.val < 32) : mm (hv m c t) p (cols rLr (iblk m c 4 t)) r
    = (arrs m c).proj b (row i p) ⟨7168 + r.val, by omega⟩ :=
  mm_eq m c t b i ht p (cols rLr (iblk m c 4 t)) r ⟨7168 + r.val, by omega⟩ (by simp only []; omega)
    fun z => congrArg (iblk m c 4 t) (rLr.emb_eq_of_coords _ _ fun a => by fin_cases a <;> simp [rLr])

theorem outs9 (y : Fin 1024) : ((outsAt0 m c t).1 : Vec Ideal S1x512x1024 .bf16) (ix3 0 p y) = (arrs m c).gu b (row i p) y := by
  unfold outsAt0
  dsimp only
  rw [out9_eq]
  refine (pay322_apply _ _ p y).trans ?_
  rw [mm_rU m c t b i ht]
  rfl

theorem outs11 (y : Fin 1024) : ((outsAt0 m c t).2.2.1 : Vec Ideal S1x512x1024 .bf16) (ix3 0 p y) = (arrs m c).v b (row i p) y := by
  unfold outsAt0
  dsimp only
  rw [out11_eq]
  refine (pay1_apply _ _ p y).trans ?_
  rw [mm_rWv m c t b i ht]
  rfl

theorem outs12 (y : Fin 1024) : ((outsAt0 m c t).2.2.2.1 : Vec Ideal S1x512x1024 .bf16) (ix3 0 p y) = (arrs m c).rs b (row i p) y := by
  unfold outsAt0
  dsimp only
  rw [out12_eq]
  refine (pay320_apply _ _ p y).trans ?_
  rw [mm_rR m c t b i ht]
  rfl

theorem outs13 (y : Fin 1024) : ((outsAt0 m c t).2.2.2.2.1 : Vec Ideal S1x512x1024 .bf16) (ix3 0 p y) = (arrs m c).ga b (row i p) y := by
  unfold outsAt0
  dsimp only
  rw [out13_eq]
  refine (pay317_apply _ _ p y).trans ?_
  rw [mm_rGa m c t b i ht]
  rfl

theorem outs14 (y : Fin 1024) : ((outsAt0 m c t).2.2.2.2.2.1 : Vec Ideal S1x512x1024 .bf16) (ix3 0 p y) = (arrs m c).gb b (row i p) y := by
  unfold outsAt0
  dsimp only
  rw [out14_eq]
  refine (pay319_apply _ _ p y).trans ?_
  rw [mm_rGb m c t b i ht]
  rfl

theorem outs15 (y : Fin 512) : ((outsAt0 m c t).2.2.2.2.2.2.1 : Vec Ideal S1x512x512 .f32) (ix3 0 p y) = (arrs m c).q b (row i p) y := by
  unfold outsAt0
  dsimp only
  rw [out15_eq]
  refine (pay4_apply _ _ p y).trans ?_
  rw [mm_rWq m c t b i ht]
  rfl

theorem outs16 (y : Fin 512) : ((outsAt0 m c t).2.2.2.2.2.2.2.1 : Vec Ideal S1x512x512 .f32) (ix3 0 p y) = (arrs m c).k b (row i p) y := by
  unfold outsAt0
  dsimp only
  rw [out16_eq]
  refine (pay6_apply _ _ p y).trans ?_
  rw [mm_rWk m c t b i ht]
  rfl

theorem outs10 (y : Fin 1024) : ((outsAt0 m c t).2.1 : Vec Ideal S1x512x1024 .bf16) (ix3 0 p y) = (arrs m c).vn b (row i p) y := by
  have e7 : (fun y => (iblk m c 7 t : S1x1024.Idx → EReal) (ix2 0 y)) = (arrs m c).lg :=
    funext fun y => (blk7 m c t y).trans (V_lg m c y)
  have e8 : (fun y => (iblk m c 8 t : S1x1024.Idx → EReal) (ix2 0 y)) = (arrs m c).lb :=
    funext fun y => (blk8 m c t y).trans (V_lb m c y)
  unfold outsAt0
  dsimp only
  rw [out10_eq]
  refine (pay323_apply _ _ _ p y).trans ?_
  rw [e7, e8]
  refine congrArg (fun f => lnorm f (arrs m c).lg (arrs m c).lb y) (funext fun z => congrArg gelu ?_)
  exact (pay321_apply _ _ p z).trans (mm_rVs m c t b i ht p z)

/-- The decays of a point. -/
abbrev lav : FVec Ideal S512x1024 .f32 := laV (k0_pay3 (hv m c t) (cols rLr (iblk m c 4 t))) (iblk m c 5 t) (iblk m c 6 t)

theorem lav_eq (d : Fin 2) (y : Fin 512) : lav m c t (ix2 p ⟨512 * d.val + y.val, by omega⟩)
    = decay ((arrs m c).z b (row i p) d y) := by
  refine (laV_apply _ _ _ p _).trans (congrArg decay ?_)
  unfold Arr.z
  refine congrArg₂ (· + ·) ?_ ?_
  · refine Eq.trans (Finset.sum_congr rfl fun r _ => congrArg₂ (· * ·) (pay3_apply _ p _ r) ((blk5 m c t r _).trans
      (congrFun (V_w2 m c) _))) ?_
    refine (sum_w2cat _ (fun r => mm (hv m c t) p (cols rLr (iblk m c 4 t)) r) d y).trans ?_
    refine Finset.sum_congr rfl fun r _ => ?_
    rw [mm_rLr m c t b i ht p _ (by simp only []; omega)]
    rfl
  · exact (blk6 m c t _).trans ((congrFun (V_b2 m c) _).trans (b2_apply _ d y))

theorem cl_eq (n : Fin 8) (d : Fin 2) (y : Fin 512) (j : ℕ) : cl (chunk (lav m c t) n d) y j
    = (arrs m c).la b d ⟨8 * i.val + n.val, by omega⟩ y j := by
  unfold cl
  rw [chunk_apply]
  have hj : j % 64 < 64 := Nat.mod_lt _ (by decide)
  refine (lav_eq m c t b i ht ⟨64 * n.val + j % 64, by omega⟩ d y).trans ?_
  unfold Arr.la
  refine congrArg (fun q => decay ((arrs m c).z b q d y)) (Fin.ext ?_)
  simp only []
  omega

theorem outs17 (y : Fin 1024) : ((outsAt0 m c t).2.2.2.2.2.2.2.2 : Vec Ideal S1x512x1024 .f32) (ix3 0 p y) = (arrs m c).las b (row i p) y := by
  obtain ⟨n, r, rfl⟩ : ∃ (n : Fin 8) (r : Fin 64), p = ⟨64 * n.val + r.val, by omega⟩ :=
    ⟨⟨p.val / 64, by omega⟩, ⟨p.val % 64, by omega⟩, Fin.ext (by simp only []; omega)⟩
  obtain ⟨d, z, rfl⟩ : ∃ (d : Fin 2) (z : Fin 512), y = ⟨512 * d.val + z.val, by omega⟩ :=
    ⟨⟨y.val / 512, by omega⟩, ⟨y.val % 512, by omega⟩, Fin.ext (by simp only []; omega)⟩
  obtain ⟨j, q, rfl⟩ : ∃ (j q : Fin 8), r = ⟨8 * j.val + q.val, by omega⟩ :=
    ⟨⟨r.val / 8, by omega⟩, ⟨r.val % 8, by omega⟩, Fin.ext (by simp only []; omega)⟩
  rw [(arrs m c).las_eq b ⟨8 * i.val + n.val, by omega⟩ ⟨8 * j.val + q.val, by omega⟩ d z _ _ (by simp only []; omega) rfl]
  rw [← rL_emb n d]
  unfold outsAt0
  dsimp only
  unfold Arr.cum
  obtain rfl | rfl : d = 0 ∨ d = 1 := by
    fin_cases d
    · exact Or.inl rfl
    · exact Or.inr rfl
  · refine (out17_F (F := Ideal) ..).trans ?_
    refine (cumF_tile _ j q z).trans ((sumF_apply _ z j.val j.isLt q).trans ?_)
    rw [if_pos rfl]
    exact Finset.sum_congr rfl fun e _ => cl_eq m c t b i ht n 0 z e
  · refine (out17_B (F := Ideal) ..).trans ?_
    refine (cumB_tile _ j q z).trans ((sumB_apply _ z (7 - j.val) (by omega) q).trans ?_)
    rw [if_neg (by decide)]
    have e : 8 * (7 - j.val) + 8 - q.val = 64 - (8 * j.val + q.val) := by omega
    rw [e]
    exact Finset.sum_congr rfl fun e _ => cl_eq m c t b i ht n 1 z _

end point

/-! ## The result arrays -/

theorem final9 : (dats m 0 c).arrAt 9 cfg0.N = (fun j : S4x4096x1024.Idx => (arrs m c).gu (j 0) (j 1) (j 2)) := by
  refine (dats m 0 c).arrAt_eq_of_covers 9 _ (by decide +kernel) fun t hf y => ?_
  blk_simp
  rw [after0_9]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs9 m c t ⟨t.val / 8, by omega⟩ ⟨t.val % 8, by omega⟩ ht p q).trans ?_
  refine Eq.trans ?_ (congrArg (fun j : S4x4096x1024.Idx => (arrs m c).gu (j 0) (j 1) (j 2))
    (emb9 t ⟨t.val / 8, by omega⟩ ⟨t.val % 8, by omega⟩ ht p q)).symm
  rfl

theorem final10 : (dats m 0 c).arrAt 10 cfg0.N = (fun j : S4x4096x1024.Idx => (arrs m c).vn (j 0) (j 1) (j 2)) := by
  refine (dats m 0 c).arrAt_eq_of_covers 10 _ (by decide +kernel) fun t hf y => ?_
  blk_simp
  rw [after0_10]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs10 m c t ⟨t.val / 8, by omega⟩ ⟨t.val % 8, by omega⟩ ht p q).trans ?_
  refine Eq.trans ?_ (congrArg (fun j : S4x4096x1024.Idx => (arrs m c).vn (j 0) (j 1) (j 2))
    (emb10 t ⟨t.val / 8, by omega⟩ ⟨t.val % 8, by omega⟩ ht p q)).symm
  rfl

theorem final11 : (dats m 0 c).arrAt 11 cfg0.N = (fun j : S4x4096x1024.Idx => (arrs m c).v (j 0) (j 1) (j 2)) := by
  refine (dats m 0 c).arrAt_eq_of_covers 11 _ (by decide +kernel) fun t hf y => ?_
  blk_simp
  rw [after0_11]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs11 m c t ⟨t.val / 8, by omega⟩ ⟨t.val % 8, by omega⟩ ht p q).trans ?_
  refine Eq.trans ?_ (congrArg (fun j : S4x4096x1024.Idx => (arrs m c).v (j 0) (j 1) (j 2))
    (emb11 t ⟨t.val / 8, by omega⟩ ⟨t.val % 8, by omega⟩ ht p q)).symm
  rfl

theorem final12 : (dats m 0 c).arrAt 12 cfg0.N = (fun j : S4x4096x1024.Idx => (arrs m c).rs (j 0) (j 1) (j 2)) := by
  refine (dats m 0 c).arrAt_eq_of_covers 12 _ (by decide +kernel) fun t hf y => ?_
  blk_simp
  rw [after0_12]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs12 m c t ⟨t.val / 8, by omega⟩ ⟨t.val % 8, by omega⟩ ht p q).trans ?_
  refine Eq.trans ?_ (congrArg (fun j : S4x4096x1024.Idx => (arrs m c).rs (j 0) (j 1) (j 2))
    (emb12 t ⟨t.val / 8, by omega⟩ ⟨t.val % 8, by omega⟩ ht p q)).symm
  rfl

theorem final13 : (dats m 0 c).arrAt 13 cfg0.N = (fun j : S4x4096x1024.Idx => (arrs m c).ga (j 0) (j 1) (j 2)) := by
  refine (dats m 0 c).arrAt_eq_of_covers 13 _ (by decide +kernel) fun t hf y => ?_
  blk_simp
  rw [after0_13]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs13 m c t ⟨t.val / 8, by omega⟩ ⟨t.val % 8, by omega⟩ ht p q).trans ?_
  refine Eq.trans ?_ (congrArg (fun j : S4x4096x1024.Idx => (arrs m c).ga (j 0) (j 1) (j 2))
    (emb13 t ⟨t.val / 8, by omega⟩ ⟨t.val % 8, by omega⟩ ht p q)).symm
  rfl

theorem final14 : (dats m 0 c).arrAt 14 cfg0.N = (fun j : S4x4096x1024.Idx => (arrs m c).gb (j 0) (j 1) (j 2)) := by
  refine (dats m 0 c).arrAt_eq_of_covers 14 _ (by decide +kernel) fun t hf y => ?_
  blk_simp
  rw [after0_14]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs14 m c t ⟨t.val / 8, by omega⟩ ⟨t.val % 8, by omega⟩ ht p q).trans ?_
  refine Eq.trans ?_ (congrArg (fun j : S4x4096x1024.Idx => (arrs m c).gb (j 0) (j 1) (j 2))
    (emb14 t ⟨t.val / 8, by omega⟩ ⟨t.val % 8, by omega⟩ ht p q)).symm
  rfl

theorem final15 : (dats m 0 c).arrAt 15 cfg0.N = (fun j : S4x4096x512.Idx => (arrs m c).q (j 0) (j 1) (j 2)) := by
  refine (dats m 0 c).arrAt_eq_of_covers 15 _ (by decide +kernel) fun t hf y => ?_
  blk_simp
  rw [after0_15]
  obtain ⟨a, p, q, rfl⟩ : ∃ (a : Fin 1) (p : Fin 512) (q : Fin 512), y = (ix3 a p q : S1x512x512.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs15 m c t ⟨t.val / 8, by omega⟩ ⟨t.val % 8, by omega⟩ ht p q).trans ?_
  refine Eq.trans ?_ (congrArg (fun j : S4x4096x512.Idx => (arrs m c).q (j 0) (j 1) (j 2))
    (emb15 t ⟨t.val / 8, by omega⟩ ⟨t.val % 8, by omega⟩ ht p q)).symm
  rfl

theorem final16 : (dats m 0 c).arrAt 16 cfg0.N = (fun j : S4x4096x512.Idx => (arrs m c).k (j 0) (j 1) (j 2)) := by
  refine (dats m 0 c).arrAt_eq_of_covers 16 _ (by decide +kernel) fun t hf y => ?_
  blk_simp
  rw [after0_16]
  obtain ⟨a, p, q, rfl⟩ : ∃ (a : Fin 1) (p : Fin 512) (q : Fin 512), y = (ix3 a p q : S1x512x512.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs16 m c t ⟨t.val / 8, by omega⟩ ⟨t.val % 8, by omega⟩ ht p q).trans ?_
  refine Eq.trans ?_ (congrArg (fun j : S4x4096x512.Idx => (arrs m c).k (j 0) (j 1) (j 2))
    (emb16 t ⟨t.val / 8, by omega⟩ ⟨t.val % 8, by omega⟩ ht p q)).symm
  rfl

theorem final17 : (dats m 0 c).arrAt 17 cfg0.N = (fun j : S4x4096x1024.Idx => (arrs m c).las (j 0) (j 1) (j 2)) := by
  refine (dats m 0 c).arrAt_eq_of_covers 17 _ (by decide +kernel) fun t hf y => ?_
  blk_simp
  rw [after0_17]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs17 m c t ⟨t.val / 8, by omega⟩ ⟨t.val % 8, by omega⟩ ht p q).trans ?_
  refine Eq.trans ?_ (congrArg (fun j : S4x4096x1024.Idx => (arrs m c).las (j 0) (j 1) (j 2))
    (emb17 t ⟨t.val / 8, by omega⟩ ⟨t.val % 8, by omega⟩ ht p q)).symm
  rfl

end Cert.Proj

end
-- ==== Proof.Ref2.Point.lean ====
/- The reference's values at an index, over the extended reals: the normalised rows, their projection, and the functions of its columns. -/
module

public import proofs.«01_k».proof.Proof.Gen.Reference2Ideal.Run
public import proofs.«01_k».proof.Proof.Proj.Spec
public import Idealize.ShloMosaic.Lib.IdealHost

@[expose] public section

set_option maxRecDepth 16384

noncomputable section

namespace Cert.ProjRef

open Idealize.ShloMosaic Idealize.ShloMosaic.TcCoe
open Cert.Reference2Ideal Cert.Reference2Ideal.Gen
open Cert.ProjSpec

/-! ## The functions of the columns -/

section functions

variable (s : FVec Ideal S4x4096x1024 .f32) (z : FVec Ideal S4x4096x512 .f32) (b : Fin 4) (p : Fin 4096)

/-- The Gaussian unit of an array. -/
def gE : FVec Ideal S4x4096x1024 .f32 := (mulf (mulf (broadcastInDim S4x4096x1024 ![] bcast_S_S4x4096x1024 (constant S_ .f32 0x3F000000#32)) s) (addf (broadcastInDim S4x4096x1024 ![] bcast_S_S4x4096x1024 (constant S_ .f32 0x3F800000#32)) (Host.erf (mulf s (broadcastInDim S4x4096x1024 ![] bcast_S_S4x4096x1024 (constant S_ .f32 0x3F3504F3#32))))))
/-- The logistic function of an array. -/
def lE : FVec Ideal S4x4096x1024 .f32 := (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf s))))
/-- The log-decay of an array. -/
def dE : FVec Ideal S4x4096x512 .f32 := (Host.divf (subf (minimumf z (broadcastInDim S4x4096x512 ![] bcast_S_S4x4096x512 (constant S_ .f32 0x00000000#32))) (Host.log (addf (broadcastInDim S4x4096x512 ![] bcast_S_S4x4096x512 (constant S_ .f32 0x3F800000#32)) (Host.exp (Host.negf (Host.absf z)))))) (broadcastInDim S4x4096x512 ![] bcast_S_S4x4096x512 (constant S_ .f32 0x41800000#32)))
/-- An array less the means of its rows. -/
def dev (f : FVec Ideal S4x4096x1024 .f32) : FVec Ideal S4x4096x1024 .f32 := (subf f (broadcastInDim S4x4096x1024 ![0, 1, 2] bcast_S4x4096x1_S4x4096x1024_0_1_2 (Host.divf (broadcastInDim S4x4096x1 ![0, 1] bcast_S4x4096_S4x4096x1_0_1 (Host.reduceAdd f (constant S_ .f32 0x00000000#32) reducesTo_S4x4096x1024_S4x4096_d2 h_S_)) (broadcastInDim S4x4096x1 ![] bcast_S_S4x4096x1 (constant S_ .f32 0x44800000#32)))))
/-- The rows of an array normalised. -/
def lnE (f : FVec Ideal S4x4096x1024 .f32) (a5 a6 : FVec Ideal S1024 .f32) : FVec Ideal S4x4096x1024 .f32 := (addf (mulf (mulf (dev f) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (dev f) (dev f)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a5))) (broadcastInDim S4x4096x1024 ![0, 1, 2] bcast_S1x1x1024_S4x4096x1024_0_1_2 (broadcastInDim S1x1x1024 ![2] bcast_S1024_S1x1x1024_2 a6)))

theorem gE_at (y : Fin 1024) : gE s (ix3 b p y) = gelu (s (ix3 b p y)) := by
  pointwise [gE, gelu]
  rfl
theorem lE_at (y : Fin 1024) : lE s (ix3 b p y) = logi (s (ix3 b p y)) := by
  unfold logi
  rw [zero_sub]
  pointwise [lE]

/-- A division by sixteen is a product with a sixteenth. -/
theorem div_sixteen (a : EReal) : Ideal.div a (Ideal.ofBits .f32 0x41800000#32) = a * sixteenth := by
  have h : Ideal.ofBits .f32 0x41800000#32 = ((16 : ℝ) : EReal) := by simp [Ideal.ofBits, Ideal.ieee, -EReal.coe_mul]; norm_num
  have k : sixteenth = ((1 / 16 : ℝ) : EReal) := by simp [sixteenth, Ideal.ofBits, Ideal.ieee, -EReal.coe_mul]; norm_num
  rw [h, k]
  exact Ideal.div_coe (by norm_num) a

theorem dE_at (y : Fin 512) : dE z (ix3 b p y) = decay (z (ix3 b p y)) := by
  unfold decay
  rw [zero_sub, ← div_sixteen]
  pointwise [dE]

theorem dev_at (f : FVec Ideal S4x4096x1024 .f32) (y : Fin 1024) : dev f (ix3 b p y) = f (ix3 b p y) - Ideal.div (∑ z, f (ix3 b p z)) width := by pointwise [dev]
theorem lnE_at (f : FVec Ideal S4x4096x1024 .f32) (a5 a6 : FVec Ideal S1024 .f32) (y : Fin 1024) :
    lnE f a5 a6 (ix3 b p y) = lnorm (fun y => f (ix3 b p y)) (fun y => a5 (ix1 y)) (fun y => a6 (ix1 y)) y := by
  unfold lnorm
  simp only [← dev_at]
  pointwise [lnE]

end functions

/-! ## The projection -/

section projection

variable (a0 : FVec Ideal S4x4096x1024 .f32) (a1 a2 : FVec Ideal S4x1x1024 .f32) (a3 : FVec Ideal S1024 .f32)
  (a4 : FVec Ideal S1024x7200 .f32) (a5 a6 : FVec Ideal S1024 .f32) (a7 : FVec Ideal S2x16x512 .f32) (a8 : FVec Ideal S2x512 .f32)

/-- The arguments, as the projection's arrays. -/
def arrs : Arr where
  x b p y := a0 (ix3 b p y)
  sh b y := a1 (ix3 b 0 y)
  sc b y := a2 (ix3 b 0 y)
  g y := a3 (ix1 y)
  w z k := a4 (ix2 z k)
  lg y := a5 (ix1 y)
  lb y := a6 (ix1 y)
  w2 d r y := a7 (ix3 d r y)
  b2 d y := a8 (ix2 d y)

/-- The normalised rows. -/
def hR : FVec Ideal S4x4096x1024 .f32 := (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a3))) (broadcastInDim S4x4096x1024 ![0, 1, 2] bcast_S4x1x1024_S4x4096x1024_0_1_2 (addf (broadcastInDim S4x1x1024 ![] bcast_S_S4x1x1024 (constant S_ .f32 0x3F800000#32)) a2))) (broadcastInDim S4x4096x1024 ![0, 1, 2] bcast_S4x1x1024_S4x4096x1024_0_1_2 a1))
/-- Their projection. -/
def pR : FVec Ideal S4x4096x7200 .f32 := (Host.dotGeneral dot_S4x4096x1024_S1024x7200_S4x4096x7200_2_0_01_1_n_n none (hR a0 a1 a2 a3) a4)

theorem hR_at (b : Fin 4) (p : Fin 4096) (y : Fin 1024) :
    hR a0 a1 a2 a3 (ix3 b p y) = (arrs a0 a1 a2 a3 a4 a5 a6 a7 a8).h b p y := by
  pointwise [hR, Arr.h, arrs, rnorm]

theorem pR_at (b : Fin 4) (p : Fin 4096) (k : Fin 7200) :
    pR a0 a1 a2 a3 a4 (ix3 b p k) = (arrs a0 a1 a2 a3 a4 a5 a6 a7 a8).proj b p k := by
  unfold Arr.proj
  simp only [← hR_at]
  pointwise [pR, arrs]

/-- The columns from 0. -/
def sl0 (pr : FVec Ideal S4x4096x7200 .f32) : FVec Ideal S4x4096x1024 .f32 :=
  extractStridedSlice S4x4096x1024 ![0, 0, 0] pr slices_S4x4096x7200_S4x4096x1024_0_0_0
theorem sl0_at (b : Fin 4) (p : Fin 4096) (y : Fin 1024) :
    sl0 (pR a0 a1 a2 a3 a4) (ix3 b p y) = (arrs a0 a1 a2 a3 a4 a5 a6 a7 a8).at' b p 0 (n := 1024) (by decide) y := by
  refine Eq.trans ?_ (pR_at a0 a1 a2 a3 a4 a5 a6 a7 a8 b p ⟨0 + y.val, by omega⟩)
  generalize pR a0 a1 a2 a3 a4 = pr
  pointwise [sl0]

/-- The columns from 1024. -/
def sl1024 (pr : FVec Ideal S4x4096x7200 .f32) : FVec Ideal S4x4096x1024 .f32 :=
  extractStridedSlice S4x4096x1024 ![0, 0, 1024] pr slices_S4x4096x7200_S4x4096x1024_0_0_1024
theorem sl1024_at (b : Fin 4) (p : Fin 4096) (y : Fin 1024) :
    sl1024 (pR a0 a1 a2 a3 a4) (ix3 b p y) = (arrs a0 a1 a2 a3 a4 a5 a6 a7 a8).at' b p 1024 (n := 1024) (by decide) y := by
  refine Eq.trans ?_ (pR_at a0 a1 a2 a3 a4 a5 a6 a7 a8 b p ⟨1024 + y.val, by omega⟩)
  generalize pR a0 a1 a2 a3 a4 = pr
  pointwise [sl1024]

/-- The columns from 2560. -/
def sl2560 (pr : FVec Ideal S4x4096x7200 .f32) : FVec Ideal S4x4096x1024 .f32 :=
  extractStridedSlice S4x4096x1024 ![0, 0, 2560] pr slices_S4x4096x7200_S4x4096x1024_0_0_2560
theorem sl2560_at (b : Fin 4) (p : Fin 4096) (y : Fin 1024) :
    sl2560 (pR a0 a1 a2 a3 a4) (ix3 b p y) = (arrs a0 a1 a2 a3 a4 a5 a6 a7 a8).at' b p 2560 (n := 1024) (by decide) y := by
  refine Eq.trans ?_ (pR_at a0 a1 a2 a3 a4 a5 a6 a7 a8 b p ⟨2560 + y.val, by omega⟩)
  generalize pR a0 a1 a2 a3 a4 = pr
  pointwise [sl2560]

/-- The columns from 3584. -/
def sl3584 (pr : FVec Ideal S4x4096x7200 .f32) : FVec Ideal S4x4096x1024 .f32 :=
  extractStridedSlice S4x4096x1024 ![0, 0, 3584] pr slices_S4x4096x7200_S4x4096x1024_0_0_3584
theorem sl3584_at (b : Fin 4) (p : Fin 4096) (y : Fin 1024) :
    sl3584 (pR a0 a1 a2 a3 a4) (ix3 b p y) = (arrs a0 a1 a2 a3 a4 a5 a6 a7 a8).at' b p 3584 (n := 1024) (by decide) y := by
  refine Eq.trans ?_ (pR_at a0 a1 a2 a3 a4 a5 a6 a7 a8 b p ⟨3584 + y.val, by omega⟩)
  generalize pR a0 a1 a2 a3 a4 = pr
  pointwise [sl3584]

/-- The columns from 4608. -/
def sl4608 (pr : FVec Ideal S4x4096x7200 .f32) : FVec Ideal S4x4096x1024 .f32 :=
  extractStridedSlice S4x4096x1024 ![0, 0, 4608] pr slices_S4x4096x7200_S4x4096x1024_0_0_4608
theorem sl4608_at (b : Fin 4) (p : Fin 4096) (y : Fin 1024) :
    sl4608 (pR a0 a1 a2 a3 a4) (ix3 b p y) = (arrs a0 a1 a2 a3 a4 a5 a6 a7 a8).at' b p 4608 (n := 1024) (by decide) y := by
  refine Eq.trans ?_ (pR_at a0 a1 a2 a3 a4 a5 a6 a7 a8 b p ⟨4608 + y.val, by omega⟩)
  generalize pR a0 a1 a2 a3 a4 = pr
  pointwise [sl4608]

/-- The columns from 6144. -/
def sl6144 (pr : FVec Ideal S4x4096x7200 .f32) : FVec Ideal S4x4096x1024 .f32 :=
  extractStridedSlice S4x4096x1024 ![0, 0, 6144] pr slices_S4x4096x7200_S4x4096x1024_0_0_6144
theorem sl6144_at (b : Fin 4) (p : Fin 4096) (y : Fin 1024) :
    sl6144 (pR a0 a1 a2 a3 a4) (ix3 b p y) = (arrs a0 a1 a2 a3 a4 a5 a6 a7 a8).at' b p 6144 (n := 1024) (by decide) y := by
  refine Eq.trans ?_ (pR_at a0 a1 a2 a3 a4 a5 a6 a7 a8 b p ⟨6144 + y.val, by omega⟩)
  generalize pR a0 a1 a2 a3 a4 = pr
  pointwise [sl6144]

/-- The columns from 2048. -/
def sl2048 (pr : FVec Ideal S4x4096x7200 .f32) : FVec Ideal S4x4096x512 .f32 :=
  extractStridedSlice S4x4096x512 ![0, 0, 2048] pr slices_S4x4096x7200_S4x4096x512_0_0_2048
theorem sl2048_at (b : Fin 4) (p : Fin 4096) (y : Fin 512) :
    sl2048 (pR a0 a1 a2 a3 a4) (ix3 b p y) = (arrs a0 a1 a2 a3 a4 a5 a6 a7 a8).at' b p 2048 (n := 512) (by decide) y := by
  refine Eq.trans ?_ (pR_at a0 a1 a2 a3 a4 a5 a6 a7 a8 b p ⟨2048 + y.val, by omega⟩)
  generalize pR a0 a1 a2 a3 a4 = pr
  pointwise [sl2048]

/-- The columns from 5632. -/
def sl5632 (pr : FVec Ideal S4x4096x7200 .f32) : FVec Ideal S4x4096x512 .f32 :=
  extractStridedSlice S4x4096x512 ![0, 0, 5632] pr slices_S4x4096x7200_S4x4096x512_0_0_5632
theorem sl5632_at (b : Fin 4) (p : Fin 4096) (y : Fin 512) :
    sl5632 (pR a0 a1 a2 a3 a4) (ix3 b p y) = (arrs a0 a1 a2 a3 a4 a5 a6 a7 a8).at' b p 5632 (n := 512) (by decide) y := by
  refine Eq.trans ?_ (pR_at a0 a1 a2 a3 a4 a5 a6 a7 a8 b p ⟨5632 + y.val, by omega⟩)
  generalize pR a0 a1 a2 a3 a4 = pr
  pointwise [sl5632]

/-- The decay's argument of direction 0. -/
def zR0 (pr : FVec Ideal S4x4096x7200 .f32) : FVec Ideal S4x4096x512 .f32 := (addf (Host.dotGeneral dot_S4x4096x16_S16x512_S4x4096x512_2_0_01_1_n_n none (extractStridedSlice S4x4096x16 ![0, 0, 0] (extractStridedSlice S4x4096x32 ![0, 0, 7168] pr slices_S4x4096x7200_S4x4096x32_0_0_7168) slices_S4x4096x32_S4x4096x16_0_0_0) (shapeCast _ (extractStridedSlice S1x16x512 ![0, 0, 0] a7 slices_S2x16x512_S1x16x512_0_0_0) shapeCasts_S1x16x512_S16x512)) (broadcastInDim S4x4096x512 ![0, 1, 2] bcast_S1x1x512_S4x4096x512_0_1_2 (broadcastInDim S1x1x512 ![2] bcast_S512_S1x1x512_2 (shapeCast _ (extractStridedSlice S1x512 ![0, 0] a8 slices_S2x512_S1x512_0_0) shapeCasts_S1x512_S512))))
theorem w2R0 (r : Fin 16) (y : Fin 512) :
    shapeCast S16x512 (extractStridedSlice S1x16x512 ![0, 0, 0] a7 slices_S2x16x512_S1x16x512_0_0_0) shapeCasts_S1x16x512_S16x512 (ix2 r y)
      = a7 (ix3 0 r y) := by
  pointwise
theorem b2R0 (y : Fin 512) :
    shapeCast S512 (extractStridedSlice S1x512 ![0, 0] a8 slices_S2x512_S1x512_0_0) shapeCasts_S1x512_S512 (ix1 y) = a8 (ix2 0 y) := by
  pointwise
theorem zR0_at (b : Fin 4) (p : Fin 4096) (y : Fin 512) :
    zR0 a7 a8 (pR a0 a1 a2 a3 a4) (ix3 b p y) = (arrs a0 a1 a2 a3 a4 a5 a6 a7 a8).z b p 0 y := by
  unfold Arr.z
  simp only [← pR_at]
  generalize pR a0 a1 a2 a3 a4 = pr
  refine Eq.trans ?_ (congrArg₂ (· + ·) (Finset.sum_congr rfl fun r _ => congrArg _ (w2R0 a7 r y)) (b2R0 a8 y))
  unfold zR0
  generalize shapeCast S16x512 _ _ = w
  generalize shapeCast S512 _ _ = v
  pointwise

/-- The decay's argument of direction 1. -/
def zR1 (pr : FVec Ideal S4x4096x7200 .f32) : FVec Ideal S4x4096x512 .f32 := (addf (Host.dotGeneral dot_S4x4096x16_S16x512_S4x4096x512_2_0_01_1_n_n none (extractStridedSlice S4x4096x16 ![0, 0, 16] (extractStridedSlice S4x4096x32 ![0, 0, 7168] pr slices_S4x4096x7200_S4x4096x32_0_0_7168) slices_S4x4096x32_S4x4096x16_0_0_16) (shapeCast _ (extractStridedSlice S1x16x512 ![1, 0, 0] a7 slices_S2x16x512_S1x16x512_1_0_0) shapeCasts_S1x16x512_S16x512)) (broadcastInDim S4x4096x512 ![0, 1, 2] bcast_S1x1x512_S4x4096x512_0_1_2 (broadcastInDim S1x1x512 ![2] bcast_S512_S1x1x512_2 (shapeCast _ (extractStridedSlice S1x512 ![1, 0] a8 slices_S2x512_S1x512_1_0) shapeCasts_S1x512_S512))))
theorem w2R1 (r : Fin 16) (y : Fin 512) :
    shapeCast S16x512 (extractStridedSlice S1x16x512 ![1, 0, 0] a7 slices_S2x16x512_S1x16x512_1_0_0) shapeCasts_S1x16x512_S16x512 (ix2 r y)
      = a7 (ix3 1 r y) := by
  pointwise
theorem b2R1 (y : Fin 512) :
    shapeCast S512 (extractStridedSlice S1x512 ![1, 0] a8 slices_S2x512_S1x512_1_0) shapeCasts_S1x512_S512 (ix1 y) = a8 (ix2 1 y) := by
  pointwise
theorem zR1_at (b : Fin 4) (p : Fin 4096) (y : Fin 512) :
    zR1 a7 a8 (pR a0 a1 a2 a3 a4) (ix3 b p y) = (arrs a0 a1 a2 a3 a4 a5 a6 a7 a8).z b p 1 y := by
  unfold Arr.z
  simp only [← pR_at]
  generalize pR a0 a1 a2 a3 a4 = pr
  refine Eq.trans ?_ (congrArg₂ (· + ·) (Finset.sum_congr rfl fun r _ => congrArg _ (w2R1 a7 r y)) (b2R1 a8 y))
  unfold zR1
  generalize shapeCast S16x512 _ _ = w
  generalize shapeCast S512 _ _ = v
  pointwise

end projection

end Cert.ProjRef

end
-- ==== Proof.Ref2.Cumsum.lean ====
/- A window sum of width 64, padded below by 63, is a running sum. -/
module

public import proofs.«01_k».proof.Proof.Gen.Reference2Ideal.Run
public import Idealize.ShloMosaic.Lib.Pointwise
public import Idealize.ShloMosaic.Lib.IdealHost

@[expose] public section

noncomputable section

namespace Cert.ProjRef

open Idealize.ShloMosaic Idealize.ShloMosaic.TcCoe
open Cert.Reference2Ideal Cert.Reference2Ideal.Gen

theorem foldl_sum {α : Type} (f : α → EReal) : ∀ (l : List α) (v : EReal), l.foldl (fun r n => r + f n) v = v + (l.map f).sum
  | [], v => by simp
  | a :: l, v => by
    rw [List.foldl_cons, foldl_sum f l, List.map_cons, List.sum_cons, add_assoc]

/-- The window's shape. -/
abbrev W : Shape := ⟨4, ![1, 1, 64, 1]⟩

/-- The window's positions, by their third coordinate. -/
def wpos : Fin 64 ≃ W.Idx where
  toFun k := (ix4 (0 : Fin 1) (0 : Fin 1) k (0 : Fin 1) : W.Idx)
  invFun i := i 2
  left_inv k := rfl
  right_inv i := by
    funext a
    fin_cases a
    · exact Subsingleton.elim (α := Fin 1) _ _
    · exact Subsingleton.elim (α := Fin 1) _ _
    · rfl
    · exact Subsingleton.elim (α := Fin 1) _ _

theorem foldl_window (f : W.Idx → EReal) :
    (List.finRange W.numel).foldl (fun r n => r + f (W.rowMajor.symm n)) 0 = ∑ k : Fin 64, f (wpos k) := by
  rw [foldl_sum, zero_add, ← Fin.sum_univ_def, Equiv.sum_comp W.rowMajor.symm f, ← Equiv.sum_comp wpos f]

theorem sum_window (X : ℕ → EReal) (c : ℕ) (hc : c < 64) :
    ∑ k : Fin 64, (if 63 ≤ c + k.val then X (c + k.val - 63) else 0) = ∑ i ∈ Finset.range (c + 1), X i := by
  rw [Finset.sum_range (n := 64) (f := fun k => if 63 ≤ c + k then X (c + k - 63) else 0) |>.symm]
  have e : 64 = (63 - c) + (c + 1) := by omega
  rw [e, Finset.sum_range_add _ (63 - c) (c + 1), Finset.sum_eq_zero, zero_add]
  · refine Finset.sum_congr rfl fun i _ => ?_
    rw [if_pos (by omega)]
    congr 1
    omega
  · intro k hk
    rw [Finset.mem_range] at hk
    rw [if_neg (by omega)]

/-- The running sum along the third axis. -/
def cE (x : FVec Ideal S4x64x64x512 .f32) : FVec Ideal S4x64x64x512 .f32 :=
  Host.reduceWindowAdd ![1, 1, 64, 1] ![1, 1, 1, 1] ![0, 0, 63, 0] ![0, 0, 0, 0] x (broadcastInDim S_ ![] bcast_S_S_ (constant S_ .f32 0x00000000#32)) reduceWindows_S4x64x64x512_S4x64x64x512_w1s1p0_0_w1s1p0_0_w64s1p63_0_w1s1p0_0 h_S_

/-- What the window's position `w` contributes at `j`. -/
def term (x : FVec Ideal S4x64x64x512 .f32) (j : S4x64x64x512.Idx) (w : W.Idx) : EReal :=
  if hin : ∀ a : Fin 4, (![0, 0, 63, 0] : Fin 4 → ℕ) a ≤ (j a).val * (![1, 1, 1, 1] : Fin 4 → ℕ) a + (w a).val
      ∧ (j a).val * (![1, 1, 1, 1] : Fin 4 → ℕ) a + (w a).val - (![0, 0, 63, 0] : Fin 4 → ℕ) a < S4x64x64x512.size a
    then x (fun a => ⟨(j a).val * (![1, 1, 1, 1] : Fin 4 → ℕ) a + (w a).val - (![0, 0, 63, 0] : Fin 4 → ℕ) a, (hin a).2⟩) else 0

theorem cE_fold (x : FVec Ideal S4x64x64x512 .f32) (j : S4x64x64x512.Idx) :
    cE x j = (List.finRange W.numel).foldl (fun r n => r + term x j (W.rowMajor.symm n)) 0 := by
  have hv : (broadcastInDim S_ ![] bcast_S_S_ (constant (F := Ideal) S_ .f32 0x00000000#32)) (Shape.Idx.first h_S_) = 0 :=
    Ideal.ofBits_zero_f32
  unfold cE Host.reduceWindowAdd
  rw [hv]
  rw [Ideal.hostReduceWindowAdd_def]
  unfold Ideal.hostReduceWindowAdd Host.reduceWindow
  refine congrArg (fun F : EReal → Fin W.numel → EReal => (List.finRange W.numel).foldl F 0) (funext fun r => funext fun n => ?_)
  refine congrArg (r + ·) ?_
  unfold term
  simp only []
  split
  · rename_i h1
    split
    · rfl
    · rename_i h2
      exact absurd h1 h2
  · rename_i h1
    split
    · rename_i h2
      exact absurd h2 h1
    · rfl

theorem term_at (x : FVec Ideal S4x64x64x512 .f32) (b : Fin 4) (s c k : Fin 64) (y : Fin 512) :
    term x (ix4 b s c y) (wpos k) = if 63 ≤ c.val + k.val then x (ix4 b s ⟨(c.val + k.val - 63) % 64, Nat.mod_lt _ (by decide)⟩ y) else 0 := by
  unfold term
  by_cases h : 63 ≤ c.val + k.val
  · rw [if_pos h, dif_pos]
    · congr 1
      funext a
      fin_cases a
      · exact Fin.ext (show b.val * 1 + 0 - 0 = b.val by omega)
      · exact Fin.ext (show s.val * 1 + 0 - 0 = s.val by omega)
      · exact Fin.ext (show c.val * 1 + k.val - 63 = (c.val + k.val - 63) % 64 by omega)
      · exact Fin.ext (show y.val * 1 + 0 - 0 = y.val by omega)
    · intro a
      fin_cases a
      · exact (show 0 ≤ b.val * 1 + 0 ∧ b.val * 1 + 0 - 0 < 4 by omega)
      · exact (show 0 ≤ s.val * 1 + 0 ∧ s.val * 1 + 0 - 0 < 64 by omega)
      · exact (show 63 ≤ c.val * 1 + k.val ∧ c.val * 1 + k.val - 63 < 64 by omega)
      · exact (show 0 ≤ y.val * 1 + 0 ∧ y.val * 1 + 0 - 0 < 512 by omega)
  · rw [if_neg h, dif_neg]
    intro q
    have e : 63 ≤ c.val * 1 + k.val := (q 2).1
    omega

theorem cE_at (x : FVec Ideal S4x64x64x512 .f32) (b : Fin 4) (s c : Fin 64) (y : Fin 512) :
    cE x (ix4 b s c y) = ∑ i ∈ Finset.range (c.val + 1), x (ix4 b s ⟨i % 64, Nat.mod_lt _ (by decide)⟩ y) := by
  refine (cE_fold x _).trans ((foldl_window (term x (ix4 b s c y))).trans ?_)
  refine (Finset.sum_congr rfl fun k _ => term_at x b s c k y).trans ?_
  exact sum_window (fun i => x (ix4 b s ⟨i % 64, Nat.mod_lt _ (by decide)⟩ y)) c.val c.isLt

end Cert.ProjRef

end
-- ==== Proof.Ref2.Value.lean ====
/- The reference's results, over the extended reals, are the projection's. -/
module

public import proofs.«01_k».proof.Proof.Ref2.Point
public import proofs.«01_k».proof.Proof.Ref2.Cumsum

@[expose] public section

set_option maxRecDepth 16384

noncomputable section

namespace Cert.ProjRef

open Idealize.ShloMosaic Idealize.ShloMosaic.TcCoe
open Cert.Reference2Ideal Cert.Reference2Ideal.Gen
open Cert.ProjSpec

/-! ## Chunks -/

theorem split_at (X : S4x4096x512.Idx → EReal) (b : Fin 4) (s c : Fin 64) (y : Fin 512) :
    shapeCast S4x64x64x512 X shapeCasts_S4x4096x512_S4x64x64x512 (ix4 b s c y) = X (ix3 b ⟨64 * s.val + c.val, by omega⟩ y) := by
  refine shapeCast_apply X _ _ _ ?_
  refine (rowMajor_val3 _ _ _ rfl rfl).trans (Eq.trans ?_ (rowMajor_val4 _ _ _ _ rfl rfl rfl).symm)
  show b.val * 2097152 + (64 * s.val + c.val) * 512 + y.val = b.val * 2097152 + s.val * 32768 + c.val * 512 + y.val
  omega

theorem merge_at (X : S4x64x64x1024.Idx → EReal) (b : Fin 4) (p : Fin 4096) (y : Fin 1024) :
    shapeCast S4x4096x1024 X shapeCasts_S4x64x64x1024_S4x4096x1024 (ix3 b p y)
      = X (ix4 b ⟨p.val / 64, by omega⟩ ⟨p.val % 64, by omega⟩ y) := by
  refine shapeCast_apply X _ _ _ ?_
  refine (rowMajor_val4 _ _ _ _ rfl rfl rfl).trans (Eq.trans ?_ (rowMajor_val3 _ _ _ rfl rfl).symm)
  show b.val * 4194304 + p.val / 64 * 65536 + p.val % 64 * 1024 + y.val = b.val * 4194304 + p.val * 1024 + y.val
  omega

theorem rev_at (X : S4x64x64x512.Idx → EReal) (b : Fin 4) (s c : Fin 64) (y : Fin 512) :
    Host.reverse [2] X (ix4 b s c y) = X (ix4 b s c.rev y) := by
  unfold Host.reverse
  congr 1
  funext a
  fin_cases a <;> rfl

/-- The two directions' running sums, side by side. -/
def cat (F B : FVec Ideal S4x64x64x512 .f32) : FVec Ideal S4x64x64x1024 .f32 :=
  concatenate S4x64x64x1024 3 [⟨S4x64x64x512, F⟩, ⟨S4x64x64x512, B⟩] concatenates_S4x64x64x512_S4x64x64x512_S4x64x64x1024_d3

theorem cat_at (F B : FVec Ideal S4x64x64x512 .f32) (b : Fin 4) (s c : Fin 64) (y : Fin 1024) :
    cat F B (ix4 b s c y) = if y.val / 512 = 0 then F (ix4 b s c ⟨y.val % 512, by omega⟩) else B (ix4 b s c ⟨y.val % 512, by omega⟩) := by
  by_cases h : y.val < 512
  · rw [if_pos (by omega)]
    have e : (⟨y.val % 512, by omega⟩ : Fin 512) = ⟨y.val, h⟩ := Fin.ext (by simp only []; omega)
    rw [e]
    pointwise [cat]
    first | rfl | (rw [dif_pos h]) | (simp [h])
  · rw [if_neg (by omega)]
    have e : (⟨y.val % 512, by omega⟩ : Fin 512) = ⟨y.val - 512, by omega⟩ := Fin.ext (by simp only []; omega)
    rw [e]
    pointwise [cat]
    first | rfl | (rw [dif_neg h]) | (simp [h])

/-- The decays' result, of the two directions' log-decays. -/
def laE (D0 D1 : FVec Ideal S4x4096x512 .f32) : FVec Ideal S4x4096x1024 .f32 :=
  shapeCast _ (cat (cE (shapeCast _ D0 shapeCasts_S4x4096x512_S4x64x64x512))
    (Host.reverse [2] (cE (Host.reverse [2] (shapeCast _ D1 shapeCasts_S4x4096x512_S4x64x64x512))))) shapeCasts_S4x64x64x1024_S4x4096x1024

section results

variable (a0 : FVec Ideal S4x4096x1024 .f32) (a1 a2 : FVec Ideal S4x1x1024 .f32) (a3 : FVec Ideal S1024 .f32)
  (a4 : FVec Ideal S1024x7200 .f32) (a5 a6 : FVec Ideal S1024 .f32) (a7 : FVec Ideal S2x16x512 .f32) (a8 : FVec Ideal S2x512 .f32)

theorem laE_at (b : Fin 4) (p : Fin 4096) (y : Fin 1024) :
    laE (dE (zR0 a7 a8 (pR a0 a1 a2 a3 a4))) (dE (zR1 a7 a8 (pR a0 a1 a2 a3 a4))) (ix3 b p y) = (arrs a0 a1 a2 a3 a4 a5 a6 a7 a8).las b p y := by
  unfold laE
  rw [merge_at, cat_at]
  unfold Arr.las Arr.cum
  by_cases h : y.val / 512 = 0
  · rw [if_pos h, if_pos (Fin.ext h), cE_at]
    refine Finset.sum_congr rfl fun i _ => ?_
    rw [split_at, dE_at, zR0_at a0 a1 a2 a3 a4 a5 a6 a7 a8]
    have e : (⟨y.val / 512, by omega⟩ : Fin 2) = 0 := Fin.ext h
    rw [e]
    rfl
  · have e : (⟨y.val / 512, by omega⟩ : Fin 2) = 1 := Fin.ext (show y.val / 512 = 1 by omega)
    rw [if_neg h, e, if_neg (by decide), rev_at, cE_at]
    have hr : (Fin.rev (⟨p.val % 64, by omega⟩ : Fin 64)).val + 1 = 64 - p.val % 64 := by
      show 64 - (p.val % 64 + 1) + 1 = 64 - p.val % 64
      omega
    rw [hr]
    refine Finset.sum_congr rfl fun i hi => ?_
    rw [Finset.mem_range] at hi
    rw [rev_at, split_at, dE_at, zR1_at a0 a1 a2 a3 a4 a5 a6 a7 a8]
    unfold Arr.la
    refine congrArg (fun q : Fin 4096 => decay ((arrs a0 a1 a2 a3 a4 a5 a6 a7 a8).z b q 1 ⟨y.val % 512, by omega⟩)) (Fin.ext ?_)
    simp only [Fin.val_rev]
    omega

/-- A narrowing changes nothing over the extended reals. -/
theorem narrow (x : FVec Ideal S4x4096x1024 .f32) (j : S4x4096x1024.Idx) : truncf .bf16 x bitsLt_bf16_f32 j = x j := rfl

/-- Result 0. -/
def r0 : FVec Ideal S4x4096x1024 .bf16 := truncf .bf16 (gE (sl0 (pR a0 a1 a2 a3 a4))) bitsLt_bf16_f32
theorem r0_eq : r0 a0 a1 a2 a3 a4 = (fun j : S4x4096x1024.Idx => (arrs a0 a1 a2 a3 a4 a5 a6 a7 a8).gu (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact (gE_at ..).trans (congrArg gelu (sl0_at ..))

/-- Result 1. -/
def r1 : FVec Ideal S4x4096x1024 .bf16 := truncf .bf16 (lnE (gE (sl1024 (pR a0 a1 a2 a3 a4))) a5 a6) bitsLt_bf16_f32
theorem r1_eq : r1 a0 a1 a2 a3 a4 a5 a6 = (fun j : S4x4096x1024.Idx => (arrs a0 a1 a2 a3 a4 a5 a6 a7 a8).vn (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  refine (narrow _ _).trans ((lnE_at b p _ a5 a6 y).trans ?_)
  unfold Arr.vn
  refine congrArg (fun f => lnorm f (fun y => a5 (ix1 y)) (fun y => a6 (ix1 y)) y) (funext fun z => ?_)
  exact (gE_at ..).trans (congrArg gelu (sl1024_at ..))

/-- Result 2. -/
def r2 : FVec Ideal S4x4096x1024 .bf16 := truncf .bf16 (sl6144 (pR a0 a1 a2 a3 a4)) bitsLt_bf16_f32
theorem r2_eq : r2 a0 a1 a2 a3 a4 = (fun j : S4x4096x1024.Idx => (arrs a0 a1 a2 a3 a4 a5 a6 a7 a8).v (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact sl6144_at ..

/-- Result 3. -/
def r3 : FVec Ideal S4x4096x1024 .bf16 := truncf .bf16 (mulf (sl2560 (pR a0 a1 a2 a3 a4)) (lE (sl2560 (pR a0 a1 a2 a3 a4)))) bitsLt_bf16_f32
theorem r3_eq : r3 a0 a1 a2 a3 a4 = (fun j : S4x4096x1024.Idx => (arrs a0 a1 a2 a3 a4 a5 a6 a7 a8).rs (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact congrArg₂ (· * ·) (sl2560_at ..) ((lE_at ..).trans (congrArg logi (sl2560_at ..)))

/-- Result 4. -/
def r4 : FVec Ideal S4x4096x1024 .bf16 := truncf .bf16 (lE (sl3584 (pR a0 a1 a2 a3 a4))) bitsLt_bf16_f32
theorem r4_eq : r4 a0 a1 a2 a3 a4 = (fun j : S4x4096x1024.Idx => (arrs a0 a1 a2 a3 a4 a5 a6 a7 a8).ga (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact (lE_at ..).trans (congrArg logi (sl3584_at ..))

/-- Result 5. -/
def r5 : FVec Ideal S4x4096x1024 .bf16 := truncf .bf16 (lE (sl4608 (pR a0 a1 a2 a3 a4))) bitsLt_bf16_f32
theorem r5_eq : r5 a0 a1 a2 a3 a4 = (fun j : S4x4096x1024.Idx => (arrs a0 a1 a2 a3 a4 a5 a6 a7 a8).gb (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact (lE_at ..).trans (congrArg logi (sl4608_at ..))

/-- Result 6. -/
def r6 : FVec Ideal S4x4096x512 .f32 := mulf (sl2048 (pR a0 a1 a2 a3 a4)) (broadcastInDim S4x4096x512 ![] bcast_S_S4x4096x512 (constant S_ .f32 0x3DB504F3#32))
theorem r6_eq : r6 a0 a1 a2 a3 a4 = (fun j : S4x4096x512.Idx => (arrs a0 a1 a2 a3 a4 a5 a6 a7 a8).q (j 0) (j 1) (j 2)) := by
  funext j
  obtain ⟨b, p, y, rfl⟩ : ∃ (b : Fin 4) (p : Fin 4096) (y : Fin 512), j = (ix3 b p y : S4x4096x512.Idx) := ⟨j 0, j 1, j 2, eq_ix3 j⟩
  exact congrArg (· * qs) (sl2048_at ..)

/-- Result 7. -/
def r7 : FVec Ideal S4x4096x512 .f32 := sl5632 (pR a0 a1 a2 a3 a4)
theorem r7_eq : r7 a0 a1 a2 a3 a4 = (fun j : S4x4096x512.Idx => (arrs a0 a1 a2 a3 a4 a5 a6 a7 a8).k (j 0) (j 1) (j 2)) := by
  funext j
  obtain ⟨b, p, y, rfl⟩ : ∃ (b : Fin 4) (p : Fin 4096) (y : Fin 512), j = (ix3 b p y : S4x4096x512.Idx) := ⟨j 0, j 1, j 2, eq_ix3 j⟩
  exact sl5632_at ..

/-- Result 8. -/
def r8 : FVec Ideal S4x4096x1024 .f32 := laE (dE (zR0 a7 a8 (pR a0 a1 a2 a3 a4))) (dE (zR1 a7 a8 (pR a0 a1 a2 a3 a4)))
theorem r8_eq : r8 a0 a1 a2 a3 a4 a7 a8 = (fun j : S4x4096x1024.Idx => (arrs a0 a1 a2 a3 a4 a5 a6 a7 a8).las (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact laE_at ..

end results

variable (m : (ℓ : Loc nD τ sig) → Buf (Elt Ideal) ℓ) (c : Dev nD)

/-- The reference's arguments, as the projection's arrays. -/
def A : Arr := arrs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))

theorem out1_eq : Value.res_out1 m c = (fun j : S4x4096x1024.Idx => (A m c).vn (j 0) (j 1) (j 2)) :=
  Eq.trans (by unfold Value.res_out1 Value.res_main_v135; rfl) (r1_eq ..)
theorem out8_eq : Value.res_out8 m c = (fun j : S4x4096x1024.Idx => (A m c).las (j 0) (j 1) (j 2)) :=
  Eq.trans (by unfold Value.res_out8 Value.res_main_v106; rfl) (r8_eq ..)

/-- Result 0 is what the run leaves. -/
abbrev g0 := r0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin0 : g0 m c = (fun j : S4x4096x1024.Idx => (A m c).gu (j 0) (j 1) (j 2)) := r0_eq ..

/-- Result 2 is what the run leaves. -/
abbrev g2 := r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin2 : g2 m c = (fun j : S4x4096x1024.Idx => (A m c).v (j 0) (j 1) (j 2)) := r2_eq ..

/-- Result 3 is what the run leaves. -/
abbrev g3 := r3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin3 : g3 m c = (fun j : S4x4096x1024.Idx => (A m c).rs (j 0) (j 1) (j 2)) := r3_eq ..

/-- Result 4 is what the run leaves. -/
abbrev g4 := r4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin4 : g4 m c = (fun j : S4x4096x1024.Idx => (A m c).ga (j 0) (j 1) (j 2)) := r4_eq ..

/-- Result 5 is what the run leaves. -/
abbrev g5 := r5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin5 : g5 m c = (fun j : S4x4096x1024.Idx => (A m c).gb (j 0) (j 1) (j 2)) := r5_eq ..

/-- Result 6 is what the run leaves. -/
abbrev g6 := r6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin6 : g6 m c = (fun j : S4x4096x512.Idx => (A m c).q (j 0) (j 1) (j 2)) := r6_eq ..

/-- Result 7 is what the run leaves. -/
abbrev g7 := r7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
theorem fin7 : g7 m c = (fun j : S4x4096x512.Idx => (A m c).k (j 0) (j 1) (j 2)) := r7_eq ..

end Cert.ProjRef

end
-- ==== Proof.Kern3.Blocks.lean ====
/- Where the mixing's windows lie in the arrays, and the arrays the host prepares for it. -/
module

public import proofs.«01_k».proof.Proof.Gen.Kernel3Ideal.Value
public import Idealize.ShloMosaic.Lib.Pointwise
public import Idealize.ShloMosaic.Lib.Pipeline.ValueKit.Point
public import Idealize.ShloMosaic.Lib.StableHlo.ReadAt

@[expose] public section

set_option maxRecDepth 16384

noncomputable section

namespace Cert.Mix

open Idealize.ShloMosaic Idealize.ShloMosaic.TcCoe
open Cert.Kernel3Ideal Cert.Kernel3Ideal.Gen

theorem idx : ∀ t : Fin cfg0.N,
    win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![t.val / 8, 0, 0]
    ∧ win0_15.index t = ![0, 0]
    ∧ win0_16.index t = ![t.val / 8, 0, 0]
    ∧ win0_17.index t = ![t.val / 8, 0, 0]
    ∧ win0_18.index t = ![t.val / 8, t.val % 8, 0]
    ∧ win0_19.index t = ![t.val / 8, t.val % 8, 0] := by
  decide +kernel

variable (m : (ℓ : Loc nD τ sig) → Buf (Elt Ideal) ℓ) (c : Dev nD) (t : Fin cfg0.N) (b : Fin 4) (i : Fin 8)

/-! ## The arrays the host prepares -/

/-- A group's offset, repeated over its columns, read. -/
theorem rep_apply (a : S8x128.Idx → EReal) (g : Fin 8) (k y : Fin 128) :
    shapeCast S128x1024 (broadcastInDim S128x8x128 ![0, 1] bcast_S128x8_S128x8x128_0_1
      (transpose S128x8 [1, 0] a transposes_S8x128_S128x8_1_0)) shapeCasts_S128x8x128_S128x1024
      (ix2 k ⟨128 * g.val + y.val, by omega⟩) = a (ix2 g k) := by
  refine (shapeCast_apply _ _ _ (ix3 k g y : S128x8x128.Idx) ?_).trans ?_
  · refine (rowMajor_val3 _ _ _ rfl rfl).trans (Eq.trans ?_ (rowMajor_val2 _ _ rfl).symm)
    show k.val * (8 * 128) + g.val * 128 + y.val = k.val * 1024 + (128 * g.val + y.val)
    omega
  · pointwise

theorem V_bs (g : Fin 8) (k y : Fin 128) : (V m c main_v2 : S128x1024.Idx → EReal) (ix2 k ⟨128 * g.val + y.val, by omega⟩)
    = (m ((c : Thread nD τ).loc main_arg9) : S8x128.Idx → EReal) (ix2 g k) := by
  refine Eq.trans (congrFun (?_ : (V m c main_v2 : S128x1024.Idx → EReal) = shapeCast S128x1024
    (broadcastInDim S128x8x128 ![0, 1] bcast_S128x8_S128x8x128_0_1
      (transpose S128x8 [1, 0] (m ((c : Thread nD τ).loc main_arg9) : S8x128.Idx → EReal) transposes_S8x128_S128x8_1_0))
      shapeCasts_S128x8x128_S128x1024) _) (rep_apply _ g k y)
  unfold V
  after_reads_simp
  rfl
theorem V_0 (b : Fin 4) (p : Fin 4096) (y : Fin 1024) : (V m c main_arg0 : S4x4096x1024.Idx → EReal) (ix3 b p y)
    = (m ((c : Thread nD τ).loc main_arg0) : S4x4096x1024.Idx → EReal) (ix3 b p y) := by
  unfold V
  after_reads_at
theorem V_1 (b : Fin 4) (p : Fin 4096) (y : Fin 1024) : (V m c main_arg1 : S4x4096x1024.Idx → EReal) (ix3 b p y)
    = (m ((c : Thread nD τ).loc main_arg1) : S4x4096x1024.Idx → EReal) (ix3 b p y) := by
  unfold V
  after_reads_at
theorem V_2 (b : Fin 4) (p : Fin 4096) (y : Fin 1024) : (V m c main_arg2 : S4x4096x1024.Idx → EReal) (ix3 b p y)
    = (m ((c : Thread nD τ).loc main_arg2) : S4x4096x1024.Idx → EReal) (ix3 b p y) := by
  unfold V
  after_reads_at
theorem V_3 (b : Fin 4) (p : Fin 4096) (y : Fin 1024) : (V m c main_arg3 : S4x4096x1024.Idx → EReal) (ix3 b p y)
    = (m ((c : Thread nD τ).loc main_arg3) : S4x4096x1024.Idx → EReal) (ix3 b p y) := by
  unfold V
  after_reads_at
theorem V_4 (b : Fin 4) (p : Fin 4096) (y : Fin 1024) : (V m c main_arg4 : S4x4096x1024.Idx → EReal) (ix3 b p y)
    = (m ((c : Thread nD τ).loc main_arg4) : S4x4096x1024.Idx → EReal) (ix3 b p y) := by
  unfold V
  after_reads_at
theorem V_5 (b : Fin 4) (p : Fin 4096) (y : Fin 1024) : (V m c main_arg5 : S4x4096x1024.Idx → EReal) (ix3 b p y)
    = (m ((c : Thread nD τ).loc main_arg5) : S4x4096x1024.Idx → EReal) (ix3 b p y) := by
  unfold V
  after_reads_at
theorem V_6 (b : Fin 4) (p : Fin 4096) (y : Fin 1024) : (V m c main_arg6 : S4x4096x1024.Idx → EReal) (ix3 b p y)
    = (m ((c : Thread nD τ).loc main_arg6) : S4x4096x1024.Idx → EReal) (ix3 b p y) := by
  unfold V
  after_reads_at
theorem V_7 (b : Fin 4) (p : Fin 4096) (y : Fin 1024) : (V m c main_arg7 : S4x4096x1024.Idx → EReal) (ix3 b p y)
    = (m ((c : Thread nD τ).loc main_arg7) : S4x4096x1024.Idx → EReal) (ix3 b p y) := by
  unfold V
  after_reads_at
theorem V_14 (b : Fin 4) (y : Fin 1024) : (V m c main_arg14 : S4x1x1024.Idx → EReal) (ix3 b 0 y)
    = (m ((c : Thread nD τ).loc main_arg14) : S4x1x1024.Idx → EReal) (ix3 b 0 y) := by
  unfold V
  after_reads_at
theorem V_16 (b : Fin 4) (y : Fin 1024) : (V m c main_arg16 : S4x1x1024.Idx → EReal) (ix3 b 0 y)
    = (m ((c : Thread nD τ).loc main_arg16) : S4x1x1024.Idx → EReal) (ix3 b 0 y) := by
  unfold V
  after_reads_at
theorem V_17 (b : Fin 4) (y : Fin 1024) : (V m c main_arg17 : S4x1x1024.Idx → EReal) (ix3 b 0 y)
    = (m ((c : Thread nD τ).loc main_arg17) : S4x1x1024.Idx → EReal) (ix3 b 0 y) := by
  unfold V
  after_reads_at
theorem V_10 (y : Fin 1024) : (V m c main_v4 : S1x1024.Idx → EReal) (ix2 0 y)
    = (m ((c : Thread nD τ).loc main_arg10) : S1024.Idx → EReal) (ix1 y) := by
  unfold V
  after_reads_at
theorem V_15 (y : Fin 1024) : (V m c main_v11 : S1x1024.Idx → EReal) (ix2 0 y)
    = (m ((c : Thread nD τ).loc main_arg15) : S1024.Idx → EReal) (ix1 y) := by
  unfold V
  after_reads_at
theorem V_8 (g : Fin 8) (k q : Fin 128) : (V m c main_v3 : S8x128x128.Idx → EReal) (ix3 g k q)
    = (m ((c : Thread nD τ).loc main_arg8) : S8x128x128.Idx → EReal) (ix3 g k q) := by
  unfold V
  after_reads_at
theorem V_11 (z y : Fin 1024) : (V m c main_v6 : S1024x1152.Idx → EReal) (ix2 z ⟨y.val, by omega⟩)
    = (m ((c : Thread nD τ).loc main_arg11) : S1024x1024.Idx → EReal) (ix2 z y) := by
  unfold V
  after_reads_at
theorem V_12 (z y : Fin 1024) : (V m c main_v8 : S1024x1152.Idx → EReal) (ix2 z ⟨y.val, by omega⟩)
    = (m ((c : Thread nD τ).loc main_arg12) : S1024x1024.Idx → EReal) (ix2 z y) := by
  unfold V
  after_reads_at
theorem V_13 (z y : Fin 1024) : (V m c main_v10 : S1024x1152.Idx → EReal) (ix2 z ⟨y.val, by omega⟩)
    = (m ((c : Thread nD τ).loc main_arg13) : S1024x1024.Idx → EReal) (ix2 z y) := by
  unfold V
  after_reads_at

/-! ## The blocks -/

theorem blk0 (ht : t.val = 8 * b.val + i.val) (p : Fin 512) (y : Fin 1024) :
    (iblk m c 0 t : S1x512x1024.Idx → EReal) (ix3 0 p y) = (V m c main_arg0 : S4x4096x1024.Idx → EReal) (ix3 b ⟨512 * i.val + p.val, by omega⟩ y) := by
  blk_ext [iblk, idx t]
theorem blk1 (ht : t.val = 8 * b.val + i.val) (p : Fin 512) (y : Fin 1024) :
    (iblk m c 1 t : S1x512x1024.Idx → EReal) (ix3 0 p y) = (V m c main_arg1 : S4x4096x1024.Idx → EReal) (ix3 b ⟨512 * i.val + p.val, by omega⟩ y) := by
  blk_ext [iblk, idx t]
theorem blk2 (ht : t.val = 8 * b.val + i.val) (p : Fin 512) (y : Fin 1024) :
    (iblk m c 2 t : S1x512x1024.Idx → EReal) (ix3 0 p y) = (V m c main_arg2 : S4x4096x1024.Idx → EReal) (ix3 b ⟨512 * i.val + p.val, by omega⟩ y) := by
  blk_ext [iblk, idx t]
theorem blk3 (ht : t.val = 8 * b.val + i.val) (p : Fin 512) (y : Fin 1024) :
    (iblk m c 3 t : S1x512x1024.Idx → EReal) (ix3 0 p y) = (V m c main_arg3 : S4x4096x1024.Idx → EReal) (ix3 b ⟨512 * i.val + p.val, by omega⟩ y) := by
  blk_ext [iblk, idx t]
theorem blk4 (ht : t.val = 8 * b.val + i.val) (p : Fin 512) (y : Fin 1024) :
    (iblk m c 4 t : S1x512x1024.Idx → EReal) (ix3 0 p y) = (V m c main_arg4 : S4x4096x1024.Idx → EReal) (ix3 b ⟨512 * i.val + p.val, by omega⟩ y) := by
  blk_ext [iblk, idx t]
theorem blk5 (ht : t.val = 8 * b.val + i.val) (p : Fin 512) (y : Fin 1024) :
    (iblk m c 5 t : S1x512x1024.Idx → EReal) (ix3 0 p y) = (V m c main_arg5 : S4x4096x1024.Idx → EReal) (ix3 b ⟨512 * i.val + p.val, by omega⟩ y) := by
  blk_ext [iblk, idx t]
theorem blk6 (ht : t.val = 8 * b.val + i.val) (p : Fin 512) (y : Fin 1024) :
    (iblk m c 6 t : S1x512x1024.Idx → EReal) (ix3 0 p y) = (V m c main_arg6 : S4x4096x1024.Idx → EReal) (ix3 b ⟨512 * i.val + p.val, by omega⟩ y) := by
  blk_ext [iblk, idx t]
theorem blk7 (ht : t.val = 8 * b.val + i.val) (p : Fin 512) (y : Fin 1024) :
    (iblk m c 7 t : S1x512x1024.Idx → EReal) (ix3 0 p y) = (V m c main_arg7 : S4x4096x1024.Idx → EReal) (ix3 b ⟨512 * i.val + p.val, by omega⟩ y) := by
  blk_ext [iblk, idx t]
theorem blk8 (g : Fin 8) (k q : Fin 128) :
    (iblk m c 8 t : S8x128x128.Idx → EReal) (ix3 g k q) = (V m c main_v3 : S8x128x128.Idx → EReal) (ix3 g k q) := by
  blk_ext [iblk, idx t]
theorem blk9 (k : Fin 128) (y : Fin 1024) :
    (iblk m c 9 t : S128x1024.Idx → EReal) (ix2 k y) = (V m c main_v2 : S128x1024.Idx → EReal) (ix2 k y) := by
  blk_ext [iblk, idx t]
theorem blk10 (y : Fin 1024) :
    (iblk m c 10 t : S1x1024.Idx → EReal) (ix2 0 y) = (V m c main_v4 : S1x1024.Idx → EReal) (ix2 0 y) := by
  blk_ext [iblk, idx t]
theorem blk15 (y : Fin 1024) :
    (iblk m c 15 t : S1x1024.Idx → EReal) (ix2 0 y) = (V m c main_v11 : S1x1024.Idx → EReal) (ix2 0 y) := by
  blk_ext [iblk, idx t]
theorem blk11 (z : Fin 1024) (y : Fin 1152) :
    (iblk m c 11 t : S1024x1152.Idx → EReal) (ix2 z y) = (V m c main_v6 : S1024x1152.Idx → EReal) (ix2 z y) := by
  blk_ext [iblk, idx t]
theorem blk12 (z : Fin 1024) (y : Fin 1152) :
    (iblk m c 12 t : S1024x1152.Idx → EReal) (ix2 z y) = (V m c main_v8 : S1024x1152.Idx → EReal) (ix2 z y) := by
  blk_ext [iblk, idx t]
theorem blk13 (z : Fin 1024) (y : Fin 1152) :
    (iblk m c 13 t : S1024x1152.Idx → EReal) (ix2 z y) = (V m c main_v10 : S1024x1152.Idx → EReal) (ix2 z y) := by
  blk_ext [iblk, idx t]
theorem blk14 (ht : t.val = 8 * b.val + i.val) (y : Fin 1024) :
    (iblk m c 14 t : S1x1x1024.Idx → EReal) (ix3 0 0 y) = (V m c main_arg14 : S4x1x1024.Idx → EReal) (ix3 b 0 y) := by
  blk_ext [iblk, idx t]
theorem blk16 (ht : t.val = 8 * b.val + i.val) (y : Fin 1024) :
    (iblk m c 16 t : S1x1x1024.Idx → EReal) (ix3 0 0 y) = (V m c main_arg16 : S4x1x1024.Idx → EReal) (ix3 b 0 y) := by
  blk_ext [iblk, idx t]
theorem blk17 (ht : t.val = 8 * b.val + i.val) (y : Fin 1024) :
    (iblk m c 17 t : S1x1x1024.Idx → EReal) (ix3 0 0 y) = (V m c main_arg17 : S4x1x1024.Idx → EReal) (ix3 b 0 y) := by
  blk_ext [iblk, idx t]
theorem emb18 (ht : t.val = 8 * b.val + i.val) (p : Fin 512) (y : Fin 1024) : ((cfg0.win 18).blk t).view.emb (ix3 0 p y : S1x512x1024.Idx)
    = (ix3 b ⟨512 * i.val + p.val, by omega⟩ y : S4x4096x1024.Idx) := by blk_ext [idx t]
theorem emb19 (ht : t.val = 8 * b.val + i.val) (p : Fin 512) (y : Fin 1024) : ((cfg0.win 19).blk t).view.emb (ix3 0 p y : S1x512x1024.Idx)
    = (ix3 b ⟨512 * i.val + p.val, by omega⟩ y : S4x4096x1024.Idx) := by blk_ext [idx t]

end Cert.Mix

end
-- ==== Proof.Kern3.Lists.lean ====
/- The mixing's body: the rectangles a grid point loads and stores, and the pieces its run leaves in its two output blocks, with the thirty-two
   products along the positions and the four heads each stated once. -/
module

public import proofs.«01_k».proof.Proof.Gen.Kernel3Ideal.Frame

@[expose] public section

noncomputable section

namespace Cert.Mix

open Idealize.ShloMosaic Idealize.ShloMosaic.TcCoe
open Cert.Kernel3Ideal Cert.Kernel3Ideal.Gen

variable {F : FTy → Type} [FloatOps F]

/-- Chunk `n` and group `g` of a scratch buffer. -/
def rS (n : Fin 4) (g : Fin 8) : Rect S512x1024 :=
  Rect.unit (s := S512x1024) ![128 * n.val, 128 * g.val] S128x128.size (by
    intro a; have := n.isLt; have := g.isLt; fin_cases a <;> simp [Shape.size] <;> omega)
/-- Chunk `n` and group `g` of an input block. -/
def rV (n : Fin 4) (g : Fin 8) : Rect S1x512x1024 :=
  Rect.unit (s := S1x512x1024) ![0, 128 * n.val, 128 * g.val] S1x128x128.size (by
    intro a; have := n.isLt; have := g.isLt; fin_cases a <;> simp [Shape.size] <;> omega)
/-- Group `g`'s weight along the positions. -/
def rW (g : Fin 8) : Rect S8x128x128 :=
  Rect.unit (s := S8x128x128) ![g.val, 0, 0] S1x128x128.size (by
    intro a; have := g.isLt; fin_cases a <;> simp [Shape.size] <;> omega)
/-- Group `g`'s offset. -/
def rB (g : Fin 8) : Rect S128x1024 :=
  Rect.unit (s := S128x1024) ![0, 128 * g.val] S128x128.size (by
    intro a; have := g.isLt; fin_cases a <;> simp [Shape.size] <;> omega)
/-- Head `h` of a scratch buffer. -/
def rK (h : Fin 4) : Rect S512x1024 :=
  Rect.unit (s := S512x1024) ![0, 256 * h.val] S512x256.size (by
    intro a; have := h.isLt; fin_cases a <;> simp [Shape.size] <;> omega)
/-- Head `h` of an input block. -/
def rD (h : Fin 4) : Rect S1x512x1024 :=
  Rect.unit (s := S1x512x1024) ![0, 0, 256 * h.val] S1x512x256.size (by
    intro a; have := h.isLt; fin_cases a <;> simp [Shape.size] <;> omega)
/-- Head `h`'s gain. -/
def rN (h : Fin 4) : Rect S1x1024 :=
  Rect.unit (s := S1x1024) ![0, 256 * h.val] S1x256.size (by
    intro a; have := h.isLt; fin_cases a <;> simp [Shape.size] <;> omega)

/-- A scratch buffer, whole. -/
abbrev rH : Rect S512x1024 := Rect.unit (s := S512x1024) ![0, 0] S512x1024.size inb_S512x1024_S512x1024_0_0
/-- An input or output block, whole. -/
abbrev rO : Rect S1x512x1024 := Rect.unit (s := S1x512x1024) ![0, 0, 0] S1x512x1024.size inb_S1x512x1024_S1x512x1024_0_0_0
/-- A vector block, whole. -/
abbrev rG : Rect S1x1024 := Rect.unit (s := S1x1024) ![0, 0] S1x1024.size inb_S1x1024_S1x1024_0_0
/-- A batch's block, whole. -/
abbrev rM : Rect S1x1x1024 := Rect.unit (s := S1x1x1024) ![0, 0, 0] S1x1x1024.size inb_S1x1x1024_S1x1x1024_0_0_0
/-- A weight's columns, without those that pad it. -/
abbrev rU : Rect S1024x1152 := Rect.unit (s := S1024x1152) ![0, 0] S1024x1024.size inb_S1024x1152_S1024x1024_0_0

/-- The first `j` of the thirty-two stores of products, chunk by chunk and within it group by group. -/
def sL (w : Fin 4 → Fin 8 → Vec F S128x128 .f32) (j : ℕ) : List (View.Piece (Elt F) S512x1024 .f32) :=
  Nat.rec [] (fun j L => ⟨rS ⟨j / 8 % 4, Nat.mod_lt _ (by decide)⟩ ⟨j % 8, Nat.mod_lt _ (by decide)⟩,
    w ⟨j / 8 % 4, Nat.mod_lt _ (by decide)⟩ ⟨j % 8, Nat.mod_lt _ (by decide)⟩⟩ :: L) j

/-- The first `j` of the four stores of heads. -/
def kL (w : Fin 4 → Vec F S512x256 .bf16) (j : ℕ) : List (View.Piece (Elt F) S512x1024 .bf16) :=
  Nat.rec [] (fun j L => ⟨rK ⟨j % 4, Nat.mod_lt _ (by decide)⟩, w ⟨j % 4, Nat.mod_lt _ (by decide)⟩⟩ :: L) j

/-- A product along the positions. -/
abbrev gt (vn : Vec F S1x512x1024 .bf16) (ws : Vec F S8x128x128 .bf16) (bs : Vec F S128x1024 .f32) (n : Fin 4) (g : Fin 8) : Vec F S128x128 .f32 :=
  k0_pay2 (fun y => ws ((rW g).emb y)) (fun y => vn ((rV n g).emb y)) (fun y => bs ((rB g).emb y))
/-- A head. -/
abbrev hd (of ob rs : Vec F S1x512x1024 .bf16) (gn : Vec F S1x1024 .f32) (h : Fin 4) : Vec F S512x256 .bf16 :=
  k0_pay44 (fun y => of ((rD h).emb y)) (fun y => ob ((rD h).emb y)) (fun y => gn ((rN h).emb y)) (fun y => rs ((rD h).emb y))

variable (c : Dev nD) (i : grid0.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x512x1024 .bf16) (harg9 : arg9.IsWhole)
  (arg10 : Memref sig .tc .vmem S8x128x128 .bf16) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S1024x1152 .bf16) (harg13 : arg13.IsWhole)
  (arg14 : Memref sig .tc .vmem S1024x1152 .bf16) (harg14 : arg14.IsWhole)
  (arg15 : Memref sig .tc .vmem S1024x1152 .bf16) (harg15 : arg15.IsWhole)
  (arg16 : Memref sig .tc .vmem S1x1x1024 .f32) (harg16 : arg16.IsWhole)
  (arg17 : Memref sig .tc .vmem S1x1024 .f32) (harg17 : arg17.IsWhole)
  (arg18 : Memref sig .tc .vmem S1x1x1024 .f32) (harg18 : arg18.IsWhole)
  (arg19 : Memref sig .tc .vmem S1x1x1024 .f32) (harg19 : arg19.IsWhole)
  (arg20 : Memref sig .tc .vmem S1x512x1024 .f32) (harg20 : arg20.IsWhole)
  (arg21 : Memref sig .tc .vmem S1x512x1024 .bf16) (harg21 : arg21.IsWhole)
  (arg22 : Memref sig .tc .vmem S512x1024 .f32) (harg22 : arg22.IsWhole)
  (arg23 : Memref sig .tc .vmem S512x1024 .bf16) (harg23 : arg23.IsWhole)
  (arg24 : Memref sig .tc .vmem S512x1024 .bf16) (harg24 : arg24.IsWhole)
  (arg25 : Memref sig .tc .vmem S512x1024 .bf16) (harg25 : arg25.IsWhole)
  (x0 : Vec F S1x512x1024 .f32)
  (x1 : Vec F S1x512x1024 .bf16)
  (x2 : Vec F S1x512x1024 .bf16)
  (x3 : Vec F S1x512x1024 .bf16)
  (x4 : Vec F S1x512x1024 .bf16)
  (x5 : Vec F S1x512x1024 .bf16)
  (x6 : Vec F S1x512x1024 .bf16)
  (x7 : Vec F S1x512x1024 .bf16)
  (x8 : Vec F S8x128x128 .bf16)
  (x9 : Vec F S128x1024 .f32)
  (x10 : Vec F S1x1024 .f32)
  (x11 : Vec F S1024x1152 .bf16)
  (x12 : Vec F S1024x1152 .bf16)
  (x13 : Vec F S1024x1152 .bf16)
  (x14 : Vec F S1x1x1024 .f32)
  (x15 : Vec F S1x1024 .f32)
  (x16 : Vec F S1x1x1024 .f32)
  (x17 : Vec F S1x1x1024 .f32)

/-- A product along the positions, of what the run loads. -/
abbrev gtL (n : Fin 4) (g : Fin 8) : Vec F S128x128 .f32 :=
  k0_pay2 (View.readAt (Elt F) arg10.view (rW g).toLoadRect (harg10.unread x8)) (View.readAt (Elt F) arg4.view (rV n g).toLoadRect (harg4.unread x2)) (View.readAt (Elt F) arg11.view (rB g).toLoadRect (harg11.unread x9))
/-- A head, of what the run loads. -/
abbrev hdL (h : Fin 4) : Vec F S512x256 .bf16 :=
  k0_pay44 (View.readAt (Elt F) arg5.view (rD h).toLoadRect (harg5.unread x3)) (View.readAt (Elt F) arg6.view (rD h).toLoadRect (harg6.unread x4)) (View.readAt (Elt F) arg12.view (rN h).toLoadRect (harg12.unread x10)) (View.readAt (Elt F) arg7.view (rD h).toLoadRect (harg7.unread x5))
/-- The two branches added, as the run keeps them in a scratch buffer and loads them again. -/
abbrev mgL : Vec F S512x1024 .bf16 :=
  arg25.view.readCov [⟨rH, k0_pay53
    (k0_pay50 (arg24.view.readCov (kL (hdL arg5 harg5 arg6 harg6 arg7 harg7 arg12 harg12 x3 x4 x5 x10) 4) rH.toLoadRect) (View.readAt (Elt F) arg14.view rU.toLoadRect (harg14.unread x12)))
    (k0_pay52 (arg23.view.readCov [⟨rH, k0_pay51 (View.readAt (Elt F) arg3.view rO.toLoadRect (harg3.unread x1))
        (arg22.view.readCov (sL (gtL arg4 harg4 arg10 harg10 arg11 harg11 x2 x8 x9) 32) rH.toLoadRect)⟩] rH.toLoadRect) (View.readAt (Elt F) arg13.view rU.toLoadRect (harg13.unread x11)))
    (View.readAt (Elt F) arg8.view rO.toLoadRect (harg8.unread x6)) (View.readAt (Elt F) arg9.view rO.toLoadRect (harg9.unread x7))⟩] rH.toLoadRect

theorem list18 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17).1 =
      [⟨rO, k0_pay55 (View.readAt (Elt F) arg2.view rO.toLoadRect (harg2.unread x0)) (View.readAt (Elt F) arg16.view rM.toLoadRect (harg16.unread x14))
        (mgL arg3 harg3 arg4 harg4 arg5 harg5 arg6 harg6 arg7 harg7 arg8 harg8 arg9 harg9 arg10 harg10 arg11 harg11 arg12 harg12 arg13 harg13 arg14 harg14 arg22 arg23 arg24 arg25 x1 x2 x3 x4 x5 x6 x7 x8 x9 x10 x11 x12) (View.readAt (Elt F) arg15.view rU.toLoadRect (harg15.unread x13))⟩] := by
  sl_kernel_rfl

theorem list19 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17).2.1 =
      [⟨rO, k0_pay1 (k0_pay54 (View.readAt (Elt F) arg2.view rO.toLoadRect (harg2.unread x0)) (View.readAt (Elt F) arg16.view rM.toLoadRect (harg16.unread x14))
        (mgL arg3 harg3 arg4 harg4 arg5 harg5 arg6 harg6 arg7 harg7 arg8 harg8 arg9 harg9 arg10 harg10 arg11 harg11 arg12 harg12 arg13 harg13 arg14 harg14 arg22 arg23 arg24 arg25 x1 x2 x3 x4 x5 x6 x7 x8 x9 x10 x11 x12) (View.readAt (Elt F) arg15.view rU.toLoadRect (harg15.unread x13)))
        (k0_pay56 (View.readAt (Elt F) arg17.view rG.toLoadRect (harg17.unread x15))) (k0_pay57 (View.readAt (Elt F) arg18.view rM.toLoadRect (harg18.unread x16))) (View.readAt (Elt F) arg19.view rM.toLoadRect (harg19.unread x17))⟩] := by
  sl_kernel_rfl

end Cert.Mix

end
-- ==== Proof.Kern3.Out.lean ====
/- What a grid point leaves in its two output buffers, as vectors of its input blocks. -/
module

public import proofs.«01_k».proof.Proof.Kern3.Lists
public import Idealize.ShloMosaic.Lib.WholeRead

@[expose] public section

noncomputable section

namespace Cert.Mix

open Idealize.ShloMosaic Idealize.ShloMosaic.TcCoe
open Cert.Kernel3Ideal Cert.Kernel3Ideal.Gen

variable {F : FTy → Type} [FloatOps F]

/-- What a rectangle names of an array, as values. -/
def part {S : Shape} {e : EltTy} (R : Rect S) (x : Vec F S e) : Vec F R.shape e := fun y => x (R.emb y)

theorem rH_emb (y : S512x1024.Idx) : rH.emb y = y := rH.emb_eq_of_coords y y fun a => by fin_cases a <;> simp [rH]
theorem rO_emb (y : S1x512x1024.Idx) : rO.emb y = y := rO.emb_eq_of_coords y y fun a => by fin_cases a <;> simp [rO]
theorem rG_emb (y : S1x1024.Idx) : rG.emb y = y := rG.emb_eq_of_coords y y fun a => by fin_cases a <;> simp [rG]
theorem rM_emb (y : S1x1x1024.Idx) : rM.emb y = y := rM.emb_eq_of_coords y y fun a => by fin_cases a <;> simp [rM]

theorem ld_O {e : EltTy} {arg : Memref sig .tc .vmem S1x512x1024 e} (ha : arg.IsWhole) (x : Vec F S1x512x1024 e) :
    View.readAt (Elt F) arg.view rO.toLoadRect (ha.unread x) = x :=
  funext fun y => (ha.readAt_unread x rO.toLoadRect y).trans (congrArg x (rO_emb y))
theorem ld_G {arg : Memref sig .tc .vmem S1x1024 .f32} (ha : arg.IsWhole) (x : Vec F S1x1024 .f32) :
    View.readAt (Elt F) arg.view rG.toLoadRect (ha.unread x) = x :=
  funext fun y => (ha.readAt_unread x rG.toLoadRect y).trans (congrArg x (rG_emb y))
theorem ld_M {arg : Memref sig .tc .vmem S1x1x1024 .f32} (ha : arg.IsWhole) (x : Vec F S1x1x1024 .f32) :
    View.readAt (Elt F) arg.view rM.toLoadRect (ha.unread x) = x :=
  funext fun y => (ha.readAt_unread x rM.toLoadRect y).trans (congrArg x (rM_emb y))
theorem ld_P {S : Shape} {e : EltTy} (R : Rect S) {arg : Memref sig .tc .vmem S e} (ha : arg.IsWhole) (x : Vec F S e) :
    View.readAt (Elt F) arg.view R.toLoadRect (ha.unread x) = part R x :=
  funext fun y => ha.readAt_unread x R.toLoadRect y

/-- A buffer stored whole holds what was stored. -/
theorem canon_O {e : EltTy} (w : Vec F S1x512x1024 e) (y : S1x512x1024.Idx) :
    View.canon (Val := Elt F) [⟨rO, w⟩] y = w y := by
  have h := View.canon_cons_emb (Val := Elt F) rO w [] y
  rw [rO_emb] at h
  exact h
/-- A scratch buffer read whole is what its stores left. -/
theorem read_L {e : EltTy} (v : View sig .tc .vmem S512x1024 e) (L : List (View.Piece (Elt F) S512x1024 e)) :
    v.readCov L rH.toLoadRect = fun y => View.canon L y := by
  funext y
  exact (congrFun (View.readCov_eq_canon' v L rH.toLoadRect) y).trans (congrArg (View.canon L) (rH_emb y))
theorem read_H {e : EltTy} (v : View sig .tc .vmem S512x1024 e) (w : Vec F S512x1024 e) :
    v.readCov [⟨rH, w⟩] rH.toLoadRect = w := by
  funext y
  refine (congrFun (View.readCov_eq_canon' v [⟨rH, w⟩] rH.toLoadRect) y).trans ?_
  exact View.canon_cons_emb (Val := Elt F) rH w [] y

/-! ## The products along the positions -/

theorem rS_disjoint {n n' : Fin 4} {g g' : Fin 8} (e : n' ≠ n ∨ g' ≠ g) : Disjoint (rS n' g').set (rS n g).set := by
  by_cases hn : n' = n
  · have hd : g'.val ≠ g.val := fun q => (e.resolve_left (fun h => h hn)) (Fin.ext q)
    refine Rect.unit_disjoint (1 : Fin 2) ?_
    simp [Shape.size]
    omega
  · have hn' : n'.val ≠ n.val := fun q => hn (Fin.ext q)
    refine Rect.unit_disjoint (0 : Fin 2) ?_
    simp [Shape.size]
    omega

theorem canon_missS {n n' : Fin 4} {g g' : Fin 8} (e : n' ≠ n ∨ g' ≠ g) (w : Vec F S128x128 .f32)
    (L : List (View.Piece (Elt F) S512x1024 .f32)) (x : S128x128.Idx) :
    View.canon (⟨rS n' g', w⟩ :: L) ((rS n g).emb x) = View.canon L ((rS n g).emb x) :=
  View.canon_cons_of_not_mem _ L (Finset.disjoint_right.mp (rS_disjoint e) ((rS n g).toLoadRect.idx_mem x))

theorem canon_hitS (n : Fin 4) (g : Fin 8) (w : Vec F S128x128 .f32) (L : List (View.Piece (Elt F) S512x1024 .f32))
    (x : S128x128.Idx) : View.canon (⟨rS n g, w⟩ :: L) ((rS n g).emb x) = w x := View.canon_cons_emb (rS n g) w L x

abbrev nOf (j : ℕ) : Fin 4 := ⟨j / 8 % 4, Nat.mod_lt _ (by decide)⟩
abbrev gOf (j : ℕ) : Fin 8 := ⟨j % 8, Nat.mod_lt _ (by decide)⟩
abbrev hOf (j : ℕ) : Fin 4 := ⟨j % 4, Nat.mod_lt _ (by decide)⟩

theorem sL_succ (w : Fin 4 → Fin 8 → Vec F S128x128 .f32) (j : ℕ) : sL w (j + 1)
    = ⟨rS (nOf j) (gOf j), w (nOf j) (gOf j)⟩ :: sL w j := rfl

theorem canon_sL (w : Fin 4 → Fin 8 → Vec F S128x128 .f32) (n : Fin 4) (g : Fin 8) (x : S128x128.Idx) : ∀ j : ℕ, 8 * n.val + g.val < j → j ≤ 32 →
    View.canon (sL w j) ((rS n g).emb x) = w n g x
  | 0, h, _ => absurd h (Nat.not_lt_zero _)
  | j + 1, h, h8 => by
    rw [sL_succ]
    by_cases e : j = 8 * n.val + g.val
    · obtain rfl : nOf j = n := Fin.ext (by simp only []; omega)
      obtain rfl : gOf j = g := Fin.ext (by simp only []; omega)
      exact canon_hitS ..
    · have ne : nOf j ≠ n ∨ gOf j ≠ g := by
        by_contra q
        have h0 : j / 8 % 4 = n.val := congrArg Fin.val (not_not.1 fun r => q (.inl r))
        have h1 : j % 8 = g.val := congrArg Fin.val (not_not.1 fun r => q (.inr r))
        omega
      rw [canon_missS ne]
      exact canon_sL w n g x j (by omega) (by omega)

/-! ## The heads -/

theorem rK_disjoint {h h' : Fin 4} (e : h' ≠ h) : Disjoint (rK h').set (rK h).set := by
  have hd : h'.val ≠ h.val := fun q => e (Fin.ext q)
  refine Rect.unit_disjoint (1 : Fin 2) ?_
  simp [Shape.size]
  omega

theorem canon_missK {h h' : Fin 4} (e : h' ≠ h) (w : Vec F S512x256 .bf16)
    (L : List (View.Piece (Elt F) S512x1024 .bf16)) (x : S512x256.Idx) :
    View.canon (⟨rK h', w⟩ :: L) ((rK h).emb x) = View.canon L ((rK h).emb x) :=
  View.canon_cons_of_not_mem _ L (Finset.disjoint_right.mp (rK_disjoint e) ((rK h).toLoadRect.idx_mem x))

theorem canon_hitK (h : Fin 4) (w : Vec F S512x256 .bf16) (L : List (View.Piece (Elt F) S512x1024 .bf16))
    (x : S512x256.Idx) : View.canon (⟨rK h, w⟩ :: L) ((rK h).emb x) = w x := View.canon_cons_emb (rK h) w L x

theorem kL_succ (w : Fin 4 → Vec F S512x256 .bf16) (j : ℕ) : kL w (j + 1) = ⟨rK (hOf j), w (hOf j)⟩ :: kL w j := rfl

theorem canon_kL (w : Fin 4 → Vec F S512x256 .bf16) (k : Fin 4) (x : S512x256.Idx) : ∀ j : ℕ, k.val < j → j ≤ 4 →
    View.canon (kL w j) ((rK k).emb x) = w k x
  | 0, h, _ => absurd h (Nat.not_lt_zero _)
  | j + 1, h, h4 => by
    rw [kL_succ]
    by_cases e : j = k.val
    · obtain rfl : hOf j = k := Fin.ext (by simp only []; omega)
      exact canon_hitK ..
    · have ne : hOf j ≠ k := fun q => by
        have h0 : j % 4 = k.val := congrArg Fin.val q
        omega
      rw [canon_missK ne]
      exact canon_kL w k x j (by omega) (by omega)

/-! ## The outputs -/

/-- The products along the positions, as one array. -/
def sV (vn : Vec F S1x512x1024 .bf16) (ws : Vec F S8x128x128 .bf16) (bs : Vec F S128x1024 .f32) : Vec F S512x1024 .f32 :=
  fun y => View.canon (sL (gt vn ws bs) 32) y
/-- The heads, as one array. -/
def kV (of ob rs : Vec F S1x512x1024 .bf16) (gn : Vec F S1x1024 .f32) : Vec F S512x1024 .bf16 :=
  fun y => View.canon (kL (hd of ob rs gn) 4) y
/-- The two branches added. -/
def mgV (gu vn of ob rs ga gb : Vec F S1x512x1024 .bf16) (ws : Vec F S8x128x128 .bf16) (bs : Vec F S128x1024 .f32) (gn : Vec F S1x1024 .f32)
    (wa wb : Vec F S1024x1152 .bf16) : Vec F S512x1024 .bf16 :=
  k0_pay53 (k0_pay50 (kV of ob rs gn) (part rU wb)) (k0_pay52 (k0_pay51 gu (sV vn ws bs)) (part rU wa)) ga gb

variable (c : Dev nD) (i : grid0.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x512x1024 .bf16) (harg9 : arg9.IsWhole)
  (arg10 : Memref sig .tc .vmem S8x128x128 .bf16) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S1024x1152 .bf16) (harg13 : arg13.IsWhole)
  (arg14 : Memref sig .tc .vmem S1024x1152 .bf16) (harg14 : arg14.IsWhole)
  (arg15 : Memref sig .tc .vmem S1024x1152 .bf16) (harg15 : arg15.IsWhole)
  (arg16 : Memref sig .tc .vmem S1x1x1024 .f32) (harg16 : arg16.IsWhole)
  (arg17 : Memref sig .tc .vmem S1x1024 .f32) (harg17 : arg17.IsWhole)
  (arg18 : Memref sig .tc .vmem S1x1x1024 .f32) (harg18 : arg18.IsWhole)
  (arg19 : Memref sig .tc .vmem S1x1x1024 .f32) (harg19 : arg19.IsWhole)
  (arg20 : Memref sig .tc .vmem S1x512x1024 .f32) (harg20 : arg20.IsWhole)
  (arg21 : Memref sig .tc .vmem S1x512x1024 .bf16) (harg21 : arg21.IsWhole)
  (arg22 : Memref sig .tc .vmem S512x1024 .f32) (harg22 : arg22.IsWhole)
  (arg23 : Memref sig .tc .vmem S512x1024 .bf16) (harg23 : arg23.IsWhole)
  (arg24 : Memref sig .tc .vmem S512x1024 .bf16) (harg24 : arg24.IsWhole)
  (arg25 : Memref sig .tc .vmem S512x1024 .bf16) (harg25 : arg25.IsWhole)
  (x0 : Vec F S1x512x1024 .f32)
  (x1 : Vec F S1x512x1024 .bf16)
  (x2 : Vec F S1x512x1024 .bf16)
  (x3 : Vec F S1x512x1024 .bf16)
  (x4 : Vec F S1x512x1024 .bf16)
  (x5 : Vec F S1x512x1024 .bf16)
  (x6 : Vec F S1x512x1024 .bf16)
  (x7 : Vec F S1x512x1024 .bf16)
  (x8 : Vec F S8x128x128 .bf16)
  (x9 : Vec F S128x1024 .f32)
  (x10 : Vec F S1x1024 .f32)
  (x11 : Vec F S1024x1152 .bf16)
  (x12 : Vec F S1024x1152 .bf16)
  (x13 : Vec F S1024x1152 .bf16)
  (x14 : Vec F S1x1x1024 .f32)
  (x15 : Vec F S1x1024 .f32)
  (x16 : Vec F S1x1x1024 .f32)
  (x17 : Vec F S1x1x1024 .f32)

theorem gtL_eq : gtL arg4 harg4 arg10 harg10 arg11 harg11 x2 x8 x9 = gt x2 x8 x9 := by
  funext n g
  unfold gtL gt
  rw [ld_P, ld_P, ld_P]
  rfl

theorem hdL_eq : hdL arg5 harg5 arg6 harg6 arg7 harg7 arg12 harg12 x3 x4 x5 x10 = hd x3 x4 x5 x10 := by
  funext h
  unfold hdL hd
  rw [ld_P, ld_P, ld_P, ld_P]
  rfl

theorem mgL_eq : mgL arg3 harg3 arg4 harg4 arg5 harg5 arg6 harg6 arg7 harg7 arg8 harg8 arg9 harg9 arg10 harg10 arg11 harg11 arg12 harg12 arg13 harg13 arg14 harg14 arg22 arg23 arg24 arg25 x1 x2 x3 x4 x5 x6 x7 x8 x9 x10 x11 x12 = mgV x1 x2 x3 x4 x5 x6 x7 x8 x9 x10 x11 x12 := by
  unfold mgL mgV sV kV
  rw [read_H, read_H, read_L, read_L, gtL_eq, hdL_eq, ld_O, ld_O, ld_O, ld_P, ld_P]

theorem out18_eq : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17
    = k0_pay55 x0 x14 (mgV x1 x2 x3 x4 x5 x6 x7 x8 x9 x10 x11 x12) (part rU x13) := by
  funext y
  unfold out0_A_18
  rw [View.read_writes_junk_apply_eq_canon, list18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17, mgL_eq, ld_O, ld_M, ld_P]
  exact canon_O _ y

theorem out19_eq : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17
    = k0_pay1 (k0_pay54 x0 x14 (mgV x1 x2 x3 x4 x5 x6 x7 x8 x9 x10 x11 x12) (part rU x13)) (k0_pay56 x15) (k0_pay57 x16) x17 := by
  funext y
  unfold out0_A_19
  rw [View.read_writes_junk_apply_eq_canon, list19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17, mgL_eq, ld_O, ld_M, ld_P, ld_G, ld_M, ld_M]
  exact canon_O _ y

end Cert.Mix

end
-- ==== Proof.Mix.Spec.lean ====
/- The mixing of the two branches, over the extended reals: a branch gated by a product along the positions of a chunk, a branch normalised
   head by head, each times its weight, gated and added, times a third weight, added to the rows, and the rows normalised. -/
module

public import Idealize.ShloMosaic.Lib.Pointwise

@[expose] public section

noncomputable section

namespace Cert.MixSpec

open Idealize.ShloMosaic

/-- The width of a row, 1024. -/
abbrev width : EReal := Ideal.ofBits .f32 0x44800000#32
/-- The width of a head, 256. -/
abbrev hwidth : EReal := Ideal.ofBits .f32 0x43800000#32
/-- What is added to a mean square. -/
abbrev eps : EReal := Ideal.ofBits .f32 0x358637BD#32

/-- A row over its root mean square, scaled and shifted. -/
def rnorm (x g sc sh : Fin 1024 → EReal) (y : Fin 1024) : EReal :=
  x y * Ideal.rsqrt (Ideal.div (∑ z, x z * x z) width + eps) * g y * (1 + sc y) + sh y

/-- A head over its root mean square, times its gain and its gate. -/
def hnorm (o g r : Fin 256 → EReal) (y : Fin 256) : EReal :=
  o y * Ideal.rsqrt (Ideal.div (∑ z, o z * o z) hwidth + eps) * g y * r y

/-- The arrays the mixing takes. -/
structure Arr where
  /-- The rows it adds to. -/
  x : Fin 4 → Fin 4096 → Fin 1024 → EReal
  /-- The first branch's gate. -/
  gu : Fin 4 → Fin 4096 → Fin 1024 → EReal
  /-- The first branch's values. -/
  vn : Fin 4 → Fin 4096 → Fin 1024 → EReal
  /-- The second branch's values, forward. -/
  of : Fin 4 → Fin 4096 → Fin 1024 → EReal
  /-- The second branch's values, backward. -/
  ob : Fin 4 → Fin 4096 → Fin 1024 → EReal
  /-- The second branch's gate. -/
  rs : Fin 4 → Fin 4096 → Fin 1024 → EReal
  /-- The first product's gate. -/
  ga : Fin 4 → Fin 4096 → Fin 1024 → EReal
  /-- The second product's gate. -/
  gb : Fin 4 → Fin 4096 → Fin 1024 → EReal
  /-- The weight along the positions, one for each group of columns. -/
  sw : Fin 8 → Fin 128 → Fin 128 → EReal
  /-- Its offset. -/
  sb : Fin 8 → Fin 128 → EReal
  /-- The heads' gain. -/
  gn : Fin 1024 → EReal
  /-- The first branch's weight. -/
  wa : Fin 1024 → Fin 1024 → EReal
  /-- The second branch's weight. -/
  wb : Fin 1024 → Fin 1024 → EReal
  /-- The last weight. -/
  wo : Fin 1024 → Fin 1024 → EReal
  /-- A batch's gate. -/
  g1 : Fin 4 → Fin 1024 → EReal
  /-- The gain of the last normalisation. -/
  n2 : Fin 1024 → EReal
  /-- A batch's shift. -/
  sh : Fin 4 → Fin 1024 → EReal
  /-- A batch's scale. -/
  sc : Fin 4 → Fin 1024 → EReal

namespace Arr

variable (A : Arr) (b : Fin 4)

/-- Position `k` of chunk `n`, column `y` of group `g`: the product along the positions. -/
def gate (n : Fin 32) (k : Fin 128) (g : Fin 8) (y : Fin 128) : EReal :=
  ∑ q : Fin 128, A.sw g k q * A.vn b ⟨128 * n.val + q.val, by omega⟩ ⟨128 * g.val + y.val, by omega⟩ + A.sb g k

/-- The same by row and column. -/
def s (p : Fin 4096) (y : Fin 1024) : EReal :=
  A.gate b ⟨p.val / 128, by omega⟩ ⟨p.val % 128, by omega⟩ ⟨y.val / 128, by omega⟩ ⟨y.val % 128, by omega⟩

theorem s_eq (n : Fin 32) (k : Fin 128) (g : Fin 8) (z : Fin 128) (p : Fin 4096) (y : Fin 1024) (hp : p.val = 128 * n.val + k.val)
    (hy : y.val = 128 * g.val + z.val) : A.s b p y = A.gate b n k g z := by
  unfold s
  congr 1 <;> exact Fin.ext (by simp only []; omega)

/-- Column `y` of head `h`, normalised and gated. -/
def head (p : Fin 4096) (h : Fin 4) (y : Fin 256) : EReal :=
  hnorm (fun z => A.of b p ⟨256 * h.val + z.val, by omega⟩ + A.ob b p ⟨256 * h.val + z.val, by omega⟩)
    (fun z => A.gn ⟨256 * h.val + z.val, by omega⟩) (fun z => A.rs b p ⟨256 * h.val + z.val, by omega⟩) y

/-- The same by column. -/
def o (p : Fin 4096) (y : Fin 1024) : EReal := A.head b p ⟨y.val / 256, by omega⟩ ⟨y.val % 256, by omega⟩

theorem o_eq (p : Fin 4096) (h : Fin 4) (z : Fin 256) (y : Fin 1024) (hy : y.val = 256 * h.val + z.val) : A.o b p y = A.head b p h z := by
  unfold o
  congr 1 <;> exact Fin.ext (by simp only []; omega)

/-- The two products, gated and added. -/
def mg (p : Fin 4096) (y : Fin 1024) : EReal :=
  A.ga b p y * (∑ z : Fin 1024, A.gu b p z * A.s b p z * A.wa z y) + A.gb b p y * ∑ z : Fin 1024, A.o b p z * A.wb z y

/-- The rows the mixing leaves. -/
def x1 (p : Fin 4096) (y : Fin 1024) : EReal := A.x b p y + A.g1 b y * ∑ z : Fin 1024, A.mg b p z * A.wo z y

/-- The same normalised. -/
def h2 (p : Fin 4096) (y : Fin 1024) : EReal := rnorm (A.x1 b p) A.n2 (A.sc b) (A.sh b) y

end Arr

end Cert.MixSpec

end
-- ==== Proof.Kern3.Point.lean ====
/- The mixing's payloads at an index, over the extended reals. -/
module

public import proofs.«01_k».proof.Proof.Kern3.Out
public import proofs.«01_k».proof.Proof.Mix.Spec
public import Idealize.ShloMosaic.Lib.Pointwise

@[expose] public section

set_option maxRecDepth 16384

noncomputable section

namespace Cert.Mix

open Idealize.ShloMosaic Idealize.ShloMosaic.TcCoe
open Cert.Kernel3Ideal Cert.Kernel3Ideal.Gen
open Cert.MixSpec

theorem pay2_apply (w v : Vec Ideal S1x128x128 .bf16) (b : Vec Ideal S128x128 .f32) (k y : Fin 128) :
    k0_pay2 w v b (ix2 k y) = ∑ q : Fin 128, w (ix3 0 k q) * v (ix3 0 q y) + b (ix2 k y) := by
  pointwise [k0_pay2]

theorem pay44_apply (of ob rs : Vec Ideal S1x512x256 .bf16) (g : Vec Ideal S1x256 .f32) (p : Fin 512) (y : Fin 256) :
    k0_pay44 of ob g rs (ix2 p y)
      = hnorm (fun z => of (ix3 0 p z) + ob (ix3 0 p z)) (fun z => g (ix2 0 z)) (fun z => rs (ix3 0 p z)) y := by
  pointwise [k0_pay44, hnorm]

theorem pay50_apply (o : Vec Ideal S512x1024 .bf16) (w : Vec Ideal S1024x1024 .bf16) (p : Fin 512) (y : Fin 1024) :
    k0_pay50 o w (ix2 p y) = ∑ z : Fin 1024, o (ix2 p z) * w (ix2 z y) := by
  pointwise [k0_pay50]

theorem pay51_apply (gu : Vec Ideal S1x512x1024 .bf16) (s : Vec Ideal S512x1024 .f32) (p : Fin 512) (y : Fin 1024) :
    k0_pay51 gu s (ix2 p y) = gu (ix3 0 p y) * s (ix2 p y) := by
  pointwise [k0_pay51]

theorem pay52_apply (o : Vec Ideal S512x1024 .bf16) (w : Vec Ideal S1024x1024 .bf16) (p : Fin 512) (y : Fin 1024) :
    k0_pay52 o w (ix2 p y) = ∑ z : Fin 1024, o (ix2 p z) * w (ix2 z y) := by
  pointwise [k0_pay52]

theorem pay53_apply (pb pa : FVec Ideal S512x1024 .f32) (ga gb : Vec Ideal S1x512x1024 .bf16) (p : Fin 512) (y : Fin 1024) :
    k0_pay53 pb pa ga gb (ix2 p y) = ga (ix3 0 p y) * pa (ix2 p y) + gb (ix3 0 p y) * pb (ix2 p y) := by
  pointwise [k0_pay53]

theorem pay54_apply (x : Vec Ideal S1x512x1024 .f32) (g1 : Vec Ideal S1x1x1024 .f32) (mg : Vec Ideal S512x1024 .bf16)
    (w : Vec Ideal S1024x1024 .bf16) (p : Fin 512) (y : Fin 1024) :
    k0_pay54 x g1 mg w (ix2 p y) = x (ix3 0 p y) + g1 (ix3 0 0 y) * ∑ z : Fin 1024, mg (ix2 p z) * w (ix2 z y) := by
  pointwise [k0_pay54]

theorem pay55_apply (x : Vec Ideal S1x512x1024 .f32) (g1 : Vec Ideal S1x1x1024 .f32) (mg : Vec Ideal S512x1024 .bf16)
    (w : Vec Ideal S1024x1024 .bf16) (p : Fin 512) (y : Fin 1024) :
    k0_pay55 x g1 mg w (ix3 0 p y) = k0_pay54 x g1 mg w (ix2 p y) := by
  unfold k0_pay55
  generalize k0_pay54 x g1 mg w = X
  pointwise

theorem pay1_apply (x : FVec Ideal S512x1024 .f32) (n2 : Vec Ideal S1x1024 .f32) (sh sc : Vec Ideal S1x1x1024 .f32) (p : Fin 512) (y : Fin 1024) :
    k0_pay1 x (k0_pay56 n2) (k0_pay57 sh) sc (ix3 0 p y)
      = rnorm (fun y => x (ix2 p y)) (fun y => n2 (ix2 0 y)) (fun y => sc (ix3 0 0 y)) (fun y => sh (ix3 0 0 y)) y := by
  pointwise [k0_pay1, k0_pay56, k0_pay57, rnorm]

/-! ## The rectangles, at an index -/

theorem rS_emb (n : Fin 4) (g : Fin 8) (k y : Fin 128) :
    (rS n g).emb (ix2 k y) = (ix2 ⟨128 * n.val + k.val, by omega⟩ ⟨128 * g.val + y.val, by omega⟩ : S512x1024.Idx) := by
  refine (rS n g).emb_eq_of_coords _ _ fun a => ?_
  fin_cases a <;> simp [rS]
theorem rV_emb (n : Fin 4) (g : Fin 8) (k y : Fin 128) :
    (rV n g).emb (ix3 0 k y) = (ix3 0 ⟨128 * n.val + k.val, by omega⟩ ⟨128 * g.val + y.val, by omega⟩ : S1x512x1024.Idx) := by
  refine (rV n g).emb_eq_of_coords _ _ fun a => ?_
  fin_cases a <;> simp [rV]
theorem rW_emb (g : Fin 8) (k q : Fin 128) : (rW g).emb (ix3 0 k q) = (ix3 g k q : S8x128x128.Idx) := by
  refine (rW g).emb_eq_of_coords _ _ fun a => ?_
  fin_cases a <;> simp [rW]
theorem rB_emb (g : Fin 8) (k y : Fin 128) : (rB g).emb (ix2 k y) = (ix2 k ⟨128 * g.val + y.val, by omega⟩ : S128x1024.Idx) := by
  refine (rB g).emb_eq_of_coords _ _ fun a => ?_
  fin_cases a <;> simp [rB]
theorem rK_emb (h : Fin 4) (p : Fin 512) (y : Fin 256) : (rK h).emb (ix2 p y) = (ix2 p ⟨256 * h.val + y.val, by omega⟩ : S512x1024.Idx) := by
  refine (rK h).emb_eq_of_coords _ _ fun a => ?_
  fin_cases a <;> simp [rK]
theorem rD_emb (h : Fin 4) (p : Fin 512) (y : Fin 256) : (rD h).emb (ix3 0 p y) = (ix3 0 p ⟨256 * h.val + y.val, by omega⟩ : S1x512x1024.Idx) := by
  refine (rD h).emb_eq_of_coords _ _ fun a => ?_
  fin_cases a <;> simp [rD]
theorem rN_emb (h : Fin 4) (y : Fin 256) : (rN h).emb (ix2 0 y) = (ix2 0 ⟨256 * h.val + y.val, by omega⟩ : S1x1024.Idx) := by
  refine (rN h).emb_eq_of_coords _ _ fun a => ?_
  fin_cases a <;> simp [rN]
theorem rU_apply (w : Vec Ideal S1024x1152 .bf16) (z y : Fin 1024) : part rU w (ix2 z y) = w (ix2 z ⟨y.val, by omega⟩) :=
  congrArg w (rU.emb_eq_of_coords _ _ fun a => by fin_cases a <;> simp [rU])

/-! ## The scratch arrays, at an index -/

theorem sV_apply (vn : Vec Ideal S1x512x1024 .bf16) (ws : Vec Ideal S8x128x128 .bf16) (bs : Vec Ideal S128x1024 .f32)
    (n : Fin 4) (g : Fin 8) (k y : Fin 128) :
    sV vn ws bs (ix2 ⟨128 * n.val + k.val, by omega⟩ ⟨128 * g.val + y.val, by omega⟩)
      = ∑ q : Fin 128, ws (ix3 g k q) * vn (ix3 0 ⟨128 * n.val + q.val, by omega⟩ ⟨128 * g.val + y.val, by omega⟩)
        + bs (ix2 k ⟨128 * g.val + y.val, by omega⟩) := by
  rw [← rS_emb n g k y]
  refine (canon_sL (gt vn ws bs) n g (ix2 k y) 32 (by omega) le_rfl).trans ((pay2_apply _ _ _ k y).trans ?_)
  refine congr (congrArg HAdd.hAdd (Finset.sum_congr rfl fun q _ => ?_)) (congrArg bs (rB_emb g k y))
  exact congr (congrArg HMul.hMul (congrArg ws (rW_emb g k q))) (congrArg vn (rV_emb n g q y))

theorem kV_apply (of ob rs : Vec Ideal S1x512x1024 .bf16) (gn : Vec Ideal S1x1024 .f32) (p : Fin 512) (h : Fin 4) (y : Fin 256) :
    kV of ob rs gn (ix2 p ⟨256 * h.val + y.val, by omega⟩)
      = hnorm (fun z => of (ix3 0 p ⟨256 * h.val + z.val, by omega⟩) + ob (ix3 0 p ⟨256 * h.val + z.val, by omega⟩))
          (fun z => gn (ix2 0 ⟨256 * h.val + z.val, by omega⟩)) (fun z => rs (ix3 0 p ⟨256 * h.val + z.val, by omega⟩)) y := by
  rw [← rK_emb h p y]
  refine (canon_kL (hd of ob rs gn) h (ix2 p y) 4 h.isLt le_rfl).trans ((pay44_apply _ _ _ _ p y).trans ?_)
  congr 1
  · funext z
    exact congr (congrArg HAdd.hAdd (congrArg of (rD_emb h p z))) (congrArg ob (rD_emb h p z))
  · funext z
    exact congrArg gn (rN_emb h z)
  · funext z
    exact congrArg rs (rD_emb h p z)

theorem mgV_apply (gu vn of ob rs ga gb : Vec Ideal S1x512x1024 .bf16) (ws : Vec Ideal S8x128x128 .bf16) (bs : Vec Ideal S128x1024 .f32)
    (gn : Vec Ideal S1x1024 .f32) (wa wb : Vec Ideal S1024x1152 .bf16) (p : Fin 512) (y : Fin 1024) :
    mgV gu vn of ob rs ga gb ws bs gn wa wb (ix2 p y)
      = ga (ix3 0 p y) * (∑ z : Fin 1024, gu (ix3 0 p z) * sV vn ws bs (ix2 p z) * wa (ix2 z ⟨y.val, by omega⟩))
        + gb (ix3 0 p y) * ∑ z : Fin 1024, kV of ob rs gn (ix2 p z) * wb (ix2 z ⟨y.val, by omega⟩) := by
  unfold mgV
  rw [pay53_apply, pay52_apply, pay50_apply]
  simp only [pay51_apply, rU_apply]

end Cert.Mix

end
-- ==== Proof.Kern3.Points.lean ====
/- The grid's thirty-two points: the blocks each leaves are the mixing's results at the block's rows, and so the two result arrays hold
   the mixing's results. -/
module

public import proofs.«01_k».proof.Proof.Kern3.Blocks
public import proofs.«01_k».proof.Proof.Kern3.Point

@[expose] public section

set_option maxRecDepth 16384

noncomputable section

namespace Cert.Mix

open Idealize.ShloMosaic Idealize.ShloMosaic.TcCoe
open Cert.Kernel3Ideal Cert.Kernel3Ideal.Gen
open Cert.MixSpec

variable (m : (ℓ : Loc nD τ sig) → Buf (Elt Ideal) ℓ) (c : Dev nD)

/-- The kernel's arguments, as the mixing's arrays. -/
def arrs : Arr where
  x b p y := (m ((c : Thread nD τ).loc main_arg0) : S4x4096x1024.Idx → EReal) (ix3 b p y)
  gu b p y := (m ((c : Thread nD τ).loc main_arg1) : S4x4096x1024.Idx → EReal) (ix3 b p y)
  vn b p y := (m ((c : Thread nD τ).loc main_arg2) : S4x4096x1024.Idx → EReal) (ix3 b p y)
  of b p y := (m ((c : Thread nD τ).loc main_arg3) : S4x4096x1024.Idx → EReal) (ix3 b p y)
  ob b p y := (m ((c : Thread nD τ).loc main_arg4) : S4x4096x1024.Idx → EReal) (ix3 b p y)
  rs b p y := (m ((c : Thread nD τ).loc main_arg5) : S4x4096x1024.Idx → EReal) (ix3 b p y)
  ga b p y := (m ((c : Thread nD τ).loc main_arg6) : S4x4096x1024.Idx → EReal) (ix3 b p y)
  gb b p y := (m ((c : Thread nD τ).loc main_arg7) : S4x4096x1024.Idx → EReal) (ix3 b p y)
  sw g k q := (m ((c : Thread nD τ).loc main_arg8) : S8x128x128.Idx → EReal) (ix3 g k q)
  sb g k := (m ((c : Thread nD τ).loc main_arg9) : S8x128.Idx → EReal) (ix2 g k)
  gn y := (m ((c : Thread nD τ).loc main_arg10) : S1024.Idx → EReal) (ix1 y)
  wa z y := (m ((c : Thread nD τ).loc main_arg11) : S1024x1024.Idx → EReal) (ix2 z y)
  wb z y := (m ((c : Thread nD τ).loc main_arg12) : S1024x1024.Idx → EReal) (ix2 z y)
  wo z y := (m ((c : Thread nD τ).loc main_arg13) : S1024x1024.Idx → EReal) (ix2 z y)
  g1 b y := (m ((c : Thread nD τ).loc main_arg14) : S4x1x1024.Idx → EReal) (ix3 b 0 y)
  n2 y := (m ((c : Thread nD τ).loc main_arg15) : S1024.Idx → EReal) (ix1 y)
  sh b y := (m ((c : Thread nD τ).loc main_arg16) : S4x1x1024.Idx → EReal) (ix3 b 0 y)
  sc b y := (m ((c : Thread nD τ).loc main_arg17) : S4x1x1024.Idx → EReal) (ix3 b 0 y)

/-- A row of a block, among all rows. -/
abbrev row (i : Fin 8) (p : Fin 512) : Fin 4096 := ⟨512 * i.val + p.val, by omega⟩

/-! ## The blocks that are the same at every point -/

section

variable (t : Fin cfg0.N)

theorem in8 (g : Fin 8) (k q : Fin 128) : (iblk m c 8 t : S8x128x128.Idx → EReal) (ix3 g k q) = (arrs m c).sw g k q :=
  (blk8 m c t g k q).trans (V_8 m c g k q)
theorem in9 (g : Fin 8) (k y : Fin 128) : (iblk m c 9 t : S128x1024.Idx → EReal) (ix2 k ⟨128 * g.val + y.val, by omega⟩) = (arrs m c).sb g k :=
  (blk9 m c t k _).trans (V_bs m c g k y)
theorem in10 (y : Fin 1024) : (iblk m c 10 t : S1x1024.Idx → EReal) (ix2 0 y) = (arrs m c).gn y :=
  (blk10 m c t y).trans (V_10 m c y)
theorem in11 (z y : Fin 1024) : (iblk m c 11 t : S1024x1152.Idx → EReal) (ix2 z ⟨y.val, by omega⟩) = (arrs m c).wa z y :=
  (blk11 m c t z _).trans (V_11 m c z y)
theorem in12 (z y : Fin 1024) : (iblk m c 12 t : S1024x1152.Idx → EReal) (ix2 z ⟨y.val, by omega⟩) = (arrs m c).wb z y :=
  (blk12 m c t z _).trans (V_12 m c z y)
theorem in13 (z y : Fin 1024) : (iblk m c 13 t : S1024x1152.Idx → EReal) (ix2 z ⟨y.val, by omega⟩) = (arrs m c).wo z y :=
  (blk13 m c t z _).trans (V_13 m c z y)
theorem in15 (y : Fin 1024) : (iblk m c 15 t : S1x1024.Idx → EReal) (ix2 0 y) = (arrs m c).n2 y :=
  (blk15 m c t y).trans (V_15 m c y)

end

section point

variable (t : Fin cfg0.N) (b : Fin 4) (i : Fin 8) (ht : t.val = 8 * b.val + i.val) (p : Fin 512)

/-! ## The point's blocks, as the arrays' rows -/

section
include ht
theorem in0 (y : Fin 1024) : (iblk m c 0 t : S1x512x1024.Idx → EReal) (ix3 0 p y) = (arrs m c).x b (row i p) y :=
  (blk0 m c t b i ht p y).trans (V_0 m c b _ y)
theorem in1 (y : Fin 1024) : (iblk m c 1 t : S1x512x1024.Idx → EReal) (ix3 0 p y) = (arrs m c).gu b (row i p) y :=
  (blk1 m c t b i ht p y).trans (V_1 m c b _ y)
theorem in2 (y : Fin 1024) : (iblk m c 2 t : S1x512x1024.Idx → EReal) (ix3 0 p y) = (arrs m c).vn b (row i p) y :=
  (blk2 m c t b i ht p y).trans (V_2 m c b _ y)
theorem in3 (y : Fin 1024) : (iblk m c 3 t : S1x512x1024.Idx → EReal) (ix3 0 p y) = (arrs m c).of b (row i p) y :=
  (blk3 m c t b i ht p y).trans (V_3 m c b _ y)
theorem in4 (y : Fin 1024) : (iblk m c 4 t : S1x512x1024.Idx → EReal) (ix3 0 p y) = (arrs m c).ob b (row i p) y :=
  (blk4 m c t b i ht p y).trans (V_4 m c b _ y)
theorem in5 (y : Fin 1024) : (iblk m c 5 t : S1x512x1024.Idx → EReal) (ix3 0 p y) = (arrs m c).rs b (row i p) y :=
  (blk5 m c t b i ht p y).trans (V_5 m c b _ y)
theorem in6 (y : Fin 1024) : (iblk m c 6 t : S1x512x1024.Idx → EReal) (ix3 0 p y) = (arrs m c).ga b (row i p) y :=
  (blk6 m c t b i ht p y).trans (V_6 m c b _ y)
theorem in7 (y : Fin 1024) : (iblk m c 7 t : S1x512x1024.Idx → EReal) (ix3 0 p y) = (arrs m c).gb b (row i p) y :=
  (blk7 m c t b i ht p y).trans (V_7 m c b _ y)
theorem in14 (y : Fin 1024) : (iblk m c 14 t : S1x1x1024.Idx → EReal) (ix3 0 0 y) = (arrs m c).g1 b y :=
  (blk14 m c t b i ht y).trans (V_14 m c b y)
theorem in16 (y : Fin 1024) : (iblk m c 16 t : S1x1x1024.Idx → EReal) (ix3 0 0 y) = (arrs m c).sh b y :=
  (blk16 m c t b i ht y).trans (V_16 m c b y)
theorem in17 (y : Fin 1024) : (iblk m c 17 t : S1x1x1024.Idx → EReal) (ix3 0 0 y) = (arrs m c).sc b y :=
  (blk17 m c t b i ht y).trans (V_17 m c b y)
end

/-! ## What the point leaves -/

include ht

/-- The products along the positions: a chunk of the block is a chunk of the array. -/
theorem s_at (n : Fin 4) (g : Fin 8) (k y : Fin 128) :
    sV (iblk m c 2 t) (iblk m c 8 t) (iblk m c 9 t) (ix2 ⟨128 * n.val + k.val, by omega⟩ ⟨128 * g.val + y.val, by omega⟩)
      = (arrs m c).gate b ⟨4 * i.val + n.val, by omega⟩ k g y := by
  refine (sV_apply _ _ _ n g k y).trans ?_
  unfold Arr.gate
  refine congr (congrArg HAdd.hAdd (Finset.sum_congr rfl fun q _ => ?_)) (in9 m c t g k y)
  refine congr (congrArg HMul.hMul (in8 m c t g k q)) ((in2 m c t b i ht _ _).trans ?_)
  refine congrArg (fun r => (arrs m c).vn b r _) (Fin.ext ?_)
  show 512 * i.val + (128 * n.val + q.val) = 128 * (4 * i.val + n.val) + q.val
  omega

theorem s_row (y : Fin 1024) : sV (iblk m c 2 t) (iblk m c 8 t) (iblk m c 9 t) (ix2 p y) = (arrs m c).s b (row i p) y := by
  have hp : p = (⟨128 * (p.val / 128) + p.val % 128, by omega⟩ : Fin 512) := Fin.ext (by simp only []; omega)
  have hy : y = (⟨128 * (y.val / 128) + y.val % 128, by omega⟩ : Fin 1024) := Fin.ext (by simp only []; omega)
  have h := s_at m c t b i ht ⟨p.val / 128, by omega⟩ ⟨y.val / 128, by omega⟩ ⟨p.val % 128, by omega⟩ ⟨y.val % 128, by omega⟩
  refine Eq.trans ?_ (h.trans ?_)
  · exact congrArg (sV (iblk m c 2 t) (iblk m c 8 t) (iblk m c 9 t)) (congr (congrArg ix2 hp) hy)
  · refine ((arrs m c).s_eq b _ _ _ _ (row i p) y ?_ ?_).symm
    · show 512 * i.val + p.val = 128 * (4 * i.val + p.val / 128) + p.val % 128
      omega
    · show y.val = 128 * (y.val / 128) + y.val % 128
      omega

theorem o_row (y : Fin 1024) : kV (iblk m c 3 t) (iblk m c 4 t) (iblk m c 5 t) (iblk m c 10 t) (ix2 p y) = (arrs m c).o b (row i p) y := by
  have hy : y = (⟨256 * (y.val / 256) + y.val % 256, by omega⟩ : Fin 1024) := Fin.ext (by simp only []; omega)
  have h := kV_apply (iblk m c 3 t) (iblk m c 4 t) (iblk m c 5 t) (iblk m c 10 t) p ⟨y.val / 256, by omega⟩ ⟨y.val % 256, by omega⟩
  refine Eq.trans ?_ (h.trans ?_)
  · exact congrArg (fun y => kV (iblk m c 3 t) (iblk m c 4 t) (iblk m c 5 t) (iblk m c 10 t) (ix2 p y)) hy
  · refine Eq.trans ?_ ((arrs m c).o_eq b (row i p) ⟨y.val / 256, by omega⟩ ⟨y.val % 256, by omega⟩ y ?_).symm
    · unfold Arr.head
      congr 1
      · funext z
        exact congr (congrArg HAdd.hAdd (in3 m c t b i ht p _)) (in4 m c t b i ht p _)
      · funext z
        exact in10 m c t _
      · funext z
        exact in5 m c t b i ht p _
    · show y.val = 256 * (y.val / 256) + y.val % 256
      omega

/-- The two branches added, at the point. -/
abbrev mgP : Vec Ideal S512x1024 .bf16 := mgV (iblk m c 1 t) (iblk m c 2 t) (iblk m c 3 t) (iblk m c 4 t) (iblk m c 5 t) (iblk m c 6 t)
  (iblk m c 7 t) (iblk m c 8 t) (iblk m c 9 t) (iblk m c 10 t) (iblk m c 11 t) (iblk m c 12 t)

theorem mg_row (y : Fin 1024) : mgP m c t (ix2 p y) = (arrs m c).mg b (row i p) y := by
  refine (mgV_apply _ _ _ _ _ _ _ _ _ _ _ _ p y).trans ?_
  unfold Arr.mg
  refine congr (congrArg HAdd.hAdd ?_) ?_
  · refine congr (congrArg HMul.hMul (in6 m c t b i ht p y)) (Finset.sum_congr rfl fun z _ => ?_)
    exact congr (congrArg HMul.hMul (congr (congrArg HMul.hMul (in1 m c t b i ht p z)) (s_row m c t b i ht p z))) (in11 m c t z y)
  · refine congr (congrArg HMul.hMul (in7 m c t b i ht p y)) (Finset.sum_congr rfl fun z _ => ?_)
    exact congr (congrArg HMul.hMul (o_row m c t b i ht p z)) (in12 m c t z y)

theorem x1_row (y : Fin 1024) : k0_pay54 (iblk m c 0 t) (iblk m c 14 t) (mgP m c t) (part rU (iblk m c 13 t)) (ix2 p y)
    = (arrs m c).x1 b (row i p) y := by
  refine (pay54_apply _ _ _ _ p y).trans ?_
  unfold Arr.x1
  refine congr (congrArg HAdd.hAdd (in0 m c t b i ht p y)) (congr (congrArg HMul.hMul (in14 m c t b i ht y)) (Finset.sum_congr rfl fun z _ => ?_))
  exact congr (congrArg HMul.hMul (mg_row m c t b i ht p z)) ((rU_apply _ z y).trans (in13 m c t z y))

theorem outs18 (y : Fin 1024) : ((outsAt0 m c t).1 : Vec Ideal S1x512x1024 .f32) (ix3 0 p y) = (arrs m c).x1 b (row i p) y := by
  unfold outsAt0
  dsimp only
  rw [out18_eq]
  exact (pay55_apply _ _ _ _ p y).trans (x1_row m c t b i ht p y)

theorem outs19 (y : Fin 1024) : ((outsAt0 m c t).2 : Vec Ideal S1x512x1024 .bf16) (ix3 0 p y) = (arrs m c).h2 b (row i p) y := by
  have e0 : (fun y => k0_pay54 (iblk m c 0 t) (iblk m c 14 t) (mgP m c t) (part rU (iblk m c 13 t)) (ix2 p y)) = (arrs m c).x1 b (row i p) :=
    funext fun y => x1_row m c t b i ht p y
  have e1 : (fun y => (iblk m c 15 t : S1x1024.Idx → EReal) (ix2 0 y)) = (arrs m c).n2 := funext fun y => in15 m c t y
  have e2 : (fun y => (iblk m c 17 t : S1x1x1024.Idx → EReal) (ix3 0 0 y)) = (arrs m c).sc b := funext fun y => in17 m c t b i ht y
  have e3 : (fun y => (iblk m c 16 t : S1x1x1024.Idx → EReal) (ix3 0 0 y)) = (arrs m c).sh b := funext fun y => in16 m c t b i ht y
  unfold outsAt0
  dsimp only
  rw [out19_eq]
  refine (pay1_apply _ _ _ _ p y).trans ?_
  rw [e0, e1, e2, e3]
  rfl

end point

/-! ## The arrays -/

theorem final18 : (dats m 0 c).arrAt 18 cfg0.N = (fun j : S4x4096x1024.Idx => (arrs m c).x1 (j 0) (j 1) (j 2)) := by
  refine (dats m 0 c).arrAt_eq_of_covers 18 _ (by decide +kernel) fun t hf y => ?_
  blk_simp
  rw [after0_18]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs18 m c t ⟨t.val / 8, by omega⟩ ⟨t.val % 8, by omega⟩ ht p q).trans ?_
  refine Eq.trans ?_ (congrArg (fun j : S4x4096x1024.Idx => (arrs m c).x1 (j 0) (j 1) (j 2))
    (emb18 t ⟨t.val / 8, by omega⟩ ⟨t.val % 8, by omega⟩ ht p q)).symm
  rfl

theorem final19 : (dats m 0 c).arrAt 19 cfg0.N = (fun j : S4x4096x1024.Idx => (arrs m c).h2 (j 0) (j 1) (j 2)) := by
  refine (dats m 0 c).arrAt_eq_of_covers 19 _ (by decide +kernel) fun t hf y => ?_
  blk_simp
  rw [after0_19]
  obtain ⟨a, p, q, rfl⟩ : ∃ (a : Fin 1) (p : Fin 512) (q : Fin 1024), y = (ix3 a p q : S1x512x1024.Idx) := ⟨y 0, y 1, y 2, eq_ix3 y⟩
  obtain rfl : a = 0 := Subsingleton.elim _ _
  have htN : t.val < 32 := t.isLt
  have ht : t.val = 8 * (⟨t.val / 8, by omega⟩ : Fin 4).val + (⟨t.val % 8, by omega⟩ : Fin 8).val := by simp only []; omega
  refine (outs19 m c t ⟨t.val / 8, by omega⟩ ⟨t.val % 8, by omega⟩ ht p q).trans ?_
  refine Eq.trans ?_ (congrArg (fun j : S4x4096x1024.Idx => (arrs m c).h2 (j 0) (j 1) (j 2))
    (emb19 t ⟨t.val / 8, by omega⟩ ⟨t.val % 8, by omega⟩ ht p q)).symm
  rfl

end Cert.Mix

end
-- ==== Proof.Ref3.Point.lean ====
/- The reference's values at an index, over the extended reals: the product along the positions, the heads, the branches added, the rows it
   leaves and those rows normalised. -/
module

public import proofs.«01_k».proof.Proof.Gen.Reference3Ideal.Run
public import proofs.«01_k».proof.Proof.Mix.Spec
public import Idealize.ShloMosaic.Lib.IdealHost

@[expose] public section

set_option maxRecDepth 16384

noncomputable section

namespace Cert.MixRef

open Idealize.ShloMosaic Idealize.ShloMosaic.TcCoe
open Cert.Reference3Ideal Cert.Reference3Ideal.Gen
open Cert.MixSpec

/-! ## Rows as chunks of positions and groups of columns, and as heads -/

theorem splitS_at (X : S4x4096x1024.Idx → EReal) (b : Fin 4) (n : Fin 32) (q : Fin 128) (g : Fin 8) (y : Fin 128) :
    shapeCast S4x32x128x8x128 X shapeCasts_S4x4096x1024_S4x32x128x8x128 (ix5 b n q g y)
      = X (ix3 b ⟨128 * n.val + q.val, by omega⟩ ⟨128 * g.val + y.val, by omega⟩) := by
  refine shapeCast_apply X _ _ _ ?_
  refine (rowMajor_val3 _ _ _ rfl rfl).trans (Eq.trans ?_ (rowMajor_val5 _ _ _ _ _ rfl rfl rfl rfl).symm)
  show b.val * 4194304 + (128 * n.val + q.val) * 1024 + (128 * g.val + y.val)
    = b.val * 4194304 + n.val * 131072 + q.val * 1024 + g.val * 128 + y.val
  omega

theorem mergeS_at (X : S4x32x128x8x128.Idx → EReal) (b : Fin 4) (p : Fin 4096) (y : Fin 1024) :
    shapeCast S4x4096x1024 X shapeCasts_S4x32x128x8x128_S4x4096x1024 (ix3 b p y)
      = X (ix5 b ⟨p.val / 128, by omega⟩ ⟨p.val % 128, by omega⟩ ⟨y.val / 128, by omega⟩ ⟨y.val % 128, by omega⟩) := by
  refine shapeCast_apply X _ _ _ ?_
  refine (rowMajor_val5 _ _ _ _ _ rfl rfl rfl rfl).trans (Eq.trans ?_ (rowMajor_val3 _ _ _ rfl rfl).symm)
  show b.val * 4194304 + p.val / 128 * 131072 + p.val % 128 * 1024 + y.val / 128 * 128 + y.val % 128 = b.val * 4194304 + p.val * 1024 + y.val
  omega

theorem splitH_at (X : S4x4096x1024.Idx → EReal) (b : Fin 4) (p : Fin 4096) (h : Fin 4) (y : Fin 256) :
    shapeCast S4x4096x4x256 X shapeCasts_S4x4096x1024_S4x4096x4x256 (ix4 b p h y) = X (ix3 b p ⟨256 * h.val + y.val, by omega⟩) := by
  refine shapeCast_apply X _ _ _ ?_
  refine (rowMajor_val3 _ _ _ rfl rfl).trans (Eq.trans ?_ (rowMajor_val4 _ _ _ _ rfl rfl rfl).symm)
  show b.val * 4194304 + p.val * 1024 + (256 * h.val + y.val) = b.val * 4194304 + p.val * 1024 + h.val * 256 + y.val
  omega

theorem mergeH_at (X : S4x4096x4x256.Idx → EReal) (b : Fin 4) (p : Fin 4096) (y : Fin 1024) :
    shapeCast S4x4096x1024 X shapeCasts_S4x4096x4x256_S4x4096x1024 (ix3 b p y) = X (ix4 b p ⟨y.val / 256, by omega⟩ ⟨y.val % 256, by omega⟩) := by
  refine shapeCast_apply X _ _ _ ?_
  refine (rowMajor_val4 _ _ _ _ rfl rfl rfl).trans (Eq.trans ?_ (rowMajor_val3 _ _ _ rfl rfl).symm)
  show b.val * 4194304 + p.val * 1024 + y.val / 256 * 256 + y.val % 256 = b.val * 4194304 + p.val * 1024 + y.val
  omega

section

variable (a0 : FVec Ideal S4x4096x1024 .f32)
  (a1 : FVec Ideal S4x4096x1024 .bf16)
  (a2 : FVec Ideal S4x4096x1024 .bf16)
  (a3 : FVec Ideal S4x4096x1024 .bf16)
  (a4 : FVec Ideal S4x4096x1024 .bf16)
  (a5 : FVec Ideal S4x4096x1024 .bf16)
  (a6 : FVec Ideal S4x4096x1024 .bf16)
  (a7 : FVec Ideal S4x4096x1024 .bf16)
  (a8 : FVec Ideal S8x128x128 .f32)
  (a9 : FVec Ideal S8x128 .f32)
  (a10 : FVec Ideal S1024 .f32)
  (a11 : FVec Ideal S1024x1024 .f32)
  (a12 : FVec Ideal S1024x1024 .f32)
  (a13 : FVec Ideal S1024x1024 .f32)
  (a14 : FVec Ideal S4x1x1024 .f32)
  (a15 : FVec Ideal S1024 .f32)
  (a16 : FVec Ideal S4x1x1024 .f32)
  (a17 : FVec Ideal S4x1x1024 .f32)

/-- The arguments, as the mixing's arrays. -/
def arrs : Arr where
  x b p y := a0 (ix3 b p y)
  gu b p y := a1 (ix3 b p y)
  vn b p y := a2 (ix3 b p y)
  of b p y := a3 (ix3 b p y)
  ob b p y := a4 (ix3 b p y)
  rs b p y := a5 (ix3 b p y)
  ga b p y := a6 (ix3 b p y)
  gb b p y := a7 (ix3 b p y)
  sw g p q := a8 (ix3 g p q)
  sb g p := a9 (ix2 g p)
  gn y := a10 (ix1 y)
  wa z y := a11 (ix2 z y)
  wb z y := a12 (ix2 z y)
  wo z y := a13 (ix2 z y)
  g1 b y := a14 (ix3 b 0 y)
  n2 y := a15 (ix1 y)
  sh b y := a16 (ix3 b 0 y)
  sc b y := a17 (ix3 b 0 y)

/-- The product along the positions, of the values by chunk and group. -/
def gE (v : FVec Ideal S4x32x128x8x128 .f32) : FVec Ideal S4x32x128x8x128 .f32 :=
  addf (transpose S4x32x128x8x128 [1, 2, 4, 0, 3] (Host.dotGeneral dot_S4x32x128x8x128_S8x128x128_S8x4x32x128x128_2_2_014_1_3_0 none v a8) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] a9 transposes_S8x128_S128x8_1_0))))
/-- The heads normalised. -/
def hE (o : FVec Ideal S4x4096x4x256 .f32) : FVec Ideal S4x4096x4x256 .f32 :=
  mulf o (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))
/-- The first branch. -/
def aE : FVec Ideal S4x4096x1024 .f32 :=
  mulf (extf .f32 a1 bitsLt_bf16_f32) (shapeCast _ (gE a8 a9 (shapeCast _ (extf .f32 a2 bitsLt_bf16_f32) shapeCasts_S4x4096x1024_S4x32x128x8x128)) shapeCasts_S4x32x128x8x128_S4x4096x1024)
/-- The second branch. -/
def bE : FVec Ideal S4x4096x1024 .f32 :=
  mulf (mulf (shapeCast _ (hE (shapeCast _ (addf (extf .f32 a3 bitsLt_bf16_f32) (extf .f32 a4 bitsLt_bf16_f32)) shapeCasts_S4x4096x1024_S4x4096x4x256)) shapeCasts_S4x4096x4x256_S4x4096x1024) (broadcastInDim S4x4096x1024 ![0, 1, 2] bcast_S1x1x1024_S4x4096x1024_0_1_2 (broadcastInDim S1x1x1024 ![2] bcast_S1024_S1x1x1024_2 a10))) (extf .f32 a5 bitsLt_bf16_f32)
/-- The branches' products, gated and added. -/
def mE (A B : FVec Ideal S4x4096x1024 .f32) : FVec Ideal S4x4096x1024 .f32 :=
  addf (mulf (extf .f32 a6 bitsLt_bf16_f32) (Host.dotGeneral dot_S4x4096x1024_S1024x1024_S4x4096x1024_2_0_01_1_n_n none A a11)) (mulf (extf .f32 a7 bitsLt_bf16_f32) (Host.dotGeneral dot_S4x4096x1024_S1024x1024_S4x4096x1024_2_0_01_1_n_n none B a12))
/-- The rows left. -/
def xE (M : FVec Ideal S4x4096x1024 .f32) : FVec Ideal S4x4096x1024 .f32 :=
  addf a0 (mulf (broadcastInDim S4x4096x1024 ![0, 1, 2] bcast_S4x1x1024_S4x4096x1024_0_1_2 a14) (Host.dotGeneral dot_S4x4096x1024_S1024x1024_S4x4096x1024_2_0_01_1_n_n none M a13))
/-- The rows normalised. -/
def nE (x : FVec Ideal S4x4096x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a15))) (broadcastInDim S4x4096x1024 ![0, 1, 2] bcast_S4x1x1024_S4x4096x1024_0_1_2 (addf (broadcastInDim S4x1x1024 ![] bcast_S_S4x1x1024 (constant S_ .f32 0x3F800000#32)) a17))) (broadcastInDim S4x4096x1024 ![0, 1, 2] bcast_S4x1x1024_S4x4096x1024_0_1_2 a16)

variable (b : Fin 4) (p : Fin 4096) (y : Fin 1024)

theorem gE_at (v : FVec Ideal S4x32x128x8x128 .f32) (n : Fin 32) (k : Fin 128) (g : Fin 8) (z : Fin 128) : gE a8 a9 v (ix5 b n k g z)
    = ∑ q : Fin 128, a8 (ix3 g k q) * v (ix5 b n q g z) + a9 (ix2 g k) := by
  refine Eq.trans ?_ (congrArg₂ (· + ·) (Finset.sum_congr rfl fun q _ => mul_comm _ _) rfl)
  pointwise [gE]

theorem hE_at (o : FVec Ideal S4x4096x4x256 .f32) (h : Fin 4) (z : Fin 256) : hE o (ix4 b p h z)
    = o (ix4 b p h z) * Ideal.rsqrt (Ideal.div (∑ w, o (ix4 b p h w) * o (ix4 b p h w)) hwidth + eps) := by
  pointwise [hE]

theorem nE_at (x : FVec Ideal S4x4096x1024 .f32) : nE a15 a16 a17 x (ix3 b p y)
    = rnorm (fun z => x (ix3 b p z)) (fun z => a15 (ix1 z)) (fun z => a17 (ix3 b 0 z)) (fun z => a16 (ix3 b 0 z)) y := by
  pointwise [nE, rnorm]

theorem mE_at (A B : FVec Ideal S4x4096x1024 .f32) : mE a6 a7 a11 a12 A B (ix3 b p y)
    = a6 (ix3 b p y) * (∑ z, A (ix3 b p z) * a11 (ix2 z y)) + a7 (ix3 b p y) * ∑ z, B (ix3 b p z) * a12 (ix2 z y) := by
  pointwise [mE]

theorem xE_at (M : FVec Ideal S4x4096x1024 .f32) : xE a0 a13 a14 M (ix3 b p y) = a0 (ix3 b p y) + a14 (ix3 b 0 y) * ∑ z, M (ix3 b p z) * a13 (ix2 z y) := by
  pointwise [xE]

theorem aE_at : aE a1 a2 a8 a9 (ix3 b p y) = a1 (ix3 b p y) * (arrs a0 a1 a2 a3 a4 a5 a6 a7 a8 a9 a10 a11 a12 a13 a14 a15 a16 a17).s b p y := by
  refine congrArg (a1 (ix3 b p y) * ·) ((mergeS_at _ b p y).trans ((gE_at a8 a9 b _ _ _ _ _).trans ?_))
  unfold Arr.s Arr.gate
  refine congrArg₂ (· + ·) (Finset.sum_congr rfl fun q _ => congrArg _ ?_) rfl
  exact splitS_at _ b _ q _ _

theorem bE_at : bE a3 a4 a5 a10 (ix3 b p y) = (arrs a0 a1 a2 a3 a4 a5 a6 a7 a8 a9 a10 a11 a12 a13 a14 a15 a16 a17).o b p y := by
  have e : (⟨256 * (y.val / 256) + y.val % 256, by omega⟩ : Fin 1024) = y := Fin.ext (by simp only []; omega)
  unfold Arr.o Arr.head hnorm
  refine Eq.trans (b := hE (shapeCast _ (addf (extf .f32 a3 bitsLt_bf16_f32) (extf .f32 a4 bitsLt_bf16_f32)) shapeCasts_S4x4096x1024_S4x4096x4x256) (ix4 b p ⟨y.val / 256, by omega⟩ ⟨y.val % 256, by omega⟩)
    * a10 (ix1 y) * a5 (ix3 b p y)) ?_ ?_
  · rw [← mergeH_at (hE _) b p y]
    unfold bE
    generalize shapeCast S4x4096x1024 _ shapeCasts_S4x4096x4x256_S4x4096x1024 = w
    pointwise
  · rw [hE_at]
    simp only [splitH_at]
    simp only [e]
    rfl

/-- The branches added. -/
abbrev mR : FVec Ideal S4x4096x1024 .f32 := mE a6 a7 a11 a12 (aE a1 a2 a8 a9) (bE a3 a4 a5 a10)
theorem mR_at : mR a1 a2 a3 a4 a5 a6 a7 a8 a9 a10 a11 a12 (ix3 b p y) = (arrs a0 a1 a2 a3 a4 a5 a6 a7 a8 a9 a10 a11 a12 a13 a14 a15 a16 a17).mg b p y := by
  refine (mE_at ..).trans ?_
  unfold Arr.mg
  refine congrArg₂ (· + ·) (congrArg _ (Finset.sum_congr rfl fun z _ => ?_)) (congrArg _ (Finset.sum_congr rfl fun z _ => ?_))
  · rw [aE_at a0 a1 a2 a3 a4 a5 a6 a7 a8 a9 a10 a11 a12 a13 a14 a15 a16 a17]
    rfl
  · rw [bE_at a0 a1 a2 a3 a4 a5 a6 a7 a8 a9 a10 a11 a12 a13 a14 a15 a16 a17]
    rfl

/-- Result 0. -/
abbrev r0 : FVec Ideal S4x4096x1024 .f32 := xE a0 a13 a14 (mR a1 a2 a3 a4 a5 a6 a7 a8 a9 a10 a11 a12)
theorem r0_at : r0 a0 a1 a2 a3 a4 a5 a6 a7 a8 a9 a10 a11 a12 a13 a14 (ix3 b p y) = (arrs a0 a1 a2 a3 a4 a5 a6 a7 a8 a9 a10 a11 a12 a13 a14 a15 a16 a17).x1 b p y := by
  refine (xE_at ..).trans ?_
  unfold Arr.x1
  refine congrArg₂ (· + ·) rfl (congrArg _ (Finset.sum_congr rfl fun z _ => ?_))
  rw [mR_at a0 a1 a2 a3 a4 a5 a6 a7 a8 a9 a10 a11 a12 a13 a14 a15 a16 a17]
  rfl
theorem r0_eq : r0 a0 a1 a2 a3 a4 a5 a6 a7 a8 a9 a10 a11 a12 a13 a14 = (fun j : S4x4096x1024.Idx => (arrs a0 a1 a2 a3 a4 a5 a6 a7 a8 a9 a10 a11 a12 a13 a14 a15 a16 a17).x1 (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  exact r0_at ..

/-- A narrowing changes nothing over the extended reals. -/
theorem narrow (x : FVec Ideal S4x4096x1024 .f32) (j : S4x4096x1024.Idx) : truncf .bf16 x bitsLt_bf16_f32 j = x j := rfl

/-- Result 1. -/
abbrev r1 : FVec Ideal S4x4096x1024 .bf16 := truncf .bf16 (nE a15 a16 a17 (r0 a0 a1 a2 a3 a4 a5 a6 a7 a8 a9 a10 a11 a12 a13 a14)) bitsLt_bf16_f32
theorem r1_eq : r1 a0 a1 a2 a3 a4 a5 a6 a7 a8 a9 a10 a11 a12 a13 a14 a15 a16 a17 = (fun j : S4x4096x1024.Idx => (arrs a0 a1 a2 a3 a4 a5 a6 a7 a8 a9 a10 a11 a12 a13 a14 a15 a16 a17).h2 (j 0) (j 1) (j 2)) := by
  funext j
  obtain ⟨b, p, y, rfl⟩ : ∃ (b : Fin 4) (p : Fin 4096) (y : Fin 1024), j = (ix3 b p y : S4x4096x1024.Idx) := ⟨j 0, j 1, j 2, eq_ix3 j⟩
  refine (narrow _ _).trans ((nE_at ..).trans ?_)
  unfold Arr.h2
  exact congrArg (fun f => rnorm f (fun z => a15 (ix1 z)) (fun z => a17 (ix3 b 0 z)) (fun z => a16 (ix3 b 0 z)) y) (funext fun z => r0_at ..)

end

/-! ## What the run leaves -/

variable (m : (ℓ : Loc nD τ sig) → Buf (Elt Ideal) ℓ) (c : Dev nD)

/-- The reference's arrays. -/
abbrev A : Arr := arrs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

/-- Result 0 is what the run leaves. -/
abbrev g0 : FVec Ideal S4x4096x1024 .f32 := r0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
theorem fin0 : g0 m c = (fun j : S4x4096x1024.Idx => (A m c).x1 (j 0) (j 1) (j 2)) := r0_eq ..

theorem fin1 : Value.res_main_v62 m c = (fun j : S4x4096x1024.Idx => (A m c).h2 (j 0) (j 1) (j 2)) :=
  Eq.trans (by unfold Value.res_main_v62; rfl) (r1_eq ..)

end Cert.MixRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Kern.Points
public import proofs.«01_k».proof.Proof.Ref.Value
public import proofs.«01_k».proof.Proof.Kern2.Points
public import proofs.«01_k».proof.Proof.Ref2.Value
public import proofs.«01_k».proof.Proof.Kern3.Points
public import proofs.«01_k».proof.Proof.Ref3.Point
public import Idealize.ShloMosaic.Adequacy
public import Idealize.ShloMosaic.Init

@[expose] public section

noncomputable section

namespace Cert.Proof

open Idealize.ShloMosaic Idealize.SL.Sem

/-- The kernel's frame, at the machine's numbers: the generated run. -/
theorem frame_kernel : Cert.quiescent_Kernel := fun m ρ _ => Cert.Kernel.Gen.frame (F := Bits) m ρ

/-- The idealized kernel's frame: the generated run. -/
theorem frame_kernelIdeal : Cert.quiescent_KernelIdeal := fun m ρ _ => Cert.KernelIdeal.Gen.frame (F := Ideal) m ρ

/-- The reference's frame: the arguments by its run, the counters because it declares no semaphore. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The kernel's and the reference's arguments are the same arrays, whenever the memories agree on them. -/
theorem arrs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.RefTrips.A m' c = Cert.Chunk.arrs m c := by
  obtain ⟨h0, h1, h2, h3, h4, h5⟩ := h
  unfold Cert.RefTrips.A
  rw [h0, h1, h2, h3, h4, h5]
  rfl

/-- The value claim: both runs end with the attention's outputs and last states, of the same arrays. -/
theorem algebraic : Cert.algebraic_KernelIdeal_ReferenceIdeal := by
  intro m g m' g' _ h
  refine ⟨fun c => (fun j : Cert.KernelIdeal.S4x4096x1024.Idx => (Cert.Chunk.arrs m c).res 0 (j 0) (j 1) (j 2)),
    fun c => (fun j : Cert.KernelIdeal.S4x4096x1024.Idx => (Cert.Chunk.arrs m c).res 1 (j 0) (j 1) (j 2)),
    fun c => (fun j : Cert.KernelIdeal.S4x4x128x256.Idx => (Cert.Chunk.arrs m c).st 0 (j 0) (j 1) 64 (j 2) (j 3)),
    fun c => (fun j : Cert.KernelIdeal.S4x4x128x256.Idx => (Cert.Chunk.arrs m c).st 1 (j 0) (j 1) 64 (j 2) (j 3)),
    (θ_run Cert.KernelIdeal.defs _ _).mono (fun r hr c => ?_) (Cert.KernelIdeal.Value.run_blocks (F := Ideal) m g),
    (θ_run Cert.ReferenceIdeal.defs _ _).mono (fun r hr c => ?_) (Cert.RefTrips.run (F := Ideal) m' g')⟩
  · exact ⟨(hr c).1.trans (Cert.Chunk.final10 m c), (hr c).2.1.trans (Cert.Chunk.final11 m c),
      (hr c).2.2.1.trans (Cert.Chunk.final12 m c), (hr c).2.2.2.1.trans (Cert.Chunk.final13 m c), (hr c).2.2.2.2⟩
  · have e := arrs_eq m m' c (h c)
    refine ⟨(hr c).1.trans ((Cert.RefTrips.R27 m' c).trans ?_), (hr c).2.1.trans ((Cert.RefTrips.R29 m' c).trans ?_),
      (hr c).2.2.1.trans ((Cert.RefTrips.R30 m' c).trans ?_), (hr c).2.2.2.1.trans ((Cert.RefTrips.R31 m' c).trans ?_), (hr c).2.2.2.2⟩
    all_goals rw [e]

/-! ## The projection in front of the attention -/

/-- The projection's frame, at the machine's numbers: the generated run. -/
theorem frame_kernel2 : Cert.quiescent_Kernel2 := fun m ρ _ => Cert.Kernel2.Gen.frame (F := Bits) m ρ

/-- The idealized projection's frame: the generated run. -/
theorem frame_kernel2Ideal : Cert.quiescent_Kernel2Ideal := fun m ρ _ => Cert.Kernel2Ideal.Gen.frame (F := Ideal) m ρ

/-- Its reference's frame: the arguments by its run, the counters because it declares no semaphore. -/
theorem frame_reference2Ideal : Cert.quiescent_Reference2Ideal := fun m ρ _ =>
  (θ_run Cert.Reference2Ideal.defs _ _).mono (fun r h => ⟨fun c => (h c).2.2.2.2.2.2.2.2.2, sem_eq_zero_of_no_sems (by decide) r.2⟩)
    (Cert.Reference2Ideal.Value.run (F := Ideal) m ρ)

/-- The projection's and its reference's arguments are the same arrays, whenever the memories agree on them. -/
theorem arrs2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    Cert.ProjRef.A m' c = Cert.Proj.arrs m c := by
  obtain ⟨h0, h1, h2, h3, h4, h5, h6, h7, h8⟩ := h
  unfold Cert.ProjRef.A
  rw [h0, h1, h2, h3, h4, h5, h6, h7, h8]
  rfl

/-- The projection's value claim: both runs end with the nine results of the projection, of the same arrays. -/
theorem algebraic2 : Cert.algebraic_Kernel2Ideal_Reference2Ideal := by
  intro m g m' g' _ h
  refine ⟨fun c => (fun j : Cert.Kernel2Ideal.S4x4096x1024.Idx => (Cert.Proj.arrs m c).gu (j 0) (j 1) (j 2)),
    fun c => (fun j : Cert.Kernel2Ideal.S4x4096x1024.Idx => (Cert.Proj.arrs m c).vn (j 0) (j 1) (j 2)),
    fun c => (fun j : Cert.Kernel2Ideal.S4x4096x1024.Idx => (Cert.Proj.arrs m c).v (j 0) (j 1) (j 2)),
    fun c => (fun j : Cert.Kernel2Ideal.S4x4096x1024.Idx => (Cert.Proj.arrs m c).rs (j 0) (j 1) (j 2)),
    fun c => (fun j : Cert.Kernel2Ideal.S4x4096x1024.Idx => (Cert.Proj.arrs m c).ga (j 0) (j 1) (j 2)),
    fun c => (fun j : Cert.Kernel2Ideal.S4x4096x1024.Idx => (Cert.Proj.arrs m c).gb (j 0) (j 1) (j 2)),
    fun c => (fun j : Cert.Kernel2Ideal.S4x4096x512.Idx => (Cert.Proj.arrs m c).q (j 0) (j 1) (j 2)),
    fun c => (fun j : Cert.Kernel2Ideal.S4x4096x512.Idx => (Cert.Proj.arrs m c).k (j 0) (j 1) (j 2)),
    fun c => (fun j : Cert.Kernel2Ideal.S4x4096x1024.Idx => (Cert.Proj.arrs m c).las (j 0) (j 1) (j 2)),
    (θ_run Cert.Kernel2Ideal.defs _ _).mono (fun r hr c => ?_) (Cert.Kernel2Ideal.Value.run_blocks (F := Ideal) m g),
    (θ_run Cert.Reference2Ideal.defs _ _).mono (fun r hr c => ?_) (Cert.Reference2Ideal.Value.run (F := Ideal) m' g')⟩
  · exact ⟨(hr c).1.trans (Cert.Proj.final9 m c),
      (hr c).2.1.trans (Cert.Proj.final10 m c),
      (hr c).2.2.1.trans (Cert.Proj.final11 m c),
      (hr c).2.2.2.1.trans (Cert.Proj.final12 m c),
      (hr c).2.2.2.2.1.trans (Cert.Proj.final13 m c),
      (hr c).2.2.2.2.2.1.trans (Cert.Proj.final14 m c),
      (hr c).2.2.2.2.2.2.1.trans (Cert.Proj.final15 m c),
      (hr c).2.2.2.2.2.2.2.1.trans (Cert.Proj.final16 m c),
      (hr c).2.2.2.2.2.2.2.2.1.trans (Cert.Proj.final17 m c), (hr c).2.2.2.2.2.2.2.2.2⟩
  · have e := arrs2_eq m m' c (h c)
    refine ⟨(hr c).1.trans (Eq.trans (Cert.ProjRef.fin0 m' c) ?_),
      (hr c).2.1.trans (Eq.trans (Cert.ProjRef.out1_eq m' c) ?_),
      (hr c).2.2.1.trans (Eq.trans (Cert.ProjRef.fin2 m' c) ?_),
      (hr c).2.2.2.1.trans (Eq.trans (Cert.ProjRef.fin3 m' c) ?_),
      (hr c).2.2.2.2.1.trans (Eq.trans (Cert.ProjRef.fin4 m' c) ?_),
      (hr c).2.2.2.2.2.1.trans (Eq.trans (Cert.ProjRef.fin5 m' c) ?_),
      (hr c).2.2.2.2.2.2.1.trans (Eq.trans (Cert.ProjRef.fin6 m' c) ?_),
      (hr c).2.2.2.2.2.2.2.1.trans (Eq.trans (Cert.ProjRef.fin7 m' c) ?_),
      (hr c).2.2.2.2.2.2.2.2.1.trans (Eq.trans (Cert.ProjRef.out8_eq m' c) ?_), (hr c).2.2.2.2.2.2.2.2.2⟩
    all_goals rw [e]

/-! ## The mixing behind the attention -/

/-- The mixing's frame, at the machine's numbers: the generated run. -/
theorem frame_kernel3 : Cert.quiescent_Kernel3 := fun m ρ _ => Cert.Kernel3.Gen.frame (F := Bits) m ρ

/-- The idealized mixing's frame: the generated run. -/
theorem frame_kernel3Ideal : Cert.quiescent_Kernel3Ideal := fun m ρ _ => Cert.Kernel3Ideal.Gen.frame (F := Ideal) m ρ

/-- Its reference's frame: the arguments by its run, the counters because it declares no semaphore. -/
theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The mixing's and its reference's arguments are the same arrays, whenever the memories agree on them. -/
theorem arrs3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) :
    Cert.MixRef.A m' c = Cert.Mix.arrs m c := by
  obtain ⟨h0, h1, h2, h3, h4, h5, h6, h7, h8, h9, h10, h11, h12, h13, h14, h15, h16, h17⟩ := h
  unfold Cert.MixRef.A
  rw [h0, h1, h2, h3, h4, h5, h6, h7, h8, h9, h10, h11, h12, h13, h14, h15, h16, h17]
  rfl

/-- The mixing's value claim: both runs end with the two results of the mixing, of the same arrays. -/
theorem algebraic3 : Cert.algebraic_Kernel3Ideal_Reference3Ideal := by
  intro m g m' g' _ h
  refine ⟨fun c => (fun j : Cert.Kernel3Ideal.S4x4096x1024.Idx => (Cert.Mix.arrs m c).x1 (j 0) (j 1) (j 2)),
    fun c => (fun j : Cert.Kernel3Ideal.S4x4096x1024.Idx => (Cert.Mix.arrs m c).h2 (j 0) (j 1) (j 2)),
    (θ_run Cert.Kernel3Ideal.defs _ _).mono (fun r hr c => ?_) (Cert.Kernel3Ideal.Value.run_blocks (F := Ideal) m g),
    (θ_run Cert.Reference3Ideal.defs _ _).mono (fun r hr c => ?_) (Cert.Reference3Ideal.Value.run (F := Ideal) m' g')⟩
  · exact ⟨(hr c).1.trans (Cert.Mix.final18 m c), (hr c).2.1.trans (Cert.Mix.final19 m c), (hr c).2.2⟩
  · have e := arrs3_eq m m' c (h c)
    refine ⟨(hr c).1.trans (Eq.trans (Cert.MixRef.fin0 m' c) ?_),
      (hr c).2.1.trans (Eq.trans (Cert.MixRef.fin1 m' c) ?_), (hr c).2.2⟩
    all_goals rw [e]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernelIdeal, frame_referenceIdeal, frame_kernel2, frame_kernel2Ideal, frame_reference2Ideal,
  frame_kernel3, frame_kernel3Ideal, frame_reference3Ideal,
  trivial, algebraic, trivial, algebraic2, trivial, algebraic3⟩

end Cert.Proof

end
